-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "softmax_exp2_scale" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v279) = v0 c
          ∧ r.2.mem ((c.tc : Thread Cert.Reference6Ideal.nD Cert.Reference6Ideal.τ).loc Cert.Reference6Ideal.main_v284) = v1 c
          ∧ r.2.mem ((c.tc : Thread Cert.Reference6Ideal.nD Cert.Reference6Ideal.τ).loc Cert.Reference6Ideal.main_v283) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S32768x3072 : Shape := ⟨2, ![32768, 3072]⟩
abbrev S128x1024 : Shape := ⟨2, ![128, 1024]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)
  reducesTo_S32768x3072_S_d0_1 : S32768x3072.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S32768x3072 .bf16) (main_arg1 : FVec F S128x1024 .f32) : IVec S_ 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_c : IVec S_ 1 := constantI S_ 1 1#1
  let main_v4 : IVec S_ 1 := (fun x v => Host.reduce IntOp.andi x v reducesTo_S32768x3072_S_d0_1 h_S_) main_v3 main_c
  let main_v5 : FVec F S128x1024 .f32 := Host.absf main_arg1
  let main_cst_0 : FVec F S_ .f32 := constant S_ .f32 0x7F800000#32
  let main_v6 : FVec F S128x1024 .f32 := broadcastInDim S128x1024 ![] bcast_S_S128x1024 main_cst_0
  let main_v7 : IVec S128x1024 1 := cmpf .olt main_v5 main_v6
  let main_c_1 : IVec S_ 1 := constantI S_ 1 1#1
  let main_v8 : IVec S_ 1 := (fun x v => Host.reduce IntOp.andi x v reducesTo_S128x1024_S_d0_1 h_S_) main_v7 main_c_1
  let main_v9 : IVec S_ 1 := andi main_v4 main_v8
  main_v9
-- ==== Kernel.lean ====
abbrev S32768x3072 : Shape := ⟨2, ![32768, 3072]⟩
abbrev S128x1024 : Shape := ⟨2, ![128, 1024]⟩
abbrev S32768x1024 : Shape := ⟨2, ![32768, 1024]⟩
abbrev S2048x512 : Shape := ⟨2, ![2048, 512]⟩
abbrev S8x512 : Shape := ⟨2, ![8, 512]⟩
abbrev S4x2048x256 : Shape := ⟨3, ![4, 2048, 256]⟩
abbrev S2048x128 : Shape := ⟨2, ![2048, 128]⟩
abbrev S1x2048x128 : Shape := ⟨3, ![1, 2048, 128]⟩
abbrev S8x256 : Shape := ⟨2, ![8, 256]⟩
abbrev S256x256 : Shape := ⟨2, ![256, 256]⟩
abbrev S256x128 : Shape := ⟨2, ![256, 128]⟩
abbrev S120x256 : Shape := ⟨2, ![120, 256]⟩
abbrev S128x256 : Shape := ⟨2, ![128, 256]⟩
abbrev S1x2048x256 : Shape := ⟨3, ![1, 2048, 256]⟩
abbrev S2048x256 : Shape := ⟨2, ![2048, 256]⟩
abbrev S256 : Shape := ⟨1, ![256]⟩
abbrev S256x1 : Shape := ⟨2, ![256, 1]⟩
abbrev S512x256 : Shape := ⟨2, ![512, 256]⟩
abbrev S256x512 : Shape := ⟨2, ![256, 512]⟩
abbrev S768x256 : Shape := ⟨2, ![768, 256]⟩
abbrev S256x768 : Shape := ⟨2, ![256, 768]⟩
abbrev S1024x256 : Shape := ⟨2, ![1024, 256]⟩
abbrev S256x1024 : Shape := ⟨2, ![256, 1024]⟩
abbrev S8x128 : Shape := ⟨2, ![8, 128]⟩
abbrev S1x256 : Shape := ⟨2, ![1, 256]⟩
abbrev S1280x256 : Shape := ⟨2, ![1280, 256]⟩
abbrev S256x1280 : Shape := ⟨2, ![256, 1280]⟩
abbrev S1536x256 : Shape := ⟨2, ![1536, 256]⟩
abbrev S256x1536 : Shape := ⟨2, ![256, 1536]⟩
abbrev S1792x256 : Shape := ⟨2, ![1792, 256]⟩
abbrev S256x1792 : Shape := ⟨2, ![256, 1792]⟩
abbrev S256x2048 : Shape := ⟨2, ![256, 2048]⟩

abbrev nBuf : Space → Nat
  | .hbm => 3
  | .vmem => 12
  | .smem => 0
  | _ => 0

abbrev bufTy : (tb : Table) → Fin (tcTables nBuf tb) → BufTy
  | .hbm, ⟨0, _⟩ => ⟨S32768x3072, .bf16⟩
  | .hbm, ⟨1, _⟩ => ⟨S128x1024, .f32⟩
  | .hbm, ⟨2, _⟩ => ⟨S32768x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x512, .f32⟩
  | .local _ .vmem, ⟨7, _⟩ => ⟨S8x512, .f32⟩
  | .local _ .vmem, ⟨8, _⟩ => ⟨S2048x512, .bf16⟩
  | .local _ .vmem, ⟨9, _⟩ => ⟨S2048x512, .bf16⟩
  | .local _ .vmem, ⟨10, _⟩ => ⟨S4x2048x256, .bf16⟩
  | .local _ .vmem, ⟨11, _⟩ => ⟨S4x2048x256, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "softmax_exp2_scale" => some (((11863283 / 134217728) * (Real.log 2)⁻¹ : ℝ) : EReal)
  | _ => none
-- ==== ReferenceIdeal.lean ====
abbrev S32768x3072 : Shape := ⟨2, ![32768, 3072]⟩
abbrev S128x1024 : Shape := ⟨2, ![128, 1024]⟩
abbrev S16x2048x3x8x128 : Shape := ⟨5, ![16, 2048, 3, 8, 128]⟩
abbrev S16x2048x1x8x128 : Shape := ⟨5, ![16, 2048, 1, 8, 128]⟩
abbrev S16x2048x8x128 : Shape := ⟨4, ![16, 2048, 8, 128]⟩
abbrev S16x8x2048x128 : Shape := ⟨4, ![16, 8, 2048, 128]⟩
abbrev S16x8x8x256x128 : Shape := ⟨5, ![16, 8, 8, 256, 128]⟩
abbrev S16x8x8x128 : Shape := ⟨4, ![16, 8, 8, 128]⟩
abbrev S16x8x2048x8 : Shape := ⟨4, ![16, 8, 2048, 8]⟩
abbrev S2048 : Shape := ⟨1, ![2048]⟩
abbrev S_ : Shape := ⟨0, ![]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S16x8x2048x3 : Shape := ⟨4, ![16, 8, 2048, 3]⟩
abbrev S16 : Shape := ⟨1, ![16]⟩
abbrev S16x1x1x1 : Shape := ⟨4, ![16, 1, 1, 1]⟩
abbrev S1x8x1x1 : Shape := ⟨4, ![1, 8, 1, 1]⟩
abbrev S16x8x2048x3x1 : Shape := ⟨5, ![16, 8, 2048, 3, 1]⟩
abbrev S16x8x2048x3x3 : Shape := ⟨5, ![16, 8, 2048, 3, 3]⟩
abbrev S16x8x2048x3x256x128 : Shape := ⟨6, ![16, 8, 2048, 3, 256, 128]⟩
abbrev S16x8x2048x3x256 : Shape := ⟨5, ![16, 8, 2048, 3, 256]⟩
abbrev S16x8x2048x768 : Shape := ⟨4, ![16, 8, 2048, 768]⟩
abbrev S16x8x8x256x256 : Shape := ⟨5, ![16, 8, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S16x8x2048x256 : Shape := ⟨4, ![16, 8, 2048, 256]⟩
abbrev S16x8x2048x1024 : Shape := ⟨4, ![16, 8, 2048, 1024]⟩
abbrev S16x8x2048 : Shape := ⟨3, ![16, 8, 2048]⟩
abbrev S16x8x2048x1 : Shape := ⟨4, ![16, 8, 2048, 1]⟩
abbrev S32768x1024 : Shape := ⟨2, ![32768, 1024]⟩

abbrev nBuf : Space → Nat
  | .hbm => 169
  | .vmem => 0
  | .smem => 0
  | _ => 0

abbrev hbmTy0_0 (i : Nat) : BufTy := match i % 128 with
  | 0 => ⟨S32768x3072, .bf16⟩
  | 1 => ⟨S128x1024, .f32⟩
  | 2 => ⟨S32768x3072, .f32⟩
  | 3 => ⟨S16x2048x3x8x128, .f32⟩
  | 4 => ⟨S16x2048x1x8x128, .f32⟩
  | 5 => ⟨S16x2048x8x128, .f32⟩
  | 6 => ⟨S16x8x2048x128, .f32⟩
  | 7 => ⟨S16x2048x1x8x128, .f32⟩
  | 8 => ⟨S16x2048x8x128, .f32⟩
  | 9 => ⟨S16x8x2048x128, .f32⟩
  | 10 => ⟨S16x2048x1x8x128, .f32⟩
  | 11 => ⟨S16x2048x8x128, .f32⟩
  | 12 => ⟨S16x8x2048x128, .f32⟩
  | 13 => ⟨S16x8x8x256x128, .f32⟩
  | 14 => ⟨S16x8x8x256x128, .f32⟩
  | 15 => ⟨S16x8x8x128, .f32⟩
  | 16 => ⟨S16x8x8x128, .f32⟩
  | 17 => ⟨S16x8x2048x8, .f32⟩
  | 18 => ⟨S2048, .i32⟩
  | 19 => ⟨S_, .i32⟩
  | 20 => ⟨S_, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i1⟩
  | 27 => ⟨S2048, .i32⟩
  | 28 => ⟨S2048, .i32⟩
  | 29 => ⟨S_, .i32⟩
  | 30 => ⟨S2048, .i32⟩
  | 31 => ⟨S2048, .i1⟩
  | 32 => ⟨S2048, .i1⟩
  | 33 => ⟨S_, .i32⟩
  | 34 => ⟨S2048, .i32⟩
  | 35 => ⟨S2048, .i32⟩
  | 36 => ⟨S2048, .i32⟩
  | 37 => ⟨S8, .i32⟩
  | 38 => ⟨S1x8, .i32⟩
  | 39 => ⟨S2048x1, .i32⟩
  | 40 => ⟨S2048x8, .i32⟩
  | 41 => ⟨S2048x8, .i32⟩
  | 42 => ⟨S2048x8, .i1⟩
  | 43 => ⟨S_, .f32⟩
  | 44 => ⟨S_, .f32⟩
  | 45 => ⟨S16x8x2048x8, .i1⟩
  | 46 => ⟨S16x8x2048x8, .f32⟩
  | 47 => ⟨S16x8x2048x8, .f32⟩
  | 48 => ⟨S16x8x2048x3, .f32⟩
  | 49 => ⟨S16x8x2048x3, .i32⟩
  | 50 => ⟨S16x8x2048x3, .f32⟩
  | 51 => ⟨S_, .f32⟩
  | 52 => ⟨S16x8x2048x3, .f32⟩
  | 53 => ⟨S16x8x2048x3, .i1⟩
  | 54 => ⟨S16, .i32⟩
  | 55 => ⟨S16x1x1x1, .i32⟩
  | 56 => ⟨S8, .i32⟩
  | 57 => ⟨S1x8x1x1, .i32⟩
  | 58 => ⟨S_, .i32⟩
  | 59 => ⟨S16x1x1x1, .i32⟩
  | 60 => ⟨S16x1x1x1, .i1⟩
  | 61 => ⟨S_, .i32⟩
  | 62 => ⟨S16x1x1x1, .i32⟩
  | 63 => ⟨S16x1x1x1, .i32⟩
  | 64 => ⟨S16x1x1x1, .i32⟩
  | 65 => ⟨S_, .i32⟩
  | 66 => ⟨S1x8x1x1, .i32⟩
  | 67 => ⟨S1x8x1x1, .i1⟩
  | 68 => ⟨S_, .i32⟩
  | 69 => ⟨S1x8x1x1, .i32⟩
  | 70 => ⟨S1x8x1x1, .i32⟩
  | 71 => ⟨S1x8x1x1, .i32⟩
  | 72 => ⟨S_, .i32⟩
  | 73 => ⟨S16x8x2048x3, .i32⟩
  | 74 => ⟨S16x8x2048x3, .i1⟩
  | 75 => ⟨S_, .i32⟩
  | 76 => ⟨S16x8x2048x3, .i32⟩
  | 77 => ⟨S16x8x2048x3, .i32⟩
  | 78 => ⟨S16x8x2048x3, .i32⟩
  | 79 => ⟨S16x8x2048x3, .i32⟩
  | 80 => ⟨S16x8x2048x3, .i32⟩
  | 81 => ⟨S16x8x2048x3x1, .i32⟩
  | 82 => ⟨S16x8x2048x3x1, .i32⟩
  | 83 => ⟨S16x8x2048x3x1, .i32⟩
  | 84 => ⟨S16x8x2048x3x3, .i32⟩
  | 85 => ⟨S16x8x2048x3x256x128, .f32⟩
  | 86 => ⟨S_, .i32⟩
  | 87 => ⟨S16x1x1x1, .i32⟩
  | 88 => ⟨S16x1x1x1, .i1⟩
  | 89 => ⟨S_, .i32⟩
  | 90 => ⟨S16x1x1x1, .i32⟩
  | 91 => ⟨S16x1x1x1, .i32⟩
  | 92 => ⟨S16x1x1x1, .i32⟩
  | 93 => ⟨S_, .i32⟩
  | 94 => ⟨S1x8x1x1, .i32⟩
  | 95 => ⟨S1x8x1x1, .i1⟩
  | 96 => ⟨S_, .i32⟩
  | 97 => ⟨S1x8x1x1, .i32⟩
  | 98 => ⟨S1x8x1x1, .i32⟩
  | 99 => ⟨S1x8x1x1, .i32⟩
  | 100 => ⟨S_, .i32⟩
  | 101 => ⟨S16x8x2048x3, .i32⟩
  | 102 => ⟨S16x8x2048x3, .i1⟩
  | 103 => ⟨S_, .i32⟩
  | 104 => ⟨S16x8x2048x3, .i32⟩
  | 105 => ⟨S16x8x2048x3, .i32⟩
  | 106 => ⟨S16x8x2048x3, .i32⟩
  | 107 => ⟨S16x8x2048x3, .i32⟩
  | 108 => ⟨S16x8x2048x3, .i32⟩
  | 109 => ⟨S16x8x2048x3x1, .i32⟩
  | 110 => ⟨S16x8x2048x3x1, .i32⟩
  | 111 => ⟨S16x8x2048x3x1, .i32⟩
  | 112 => ⟨S16x8x2048x3x3, .i32⟩
  | 113 => ⟨S16x8x2048x3x256x128, .f32⟩
  | 114 => ⟨S16x8x2048x3x256, .f32⟩
  | 115 => ⟨S_, .f32⟩
  | 116 => ⟨S16x8x2048x3x256, .f32⟩
  | 117 => ⟨S16x8x2048x3x256, .f32⟩
  | 118 => ⟨S16x8x2048x3x1, .i1⟩
  | 119 => ⟨S_, .f32⟩
  | 120 => ⟨S_, .f32⟩
  | 121 => ⟨S16x8x2048x3x256, .i1⟩
  | 122 => ⟨S16x8x2048x3x256, .f32⟩
  | 123 => ⟨S16x8x2048x3x256, .f32⟩
  | 124 => ⟨S16x8x2048x768, .f32⟩
  | 125 => ⟨S16x8x8x256x128, .f32⟩
  | 126 => ⟨S16x8x8x256x256, .f32⟩
  | 127 => ⟨S_, .f32⟩
  | _ => ⟨S32768x3072, .bf16⟩

abbrev hbmTy0_1 (i : Nat) : BufTy := match i % 128 with
  | 0 => ⟨S16x8x8x256x256, .f32⟩
  | 1 => ⟨S16x8x8x256x256, .f32⟩
  | 2 => ⟨S256, .i32⟩
  | 3 => ⟨S1x256, .i32⟩
  | 4 => ⟨S256, .i32⟩
  | 5 => ⟨S256x1, .i32⟩
  | 6 => ⟨S256x256, .i32⟩
  | 7 => ⟨S256x256, .i32⟩
  | 8 => ⟨S256x256, .i1⟩
  | 9 => ⟨S_, .f32⟩
  | 10 => ⟨S_, .f32⟩
  | 11 => ⟨S16x8x8x256x256, .i1⟩
  | 12 => ⟨S16x8x8x256x256, .f32⟩
  | 13 => ⟨S16x8x8x256x256, .f32⟩
  | 14 => ⟨S16x8x2048x256, .f32⟩
  | 15 => ⟨S16x8x2048x1024, .f32⟩
  | 16 => ⟨S_, .f32⟩
  | 17 => ⟨S16x8x2048, .f32⟩
  | 18 => ⟨S_, .f32⟩
  | 19 => ⟨S16x8x2048, .f32⟩
  | 20 => ⟨S16x8x2048, .f32⟩
  | 21 => ⟨S16x8x2048x1, .f32⟩
  | 22 => ⟨S16x8x2048x1024, .f32⟩
  | 23 => ⟨S16x8x2048x1024, .f32⟩
  | 24 => ⟨S16x8x2048x1024, .f32⟩
  | 25 => ⟨S_, .f32⟩
  | 26 => ⟨S16x8x2048, .f32⟩
  | 27 => ⟨S16x8x2048x1, .f32⟩
  | 28 => ⟨S16x8x2048x1024, .f32⟩
  | 29 => ⟨S16x8x2048x1024, .f32⟩
  | 30 => ⟨S16x8x2048x768, .f32⟩
  | 31 => ⟨S16x8x2048x3x256, .f32⟩
  | 32 => ⟨S16x8x2048x256, .f32⟩
  | 33 => ⟨S16x8x8x256x256, .f32⟩
  | 34 => ⟨S16x8x2048x128, .f32⟩
  | 35 => ⟨S16x8x8x256x128, .f32⟩
  | 36 => ⟨S16x8x2048x128, .f32⟩
  | 37 => ⟨S16x8x2048x128, .f32⟩
  | 38 => ⟨S16x2048x8x128, .f32⟩
  | 39 => ⟨S32768x1024, .f32⟩
  | 40 => ⟨S32768x1024, .bf16⟩
  | _ => ⟨S32768x3072, .bf16⟩

abbrev hbmTy (i : Nat) : BufTy := match i / 128 with
  | 0 => hbmTy0_0 i
  | 1 => hbmTy0_1 i
  | _ => ⟨S32768x3072, .bf16⟩

abbrev bufTy : (tb : Table) → Fin (tcTables nBuf tb) → BufTy
  | .hbm, ⟨i, _⟩ => hbmTy i
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_values : Ref sig .tc := ⟨.hbm, 48, rfl⟩
abbrev main_indices : Ref sig .tc := ⟨.hbm, 49, rfl⟩
abbrev main_v25 : Ref sig .tc := ⟨.hbm, 50, rfl⟩
abbrev main_cst_0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_1 : Ref sig .tc := ⟨.hbm, 58, rfl⟩
abbrev main_v32 : Ref sig .tc := ⟨.hbm, 59, rfl⟩
abbrev main_v33 : Ref sig .tc := ⟨.hbm, 60, rfl⟩
abbrev main_c_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_3 : Ref sig .tc := ⟨.hbm, 65, rfl⟩
abbrev main_v37 : Ref sig .tc := ⟨.hbm, 66, rfl⟩
abbrev main_v38 : Ref sig .tc := ⟨.hbm, 67, rfl⟩
abbrev main_c_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_5 : Ref sig .tc := ⟨.hbm, 72, rfl⟩
abbrev main_v42 : Ref sig .tc := ⟨.hbm, 73, rfl⟩
abbrev main_v43 : Ref sig .tc := ⟨.hbm, 74, rfl⟩
abbrev main_c_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_7 : Ref sig .tc := ⟨.hbm, 86, rfl⟩
abbrev main_v54 : Ref sig .tc := ⟨.hbm, 87, rfl⟩
abbrev main_v55 : Ref sig .tc := ⟨.hbm, 88, rfl⟩
abbrev main_c_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_9 : Ref sig .tc := ⟨.hbm, 93, rfl⟩
abbrev main_v59 : Ref sig .tc := ⟨.hbm, 94, rfl⟩
abbrev main_v60 : Ref sig .tc := ⟨.hbm, 95, rfl⟩
abbrev main_c_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_11 : Ref sig .tc := ⟨.hbm, 100, rfl⟩
abbrev main_v64 : Ref sig .tc := ⟨.hbm, 101, rfl⟩
abbrev main_v65 : Ref sig .tc := ⟨.hbm, 102, rfl⟩
abbrev main_c_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_13 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_14 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_15 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_16 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_17 : Ref sig .tc := ⟨.hbm, 144, rfl⟩
abbrev main_v96 : Ref sig .tc := ⟨.hbm, 145, rfl⟩
abbrev main_cst_18 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_19 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩

abbrev nD : Nat := 1
abbrev τ : Topo := Topo.v7x

variable {F : FTy → Type} [FloatOps F]
-- ==== Kernel2.lean ====
abbrev S32768x1024 : Shape := ⟨2, ![32768, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1024 : Shape := ⟨1, ![1024]⟩
abbrev S1x1x1024 : Shape := ⟨3, ![1, 1, 1024]⟩
abbrev S1024x1024 : Shape := ⟨2, ![1024, 1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 18
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S2x2x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S32768x1024, .bf16⟩
  | .hbm, ⟨6, _⟩ => ⟨S1x1024x1024, .f32⟩
  | .hbm, ⟨7, _⟩ => ⟨S1024, .f32⟩
  | .hbm, ⟨8, _⟩ => ⟨S2x2x1024x2816, .bf16⟩
  | .hbm, ⟨9, _⟩ => ⟨S2x2x1024x2816, .bf16⟩
  | .hbm, ⟨10, _⟩ => ⟨S2x2x2816x1024, .bf16⟩
  | .hbm, ⟨11, _⟩ => ⟨S1x1x1024, .f32⟩
  | .hbm, ⟨12, _⟩ => ⟨S1024, .f32⟩
  | .hbm, ⟨13, _⟩ => ⟨S1024x1024, .f32⟩
  | .hbm, ⟨14, _⟩ => ⟨S1x1024, .f32⟩
  | .hbm, ⟨15, _⟩ => ⟨S1024x1024, .bf16⟩
  | .hbm, ⟨16, _⟩ => ⟨S1x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S32768x2816 : Shape := ⟨2, ![32768, 2816]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x2x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S32768x1024, .bf16⟩
  | .hbm, ⟨6, _⟩ => ⟨S1x1024x1024, .f32⟩
  | .hbm, ⟨7, _⟩ => ⟨S1024, .f32⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S32768x1024, .f32⟩
  | .hbm, ⟨12, _⟩ => ⟨S1x1x1024, .f32⟩
  | .hbm, ⟨13, _⟩ => ⟨S1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S1x1x1024x2816, .f32⟩
  | .hbm, ⟨31, _⟩ => ⟨S1024x2816, .f32⟩
  | .hbm, ⟨32, _⟩ => ⟨S1x1x1024x2816, .f32⟩
  | .hbm, ⟨33, _⟩ => ⟨S1024x2816, .f32⟩
  | .hbm, ⟨34, _⟩ => ⟨S1x1x2816x1024, .f32⟩
  | .hbm, ⟨35, _⟩ => ⟨S2816x1024, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S_, .f32⟩
  | .hbm, ⟨40, _⟩ => ⟨S32768x2816, .f32⟩
  | .hbm, ⟨41, _⟩ => ⟨S32768x2816, .f32⟩
  | .hbm, ⟨42, _⟩ => ⟨S_, .f32⟩
  | .hbm, ⟨43, _⟩ => ⟨S32768x2816, .f32⟩
  | .hbm, ⟨44, _⟩ => ⟨S32768x2816, .f32⟩
  | .hbm, ⟨45, _⟩ => ⟨S32768x2816, .f32⟩
  | .hbm, ⟨46, _⟩ => ⟨S32768x2816, .f32⟩
  | .hbm, ⟨47, _⟩ => ⟨S32768x2816, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1, .f32⟩
  | .hbm, ⟨64, _⟩ => ⟨S32768x1024, .f32⟩
  | .hbm, ⟨65, _⟩ => ⟨S32768x1024, .f32⟩
  | .hbm, ⟨66, _⟩ => ⟨S1x1024, .f32⟩
  | .hbm, ⟨67, _⟩ => ⟨S32768x1024, .f32⟩
  | .hbm, ⟨68, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Kernel3.lean ====
abbrev S32768x1024 : Shape := ⟨2, ![32768, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S2x1024 : Shape := ⟨2, ![2, 1024]⟩
abbrev S1x1024x3072 : Shape := ⟨3, ![1, 1024, 3072]⟩
abbrev S1x1x1024 : Shape := ⟨3, ![1, 1, 1024]⟩
abbrev S1024 : Shape := ⟨1, ![1024]⟩
abbrev S1x1024 : Shape := ⟨2, ![1, 1024]⟩
abbrev S1024x3072 : Shape := ⟨2, ![1024, 3072]⟩
abbrev S32768x3072 : Shape := ⟨2, ![32768, 3072]⟩
abbrev S128x1x1024 : Shape := ⟨3, ![128, 1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512x3072 : Shape := ⟨2, ![512, 3072]⟩
abbrev S2x1x1024 : Shape := ⟨3, ![2, 1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 21
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S2x2x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S2x1024, .f32⟩
  | .hbm, ⟨6, _⟩ => ⟨S1x1024x3072, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1024x3072, .f32⟩
  | .hbm, ⟨15, _⟩ => ⟨S1x1024, .f32⟩
  | .hbm, ⟨16, _⟩ => ⟨S1x1024, .f32⟩
  | .hbm, ⟨17, _⟩ => ⟨S1024x3072, .bf16⟩
  | .hbm, ⟨18, _⟩ => ⟨S32768x1024, .f32⟩
  | .hbm, ⟨19, _⟩ => ⟨S32768x3072, .bf16⟩
  | .hbm, ⟨20, _⟩ => ⟨S128x1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S1x1024, .f32⟩
  | .local _ .vmem, ⟨7, _⟩ => ⟨S1024x3072, .bf16⟩
  | .local _ .vmem, ⟨8, _⟩ => ⟨S512x1024, .f32⟩
  | .local _ .vmem, ⟨9, _⟩ => ⟨S512x1024, .f32⟩
  | .local _ .vmem, ⟨10, _⟩ => ⟨S512x3072, .bf16⟩
  | .local _ .vmem, ⟨11, _⟩ => ⟨S512x3072, .bf16⟩
  | .local _ .vmem, ⟨12, _⟩ => ⟨S2x1x1024, .f32⟩
  | .local _ .vmem, ⟨13, _⟩ => ⟨S2x1x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S2x1024 : Shape := ⟨2, ![2, 1024]⟩
abbrev S1x1024x3072 : Shape := ⟨3, ![1, 1024, 3072]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S32768x2816 : Shape := ⟨2, ![32768, 2816]⟩
abbrev S1024x3072 : Shape := ⟨2, ![1024, 3072]⟩
abbrev S32768x3072 : Shape := ⟨2, ![32768, 3072]⟩
abbrev S128x256x1024 : Shape := ⟨3, ![128, 256, 1024]⟩
abbrev S128x1024 : Shape := ⟨2, ![128, 1024]⟩
abbrev S128x1x1024 : Shape := ⟨3, ![128, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x2x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S2x1024, .f32⟩
  | .hbm, ⟨6, _⟩ => ⟨S1x1024x3072, .f32⟩
  | .hbm, ⟨7, _⟩ => ⟨S1x1x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S_, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | .hbm, ⟨66, _⟩ => ⟨S1024x3072, .f32⟩
  | .hbm, ⟨67, _⟩ => ⟨S32768x3072, .f32⟩
  | .hbm, ⟨68, _⟩ => ⟨S32768x1024, .f32⟩
  | .hbm, ⟨69, _⟩ => ⟨S128x256x1024, .f32⟩
  | .hbm, ⟨70, _⟩ => ⟨S32768x3072, .bf16⟩
  | .hbm, ⟨71, _⟩ => ⟨S_, .f32⟩
  | .hbm, ⟨72, _⟩ => ⟨S128x1024, .f32⟩
  | .hbm, ⟨73, _⟩ => ⟨S128x1x1024, .f32⟩
  | .hbm, ⟨74, _⟩ => ⟨S_, .f32⟩
  | .hbm, ⟨75, _⟩ => ⟨S128x1x1024, .f32⟩
  | .hbm, ⟨76, _⟩ => ⟨S128x1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Kernel4.lean ====
abbrev S32768x1024 : Shape := ⟨2, ![32768, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S2x2x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S2x2x1024x2816, .bf16⟩
  | .hbm, ⟨6, _⟩ => ⟨S2x2x1024x2816, .bf16⟩
  | .hbm, ⟨7, _⟩ => ⟨S2x2x2816x1024, .bf16⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x1024 : Shape := ⟨2, ![32768, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S32768x2816 : Shape := ⟨2, ![32768, 2816]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x2x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1x1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1x1024x2816, .f32⟩
  | .hbm, ⟨24, _⟩ => ⟨S1024x2816, .f32⟩
  | .hbm, ⟨25, _⟩ => ⟨S1x1x1024x2816, .f32⟩
  | .hbm, ⟨26, _⟩ => ⟨S1024x2816, .f32⟩
  | .hbm, ⟨27, _⟩ => ⟨S1x1x2816x1024, .f32⟩
  | .hbm, ⟨28, _⟩ => ⟨S2816x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S4x128x32768 : Shape := ⟨3, ![4, 128, 32768]⟩
abbrev S1x512 : Shape := ⟨2, ![1, 512]⟩
abbrev S1x512x512 : Shape := ⟨3, ![1, 512, 512]⟩
abbrev S1x1024x1024 : Shape := ⟨3, ![1, 1024, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S512 : Shape := ⟨1, ![512]⟩
abbrev S512x512 : Shape := ⟨2, ![512, 512]⟩
abbrev S1024x1024 : Shape := ⟨2, ![1024, 1024]⟩
abbrev S1x1x1024 : Shape := ⟨3, ![1, 1, 1024]⟩
abbrev S1024 : Shape := ⟨1, ![1024]⟩
abbrev S512x1024 : Shape := ⟨2, ![512, 1024]⟩
abbrev S1x1024 : Shape := ⟨2, ![1, 1024]⟩
abbrev S4x32x2048 : Shape := ⟨3, ![4, 32, 2048]⟩
abbrev S1x1x1024x2816 : Shape := ⟨4, ![1, 1, 1024, 2816]⟩
abbrev S1x1x2816x1024 : Shape := ⟨4, ![1, 1, 2816, 1024]⟩
abbrev S4x512x128 : Shape := ⟨3, ![4, 512, 128]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 30
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S4x128x32768, .f32⟩
  | .hbm, ⟨3, _⟩ => ⟨S32768x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S1x1024x1024, .f32⟩
  | .hbm, ⟨8, _⟩ => ⟨S2x2x1024, .f32⟩
  | .hbm, ⟨9, _⟩ => ⟨S2x2x1024x2816, .f32⟩
  | .hbm, ⟨10, _⟩ => ⟨S2x2x1024x2816, .f32⟩
  | .hbm, ⟨11, _⟩ => ⟨S2x2x2816x1024, .f32⟩
  | .hbm, ⟨12, _⟩ => ⟨S2x2x1024x2816, .bf16⟩
  | .hbm, ⟨13, _⟩ => ⟨S2x2x1024x2816, .bf16⟩
  | .hbm, ⟨14, _⟩ => ⟨S2x2x2816x1024, .bf16⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S1024x1024, .f32⟩
  | .hbm, ⟨19, _⟩ => ⟨S1x1x1024, .f32⟩
  | .hbm, ⟨20, _⟩ => ⟨S1024, .f32⟩
  | .hbm, ⟨21, _⟩ => ⟨S1x512, .f32⟩
  | .hbm, ⟨22, _⟩ => ⟨S512x512, .bf16⟩
  | .hbm, ⟨23, _⟩ => ⟨S1x512, .f32⟩
  | .hbm, ⟨24, _⟩ => ⟨S512x1024, .f32⟩
  | .hbm, ⟨25, _⟩ => ⟨S512x1024, .bf16⟩
  | .hbm, ⟨26, _⟩ => ⟨S512x1024, .f32⟩
  | .hbm, ⟨27, _⟩ => ⟨S512x1024, .bf16⟩
  | .hbm, ⟨28, _⟩ => ⟨S1x1024, .f32⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S4x32x2048, .f32⟩
  | .local _ .vmem, ⟨5, _⟩ => ⟨S4x32x2048, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1x1024x2816, .bf16⟩
  | .local _ .vmem, ⟨15, _⟩ => ⟨S1x1x1024x2816, .bf16⟩
  | .local _ .vmem, ⟨16, _⟩ => ⟨S1x1x2816x1024, .bf16⟩
  | .local _ .vmem, ⟨17, _⟩ => ⟨S512x1024, .f32⟩
  | .local _ .vmem, ⟨18, _⟩ => ⟨S512x1024, .f32⟩
  | .local _ .vmem, ⟨19, _⟩ => ⟨S4x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S32768x1024 : Shape := ⟨2, ![32768, 1024]⟩
abbrev S32768x512 : Shape := ⟨2, ![32768, 512]⟩
abbrev S4x128x32768 : Shape := ⟨3, ![4, 128, 32768]⟩
abbrev S1x512 : Shape := ⟨2, ![1, 512]⟩
abbrev S1x512x512 : Shape := ⟨3, ![1, 512, 512]⟩
abbrev S1x1024x1024 : Shape := ⟨3, ![1, 1024, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S4x128x16x16x128 : Shape := ⟨5, ![4, 128, 16, 16, 128]⟩
abbrev S16x128x16x4x128 : Shape := ⟨5, ![16, 128, 16, 4, 128]⟩
abbrev S512 : Shape := ⟨1, ![512]⟩
abbrev S_ : Shape := ⟨0, ![]⟩
abbrev S512x512 : Shape := ⟨2, ![512, 512]⟩
abbrev S1024x1024 : Shape := ⟨2, ![1024, 1024]⟩
abbrev S1x1x1024 : Shape := ⟨3, ![1, 1, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S32768x2816 : Shape := ⟨2, ![32768, 2816]⟩

abbrev nBuf : Space → Nat
  | .hbm => 98
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S4x128x32768, .f32⟩
  | .hbm, ⟨3, _⟩ => ⟨S32768x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S1x1024x1024, .f32⟩
  | .hbm, ⟨8, _⟩ => ⟨S2x2x1024, .f32⟩
  | .hbm, ⟨9, _⟩ => ⟨S2x2x1024x2816, .f32⟩
  | .hbm, ⟨10, _⟩ => ⟨S2x2x1024x2816, .f32⟩
  | .hbm, ⟨11, _⟩ => ⟨S2x2x2816x1024, .f32⟩
  | .hbm, ⟨12, _⟩ => ⟨S4x128x16x16x128, .f32⟩
  | .hbm, ⟨13, _⟩ => ⟨S16x128x16x4x128, .f32⟩
  | .hbm, ⟨14, _⟩ => ⟨S32768x512, .f32⟩
  | .hbm, ⟨15, _⟩ => ⟨S512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S512x512, .f32⟩
  | .hbm, ⟨38, _⟩ => ⟨S32768x512, .f32⟩
  | .hbm, ⟨39, _⟩ => ⟨S512, .f32⟩
  | .hbm, ⟨40, _⟩ => ⟨S1x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S_, .f32⟩
  | .hbm, ⟨46, _⟩ => ⟨S32768x512, .f32⟩
  | .hbm, ⟨47, _⟩ => ⟨S32768x512, .f32⟩
  | .hbm, ⟨48, _⟩ => ⟨S_, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x1024, .f32⟩
  | .hbm, ⟨54, _⟩ => ⟨S1024x1024, .f32⟩
  | .hbm, ⟨55, _⟩ => ⟨S32768x1024, .f32⟩
  | .hbm, ⟨56, _⟩ => ⟨S32768x1024, .f32⟩
  | .hbm, ⟨57, _⟩ => ⟨S1x1x1024, .f32⟩
  | .hbm, ⟨58, _⟩ => ⟨S1024, .f32⟩
  | .hbm, ⟨59, _⟩ => ⟨S32768x1024, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S_, .f32⟩
  | .hbm, ⟨67, _⟩ => ⟨S32768x1, .f32⟩
  | .hbm, ⟨68, _⟩ => ⟨S32768x1, .f32⟩
  | .hbm, ⟨69, _⟩ => ⟨S32768x1, .f32⟩
  | .hbm, ⟨70, _⟩ => ⟨S32768x1024, .f32⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S32768x1024, .f32⟩
  | .hbm, ⟨75, _⟩ => ⟨S1x1x1024x2816, .f32⟩
  | .hbm, ⟨76, _⟩ => ⟨S1024x2816, .f32⟩
  | .hbm, ⟨77, _⟩ => ⟨S1x1x1024x2816, .f32⟩
  | .hbm, ⟨78, _⟩ => ⟨S1024x2816, .f32⟩
  | .hbm, ⟨79, _⟩ => ⟨S1x1x2816x1024, .f32⟩
  | .hbm, ⟨80, _⟩ => ⟨S2816x1024, .f32⟩
  | .hbm, ⟨81, _⟩ => ⟨S32768x2816, .f32⟩
  | .hbm, ⟨82, _⟩ => ⟨S32768x2816, .f32⟩
  | .hbm, ⟨83, _⟩ => ⟨S32768x2816, .f32⟩
  | .hbm, ⟨84, _⟩ => ⟨S_, .f32⟩
  | .hbm, ⟨85, _⟩ => ⟨S32768x2816, .f32⟩
  | .hbm, ⟨86, _⟩ => ⟨S32768x2816, .f32⟩
  | .hbm, ⟨87, _⟩ => ⟨S_, .f32⟩
  | .hbm, ⟨88, _⟩ => ⟨S32768x2816, .f32⟩
  | .hbm, ⟨89, _⟩ => ⟨S32768x2816, .f32⟩
  | .hbm, ⟨90, _⟩ => ⟨S32768x2816, .f32⟩
  | .hbm, ⟨91, _⟩ => ⟨S32768x2816, .f32⟩
  | .hbm, ⟨92, _⟩ => ⟨S32768x2816, .f32⟩
  | .hbm, ⟨93, _⟩ => ⟨S32768x1024, .f32⟩
  | .hbm, ⟨94, _⟩ => ⟨S_, .f32⟩
  | .hbm, ⟨95, _⟩ => ⟨S32768x1024, .f32⟩
  | .hbm, ⟨96, _⟩ => ⟨S32768x1024, .f32⟩
  | .hbm, ⟨97, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Kernel6.lean ====
abbrev S32768x1024 : Shape := ⟨2, ![32768, 1024]⟩
abbrev S2x1024 : Shape := ⟨2, ![2, 1024]⟩
abbrev S1x1024x1536 : Shape := ⟨3, ![1, 1024, 1536]⟩
abbrev S1x31x512 : Shape := ⟨3, ![1, 31, 512]⟩
abbrev S1x512 : Shape := ⟨2, ![1, 512]⟩
abbrev S1x1024 : Shape := ⟨2, ![1, 1024]⟩
abbrev S1024 : Shape := ⟨1, ![1024]⟩
abbrev S1024x1536 : Shape := ⟨2, ![1024, 1536]⟩
abbrev S31x512 : Shape := ⟨2, ![31, 512]⟩
abbrev S512 : Shape := ⟨1, ![512]⟩
abbrev S32768x512 : Shape := ⟨2, ![32768, 512]⟩
abbrev S4x128x32768 : Shape := ⟨3, ![4, 128, 32768]⟩
abbrev S512x1024 : Shape := ⟨2, ![512, 1024]⟩
abbrev S512x512 : Shape := ⟨2, ![512, 512]⟩
abbrev S4x32x2048 : Shape := ⟨3, ![4, 32, 2048]⟩
abbrev S544x512 : Shape := ⟨2, ![544, 512]⟩
abbrev S8x536x512 : Shape := ⟨3, ![8, 536, 512]⟩
abbrev S4x512x128 : Shape := ⟨3, ![4, 512, 128]⟩
abbrev S32x512 : Shape := ⟨2, ![32, 512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩
abbrev S536x512 : Shape := ⟨2, ![536, 512]⟩
abbrev S1x536x512 : Shape := ⟨3, ![1, 536, 512]⟩
abbrev S528x512 : Shape := ⟨2, ![528, 512]⟩
abbrev S1x528x512 : Shape := ⟨3, ![1, 528, 512]⟩
abbrev S128x128 : Shape := ⟨2, ![128, 128]⟩
abbrev S1x128 : Shape := ⟨2, ![1, 128]⟩
abbrev S1x128x128 : Shape := ⟨3, ![1, 128, 128]⟩

abbrev nBuf : Space → Nat
  | .hbm => 22
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x1536, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1024, .f32⟩
  | .hbm, ⟨9, _⟩ => ⟨S1024x1536, .f32⟩
  | .hbm, ⟨10, _⟩ => ⟨S31x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S1x1024, .f32⟩
  | .hbm, ⟨15, _⟩ => ⟨S1024x1536, .bf16⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S32768x512, .bf16⟩
  | .hbm, ⟨20, _⟩ => ⟨S32768x512, .f32⟩
  | .hbm, ⟨21, _⟩ => ⟨S4x128x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S4x32x2048, .bf16⟩
  | .local _ .vmem, ⟨13, _⟩ => ⟨S4x32x2048, .bf16⟩
  | .local _ .vmem, ⟨14, _⟩ => ⟨S544x512, .f32⟩
  | .local _ .vmem, ⟨15, _⟩ => ⟨S8x536x512, .f32⟩
  | .local _ .vmem, ⟨16, _⟩ => ⟨S512x512, .f32⟩
  | .local _ .vmem, ⟨17, _⟩ => ⟨S4x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S32768x1024 : Shape := ⟨2, ![32768, 1024]⟩
abbrev S2x1024 : Shape := ⟨2, ![2, 1024]⟩
abbrev S1x1024x1536 : Shape := ⟨3, ![1, 1024, 1536]⟩
abbrev S1x31x512 : Shape := ⟨3, ![1, 31, 512]⟩
abbrev S1x512 : Shape := ⟨2, ![1, 512]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x1536 : Shape := ⟨2, ![1024, 1536]⟩
abbrev S32768x1536 : Shape := ⟨2, ![32768, 1536]⟩
abbrev S16x2048x1536 : Shape := ⟨3, ![16, 2048, 1536]⟩
abbrev S16x2048x512 : Shape := ⟨3, ![16, 2048, 512]⟩
abbrev S16x2078x512 : Shape := ⟨3, ![16, 2078, 512]⟩
abbrev S1x1x512 : Shape := ⟨3, ![1, 1, 512]⟩
abbrev S512 : Shape := ⟨1, ![512]⟩
abbrev S16x2048 : Shape := ⟨2, ![16, 2048]⟩
abbrev S16x2048x1 : Shape := ⟨3, ![16, 2048, 1]⟩
abbrev S32768x512 : Shape := ⟨2, ![32768, 512]⟩
abbrev S16x128x16x4x128 : Shape := ⟨5, ![16, 128, 16, 4, 128]⟩
abbrev S4x128x16x16x128 : Shape := ⟨5, ![4, 128, 16, 16, 128]⟩
abbrev S4x128x32768 : Shape := ⟨3, ![4, 128, 32768]⟩

abbrev nBuf : Space → Nat
  | .hbm => 313
  | .vmem => 0
  | .smem => 0
  | _ => 0

abbrev hbmTy0_0 (i : Nat) : BufTy := match i % 128 with
  | 0 => ⟨S32768x1024, .f32⟩
  | 1 => ⟨S2x1024, .f32⟩
  | 2 => ⟨S1x1024x1536, .f32⟩
  | 3 => ⟨S1x31x512, .f32⟩
  | 4 => ⟨S1x512, .f32⟩
  | 5 => ⟨S1x512, .f32⟩
  | 6 => ⟨S1x512, .f32⟩
  | 7 => ⟨S1x1024, .f32⟩
  | 8 => ⟨S1024, .f32⟩
  | 9 => ⟨S32768x1024, .f32⟩
  | 10 => ⟨S_, .f32⟩
  | 11 => ⟨S32768, .f32⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S1024x1536, .f32⟩
  | 26 => ⟨S32768x1536, .f32⟩
  | 27 => ⟨S16x2048x1536, .f32⟩
  | 28 => ⟨S16x2048x512, .f32⟩
  | 29 => ⟨S16x2048x512, .f32⟩
  | 30 => ⟨S16x2048x512, .f32⟩
  | 31 => ⟨S16x2048x512, .f32⟩
  | 32 => ⟨S16x2048x512, .f32⟩
  | 33 => ⟨S_, .f32⟩
  | 34 => ⟨S16x2048x512, .f32⟩
  | 35 => ⟨S16x2048x512, .f32⟩
  | 36 => ⟨S_, .f32⟩
  | 37 => ⟨S16x2048x512, .f32⟩
  | 38 => ⟨S16x2048x512, .f32⟩
  | 39 => ⟨S16x2048x512, .f32⟩
  | 40 => ⟨S_, .i32⟩
  | 41 => ⟨S_, .f32⟩
  | 42 => ⟨S16x2078x512, .f32⟩
  | 43 => ⟨S1x1x512, .f32⟩
  | 44 => ⟨S512, .f32⟩
  | 45 => ⟨S16x2048x512, .f32⟩
  | 46 => ⟨S1x1x512, .f32⟩
  | 47 => ⟨S16x2048x512, .f32⟩
  | 48 => ⟨S16x2048x512, .f32⟩
  | 49 => ⟨S_, .f32⟩
  | 50 => ⟨S16x2048x512, .f32⟩
  | 51 => ⟨S16x2048x512, .f32⟩
  | 52 => ⟨S1x1x512, .f32⟩
  | 53 => ⟨S512, .f32⟩
  | 54 => ⟨S16x2048x512, .f32⟩
  | 55 => ⟨S1x1x512, .f32⟩
  | 56 => ⟨S16x2048x512, .f32⟩
  | 57 => ⟨S16x2048x512, .f32⟩
  | 58 => ⟨S16x2048x512, .f32⟩
  | 59 => ⟨S1x1x512, .f32⟩
  | 60 => ⟨S512, .f32⟩
  | 61 => ⟨S16x2048x512, .f32⟩
  | 62 => ⟨S1x1x512, .f32⟩
  | 63 => ⟨S16x2048x512, .f32⟩
  | 64 => ⟨S16x2048x512, .f32⟩
  | 65 => ⟨S16x2048x512, .f32⟩
  | 66 => ⟨S1x1x512, .f32⟩
  | 67 => ⟨S512, .f32⟩
  | 68 => ⟨S16x2048x512, .f32⟩
  | 69 => ⟨S1x1x512, .f32⟩
  | 70 => ⟨S16x2048x512, .f32⟩
  | 71 => ⟨S16x2048x512, .f32⟩
  | 72 => ⟨S16x2048x512, .f32⟩
  | 73 => ⟨S1x1x512, .f32⟩
  | 74 => ⟨S512, .f32⟩
  | 75 => ⟨S16x2048x512, .f32⟩
  | 76 => ⟨S1x1x512, .f32⟩
  | 77 => ⟨S16x2048x512, .f32⟩
  | 78 => ⟨S16x2048x512, .f32⟩
  | 79 => ⟨S16x2048x512, .f32⟩
  | 80 => ⟨S1x1x512, .f32⟩
  | 81 => ⟨S512, .f32⟩
  | 82 => ⟨S16x2048x512, .f32⟩
  | 83 => ⟨S1x1x512, .f32⟩
  | 84 => ⟨S16x2048x512, .f32⟩
  | 85 => ⟨S16x2048x512, .f32⟩
  | 86 => ⟨S16x2048x512, .f32⟩
  | 87 => ⟨S1x1x512, .f32⟩
  | 88 => ⟨S512, .f32⟩
  | 89 => ⟨S16x2048x512, .f32⟩
  | 90 => ⟨S1x1x512, .f32⟩
  | 91 => ⟨S16x2048x512, .f32⟩
  | 92 => ⟨S16x2048x512, .f32⟩
  | 93 => ⟨S16x2048x512, .f32⟩
  | 94 => ⟨S1x1x512, .f32⟩
  | 95 => ⟨S512, .f32⟩
  | 96 => ⟨S16x2048x512, .f32⟩
  | 97 => ⟨S1x1x512, .f32⟩
  | 98 => ⟨S16x2048x512, .f32⟩
  | 99 => ⟨S16x2048x512, .f32⟩
  | 100 => ⟨S16x2048x512, .f32⟩
  | 101 => ⟨S1x1x512, .f32⟩
  | 102 => ⟨S512, .f32⟩
  | 103 => ⟨S16x2048x512, .f32⟩
  | 104 => ⟨S1x1x512, .f32⟩
  | 105 => ⟨S16x2048x512, .f32⟩
  | 106 => ⟨S16x2048x512, .f32⟩
  | 107 => ⟨S16x2048x512, .f32⟩
  | 108 => ⟨S1x1x512, .f32⟩
  | 109 => ⟨S512, .f32⟩
  | 110 => ⟨S16x2048x512, .f32⟩
  | 111 => ⟨S1x1x512, .f32⟩
  | 112 => ⟨S16x2048x512, .f32⟩
  | 113 => ⟨S16x2048x512, .f32⟩
  | 114 => ⟨S16x2048x512, .f32⟩
  | 115 => ⟨S1x1x512, .f32⟩
  | 116 => ⟨S512, .f32⟩
  | 117 => ⟨S16x2048x512, .f32⟩
  | 118 => ⟨S1x1x512, .f32⟩
  | 119 => ⟨S16x2048x512, .f32⟩
  | 120 => ⟨S16x2048x512, .f32⟩
  | 121 => ⟨S16x2048x512, .f32⟩
  | 122 => ⟨S1x1x512, .f32⟩
  | 123 => ⟨S512, .f32⟩
  | 124 => ⟨S16x2048x512, .f32⟩
  | 125 => ⟨S1x1x512, .f32⟩
  | 126 => ⟨S16x2048x512, .f32⟩
  | 127 => ⟨S16x2048x512, .f32⟩
  | _ => ⟨S32768x1024, .f32⟩

abbrev hbmTy0_1 (i : Nat) : BufTy := match i % 128 with
  | 0 => ⟨S16x2048x512, .f32⟩
  | 1 => ⟨S1x1x512, .f32⟩
  | 2 => ⟨S512, .f32⟩
  | 3 => ⟨S16x2048x512, .f32⟩
  | 4 => ⟨S1x1x512, .f32⟩
  | 5 => ⟨S16x2048x512, .f32⟩
  | 6 => ⟨S16x2048x512, .f32⟩
  | 7 => ⟨S16x2048x512, .f32⟩
  | 8 => ⟨S1x1x512, .f32⟩
  | 9 => ⟨S512, .f32⟩
  | 10 => ⟨S16x2048x512, .f32⟩
  | 11 => ⟨S1x1x512, .f32⟩
  | 12 => ⟨S16x2048x512, .f32⟩
  | 13 => ⟨S16x2048x512, .f32⟩
  | 14 => ⟨S16x2048x512, .f32⟩
  | 15 => ⟨S1x1x512, .f32⟩
  | 16 => ⟨S512, .f32⟩
  | 17 => ⟨S16x2048x512, .f32⟩
  | 18 => ⟨S1x1x512, .f32⟩
  | 19 => ⟨S16x2048x512, .f32⟩
  | 20 => ⟨S16x2048x512, .f32⟩
  | 21 => ⟨S16x2048x512, .f32⟩
  | 22 => ⟨S1x1x512, .f32⟩
  | 23 => ⟨S512, .f32⟩
  | 24 => ⟨S16x2048x512, .f32⟩
  | 25 => ⟨S1x1x512, .f32⟩
  | 26 => ⟨S16x2048x512, .f32⟩
  | 27 => ⟨S16x2048x512, .f32⟩
  | 28 => ⟨S16x2048x512, .f32⟩
  | 29 => ⟨S1x1x512, .f32⟩
  | 30 => ⟨S512, .f32⟩
  | 31 => ⟨S16x2048x512, .f32⟩
  | 32 => ⟨S1x1x512, .f32⟩
  | 33 => ⟨S16x2048x512, .f32⟩
  | 34 => ⟨S16x2048x512, .f32⟩
  | 35 => ⟨S16x2048x512, .f32⟩
  | 36 => ⟨S1x1x512, .f32⟩
  | 37 => ⟨S512, .f32⟩
  | 38 => ⟨S16x2048x512, .f32⟩
  | 39 => ⟨S1x1x512, .f32⟩
  | 40 => ⟨S16x2048x512, .f32⟩
  | 41 => ⟨S16x2048x512, .f32⟩
  | 42 => ⟨S16x2048x512, .f32⟩
  | 43 => ⟨S1x1x512, .f32⟩
  | 44 => ⟨S512, .f32⟩
  | 45 => ⟨S16x2048x512, .f32⟩
  | 46 => ⟨S1x1x512, .f32⟩
  | 47 => ⟨S16x2048x512, .f32⟩
  | 48 => ⟨S16x2048x512, .f32⟩
  | 49 => ⟨S16x2048x512, .f32⟩
  | 50 => ⟨S1x1x512, .f32⟩
  | 51 => ⟨S512, .f32⟩
  | 52 => ⟨S16x2048x512, .f32⟩
  | 53 => ⟨S1x1x512, .f32⟩
  | 54 => ⟨S16x2048x512, .f32⟩
  | 55 => ⟨S16x2048x512, .f32⟩
  | 56 => ⟨S16x2048x512, .f32⟩
  | 57 => ⟨S1x1x512, .f32⟩
  | 58 => ⟨S512, .f32⟩
  | 59 => ⟨S16x2048x512, .f32⟩
  | 60 => ⟨S1x1x512, .f32⟩
  | 61 => ⟨S16x2048x512, .f32⟩
  | 62 => ⟨S16x2048x512, .f32⟩
  | 63 => ⟨S16x2048x512, .f32⟩
  | 64 => ⟨S1x1x512, .f32⟩
  | 65 => ⟨S512, .f32⟩
  | 66 => ⟨S16x2048x512, .f32⟩
  | 67 => ⟨S1x1x512, .f32⟩
  | 68 => ⟨S16x2048x512, .f32⟩
  | 69 => ⟨S16x2048x512, .f32⟩
  | 70 => ⟨S16x2048x512, .f32⟩
  | 71 => ⟨S1x1x512, .f32⟩
  | 72 => ⟨S512, .f32⟩
  | 73 => ⟨S16x2048x512, .f32⟩
  | 74 => ⟨S1x1x512, .f32⟩
  | 75 => ⟨S16x2048x512, .f32⟩
  | 76 => ⟨S16x2048x512, .f32⟩
  | 77 => ⟨S16x2048x512, .f32⟩
  | 78 => ⟨S1x1x512, .f32⟩
  | 79 => ⟨S512, .f32⟩
  | 80 => ⟨S16x2048x512, .f32⟩
  | 81 => ⟨S1x1x512, .f32⟩
  | 82 => ⟨S16x2048x512, .f32⟩
  | 83 => ⟨S16x2048x512, .f32⟩
  | 84 => ⟨S16x2048x512, .f32⟩
  | 85 => ⟨S1x1x512, .f32⟩
  | 86 => ⟨S512, .f32⟩
  | 87 => ⟨S16x2048x512, .f32⟩
  | 88 => ⟨S1x1x512, .f32⟩
  | 89 => ⟨S16x2048x512, .f32⟩
  | 90 => ⟨S16x2048x512, .f32⟩
  | 91 => ⟨S16x2048x512, .f32⟩
  | 92 => ⟨S1x1x512, .f32⟩
  | 93 => ⟨S512, .f32⟩
  | 94 => ⟨S16x2048x512, .f32⟩
  | 95 => ⟨S1x1x512, .f32⟩
  | 96 => ⟨S16x2048x512, .f32⟩
  | 97 => ⟨S16x2048x512, .f32⟩
  | 98 => ⟨S16x2048x512, .f32⟩
  | 99 => ⟨S1x1x512, .f32⟩
  | 100 => ⟨S512, .f32⟩
  | 101 => ⟨S16x2048x512, .f32⟩
  | 102 => ⟨S1x1x512, .f32⟩
  | 103 => ⟨S16x2048x512, .f32⟩
  | 104 => ⟨S16x2048x512, .f32⟩
  | 105 => ⟨S16x2048x512, .f32⟩
  | 106 => ⟨S1x1x512, .f32⟩
  | 107 => ⟨S512, .f32⟩
  | 108 => ⟨S16x2048x512, .f32⟩
  | 109 => ⟨S1x1x512, .f32⟩
  | 110 => ⟨S16x2048x512, .f32⟩
  | 111 => ⟨S16x2048x512, .f32⟩
  | 112 => ⟨S16x2048x512, .f32⟩
  | 113 => ⟨S1x1x512, .f32⟩
  | 114 => ⟨S512, .f32⟩
  | 115 => ⟨S16x2048x512, .f32⟩
  | 116 => ⟨S1x1x512, .f32⟩
  | 117 => ⟨S16x2048x512, .f32⟩
  | 118 => ⟨S16x2048x512, .f32⟩
  | 119 => ⟨S16x2048x512, .f32⟩
  | 120 => ⟨S1x1x512, .f32⟩
  | 121 => ⟨S512, .f32⟩
  | 122 => ⟨S16x2048x512, .f32⟩
  | 123 => ⟨S1x1x512, .f32⟩
  | 124 => ⟨S16x2048x512, .f32⟩
  | 125 => ⟨S16x2048x512, .f32⟩
  | 126 => ⟨S16x2048x512, .f32⟩
  | 127 => ⟨S1x1x512, .f32⟩
  | _ => ⟨S32768x1024, .f32⟩

abbrev hbmTy0_2 (i : Nat) : BufTy := match i % 128 with
  | 0 => ⟨S512, .f32⟩
  | 1 => ⟨S16x2048x512, .f32⟩
  | 2 => ⟨S1x1x512, .f32⟩
  | 3 => ⟨S16x2048x512, .f32⟩
  | 4 => ⟨S16x2048x512, .f32⟩
  | 5 => ⟨S16x2048x512, .f32⟩
  | 6 => ⟨S512, .f32⟩
  | 7 => ⟨S1x1x512, .f32⟩
  | 8 => ⟨S16x2048x512, .f32⟩
  | 9 => ⟨S16x2048x512, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S16x2048x512, .f32⟩
  | 17 => ⟨S16x2048x512, .f32⟩
  | 18 => ⟨S16x2048x512, .f32⟩
  | 19 => ⟨S_, .f32⟩
  | 20 => ⟨S16x2048, .f32⟩
  | 21 => ⟨S16x2048x1, .f32⟩
  | 22 => ⟨S_, .f32⟩
  | 23 => ⟨S16x2048x1, .f32⟩
  | 24 => ⟨S16x2048x1, .f32⟩
  | 25 => ⟨S16x2048x512, .f32⟩
  | 26 => ⟨S16x2048x512, .f32⟩
  | 27 => ⟨S_, .f32⟩
  | 28 => ⟨S16x2048x1, .f32⟩
  | 29 => ⟨S16x2048x1, .f32⟩
  | 30 => ⟨S16x2048x1, .f32⟩
  | 31 => ⟨S16x2048x512, .f32⟩
  | 32 => ⟨S16x2048x512, .f32⟩
  | 33 => ⟨S512, .f32⟩
  | 34 => ⟨S1x1x512, .f32⟩
  | 35 => ⟨S16x2048x512, .f32⟩
  | 36 => ⟨S16x2048x512, .f32⟩
  | 37 => ⟨S512, .f32⟩
  | 38 => ⟨S1x1x512, .f32⟩
  | 39 => ⟨S16x2048x512, .f32⟩
  | 40 => ⟨S16x2048x512, .f32⟩
  | 41 => ⟨S16x2048x512, .f32⟩
  | 42 => ⟨S16x2048x512, .f32⟩
  | 43 => ⟨S_, .f32⟩
  | 44 => ⟨S16x2048x512, .f32⟩
  | 45 => ⟨S16x2048x512, .f32⟩
  | 46 => ⟨S_, .f32⟩
  | 47 => ⟨S16x2048x512, .f32⟩
  | 48 => ⟨S16x2048x512, .f32⟩
  | 49 => ⟨S16x2048x512, .f32⟩
  | 50 => ⟨S32768x512, .f32⟩
  | 51 => ⟨S32768x512, .bf16⟩
  | 52 => ⟨S16x128x16x4x128, .f32⟩
  | 53 => ⟨S4x128x16x16x128, .f32⟩
  | 54 => ⟨S4x128x32768, .f32⟩
  | 55 => ⟨S4x128x32768, .bf16⟩
  | 56 => ⟨S32768x512, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_cst_5 : Ref sig .tc := ⟨.hbm, 266, rfl⟩
abbrev main_v251 : Ref sig .tc := ⟨.hbm, 267, rfl⟩
abbrev main_v252 : Ref sig .tc := ⟨.hbm, 268, rfl⟩
abbrev main_cst_6 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_7 : Ref sig .tc := ⟨.hbm, 275, rfl⟩
abbrev main_v258 : Ref sig .tc := ⟨.hbm, 276, rfl⟩
abbrev main_v259 : Ref sig .tc := ⟨.hbm, 277, rfl⟩
abbrev main_cst_8 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_cst_9 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_v270 : Ref sig .tc := ⟨.hbm, 290, rfl⟩
abbrev main_v271 : Ref sig .tc := ⟨.hbm, 291, rfl⟩
abbrev main_v272 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_call1_v0 : Ref sig .tc := ⟨.hbm, 297, rfl⟩
abbrev main_call1_v1 : Ref sig .tc := ⟨.hbm, 298, rfl⟩
abbrev main_call1_cst : Ref sig .tc := ⟨.hbm, 299, rfl⟩
abbrev main_call1_v2 : Ref sig .tc := ⟨.hbm, 300, rfl⟩
abbrev main_call1_v3 : Ref sig .tc := ⟨.hbm, 301, rfl⟩
abbrev main_call1_cst_0 : Ref sig .tc := ⟨.hbm, 302, rfl⟩
abbrev main_call1_v4 : Ref sig .tc := ⟨.hbm, 303, rfl⟩
abbrev main_call1_v5 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩

abbrev nD : Nat := 1
abbrev τ : Topo := Topo.v7x

variable {F : FTy → Type} [FloatOps F]
-- ==== Proof.Select.lean ====
module

public import Idealize.ShloMosaic.Lib.SortFacts
public import Mathlib.Data.EReal.Basic
public import Mathlib.Order.Interval.Finset.Fin

@[expose] public section

namespace Cert.Proof

open Idealize.ShloMosaic

/-- Position `a` comes ahead of position `b`: its gate is greater, or the gates are equal and `a` is the lower index. -/
def Ahead {n : ℕ} (g : Fin n → EReal) (a b : Fin n) : Prop := g b < g a ∨ (g a = g b ∧ a < b)

/-- `Ahead` is transitive. -/
theorem Ahead.trans {n : ℕ} {g : Fin n → EReal} {a b c : Fin n} (h : Ahead g a b) (h' : Ahead g b c) : Ahead g a c := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

/-- Nothing is ahead of itself. -/
theorem Ahead.irrefl {n : ℕ} {g : Fin n → EReal} {a : Fin n} (h : Ahead g a a) : False := by
  rcases h with h | ⟨_, h⟩ <;> exact lt_irrefl _ h

/-- Inserting a position below all those of an `Ahead`-ordered list keeps the list ordered. -/
theorem pairwise_insertBefore_ahead {n : ℕ} (g : Fin n → EReal) (before : Fin n → Fin n → Bool)
    (hb : ∀ a b, before a b = true ↔ g b < g a) (a : Fin n) (l : List (Fin n)) (hl : l.Pairwise (Ahead g))
    (ha : ∀ b ∈ l, a < b) : (insertBefore before a l).Pairwise (Ahead g) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore before a l).mem_iff.mp hc) with rfl | hc'
      · exact Or.inl ((hb _ _).mp h)
      · exact hl.1 c hc'
    · rename_i h
      have hab : Ahead g a b := by
        have h1 : ¬ g a < g b := fun h2 => h ((hb _ _).mpr h2)
        rcases lt_or_eq_of_le (not_lt.mp h1) with h2 | h2
        · exact Or.inl h2
        · exact Or.inr ⟨h2.symm, ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort of an increasing list of positions by "greater gate first" is ordered by `Ahead`. -/
theorem pairwise_stableSort_ahead {n : ℕ} (g : Fin n → EReal) (before : Fin n → Fin n → Bool)
    (hb : ∀ a b, before a b = true ↔ g b < g a) (l : List (Fin n)) (hl : l.Pairwise (· < ·)) :
    (stableSort before l).Pairwise (Ahead g) := by
  induction l with
  | nil => exact List.Pairwise.nil
  | cons a l ih =>
    rw [List.pairwise_cons] at hl
    unfold stableSort
    exact pairwise_insertBefore_ahead g before hb a _ (ih hl.2)
      fun b hb' => hl.1 b ((perm_stableSort before l).mem_iff.mp hb')

/-- The sorting permutation lists the positions in the order `Ahead`. -/
theorem sortedFrom_ahead {n : ℕ} (g : Fin n → EReal) (before : Fin n → Fin n → Bool)
    (hb : ∀ a b, before a b = true ↔ g b < g a) (s t : Fin n) (h : s < t) :
    Ahead g (sortedFrom before s) (sortedFrom before t) := by
  have hp := List.pairwise_iff_get.mp (pairwise_stableSort_ahead g before hb (List.finRange n) (List.pairwise_lt_finRange n))
  unfold sortedFrom
  exact hp _ _ h

open Classical in
/-- The number of positions ahead of `a`. -/
noncomputable def rank {n : ℕ} (g : Fin n → EReal) (a : Fin n) : ℕ := (Finset.univ.filter fun b => Ahead g b a).card

/-- Place `s` of the sorted order holds the position that has exactly `s` positions ahead of it. -/
theorem rank_sortedFrom {n : ℕ} (g : Fin n → EReal) (before : Fin n → Fin n → Bool)
    (hb : ∀ a b, before a b = true ↔ g b < g a) (s : Fin n) : rank g (sortedFrom before s) = s.val := by
  classical
  have hlt : ∀ t, Ahead g (sortedFrom before t) (sortedFrom before s) ↔ t < s := by
    intro t
    refine ⟨fun h => ?_, sortedFrom_ahead g before hb t s⟩
    rcases lt_trichotomy t s with h' | h' | h'
    · exact h'
    · subst h'; exact h.irrefl.elim
    · exact (h.trans (sortedFrom_ahead g before hb s t h')).irrefl.elim
  have hc : (Finset.univ.filter fun t : Fin n => t < s).card = rank g (sortedFrom before s) := by
    unfold rank
    refine Finset.card_bij (fun t _ => sortedFrom before t) (fun t ht => ?_) (fun t _ t' _ h => sortedFrom_injective before h) fun b hb' => ?_
    · simpa [hlt] using ht
    · obtain ⟨t, rfl⟩ := sortedFrom_surjective before b
      exact ⟨t, by simpa [hlt] using hb', rfl⟩
  rw [← hc]
  have : (Finset.univ.filter fun t : Fin n => t < s) = Finset.Iio s := by ext; simp
  rw [this, Fin.card_Iio]

/-- A sum over the first `k` places of the sorted order is the sum over the positions of rank below `k`. -/
theorem sum_sortedFrom {n k : ℕ} (hk : k ≤ n) (g : Fin n → EReal) (before : Fin n → Fin n → Bool)
    (hb : ∀ a b, before a b = true ↔ g b < g a) (f : Fin n → ℝ) :
    ∑ s : Fin k, f (sortedFrom before (Fin.castLE hk s)) = ∑ a : Fin n, if rank g a < k then f a else 0 := by
  have hbij : Function.Bijective (sortedFrom before) := ⟨sortedFrom_injective before, sortedFrom_surjective before⟩
  rw [← Equiv.sum_comp (Equiv.ofBijective (sortedFrom before) hbij)]
  simp only [Equiv.ofBijective_apply, rank_sortedFrom g before hb]
  rw [← Finset.sum_filter]
  refine Finset.sum_bij (fun s _ => Fin.castLE hk s) (fun s _ => ?_) (fun s _ s' _ h => Fin.castLE_injective hk h) (fun t ht => ?_) fun s _ => rfl
  · simp
  · exact ⟨⟨t.val, by simpa using ht⟩, Finset.mem_univ _, rfl⟩

/-- The gates of the blocks before block `i`, the others masked with −∞. -/
noncomputable def masked {n : ℕ} (g : Fin n → ℝ) (i : ℕ) (a : Fin n) : EReal := if a.val < i then (g a : EReal) else ⊥

/-- A block before block `i` has only such blocks ahead of it. -/
theorem ahead_masked {n : ℕ} (g : Fin n → ℝ) (i : ℕ) (a b : Fin n) (ha : a.val < i) :
    Ahead (masked g i) b a ↔ b.val < i ∧ (g a < g b ∨ (g b = g a ∧ b < a)) := by
  unfold Ahead masked
  by_cases hb : b.val < i
  · simp [ha, hb]
  · simp [ha, hb]

end Cert.Proof

end
-- ==== Proof.Softmax.lean ====
module

public import Idealize.ShloMosaic.PureOps.Ideal
public import Idealize.ShloMosaic.Lib.Pipeline.ValueKit
public import proofs.«01_k».proof.Proof.Select
public import Mathlib.Analysis.SpecialFunctions.Pow.Real

@[expose] public section

noncomputable section

namespace Cert.Proof

open Idealize.ShloMosaic Finset

/-- A finite sum of reals, taken among the extended reals. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [sum_insert ha, sum_insert ha, ih, EReal.coe_add]

/-- A score: the real `d` where the key is attended to, −∞ elsewhere. -/
def score (ok : Prop) [Decidable ok] (d : ℝ) : EReal := if ok then (d : EReal) else ⊥

/-- A real weight: `e ^ x` where the key is attended to, zero elsewhere. -/
def weight (ok : Prop) [Decidable ok] (x : ℝ) : ℝ := if ok then Real.exp x else 0

/-- The greatest of finitely many scores of which one is real is real. -/
theorem sup_score {ι : Type*} [Fintype ι] (ok : ι → Prop) [DecidablePred ok] (d : ι → ℝ) (h : ∃ k, ok k) :
    ∃ μ : ℝ, univ.sup (fun k => score (ok k) (d k)) = (μ : EReal) := by
  obtain ⟨k, hk⟩ := h
  have h1 : univ.sup (fun k => score (ok k) (d k)) ≠ ⊤ := by
    refine ne_of_lt ((Finset.sup_lt_iff bot_lt_top).mpr fun j _ => ?_)
    unfold score; split
    · exact EReal.coe_lt_top _
    · exact bot_lt_top
  have h2 : univ.sup (fun k => score (ok k) (d k)) ≠ ⊥ := by
    refine ne_of_gt (lt_of_lt_of_le ?_ (Finset.le_sup (f := fun k => score (ok k) (d k)) (mem_univ k)))
    simp only [score, if_pos hk]; exact EReal.bot_lt_coe _
  exact ⟨_, (EReal.coe_toReal h1 h2).symm⟩

/-- The base-two exponential of a rescaled shifted score is the natural exponential of the shifted score times the scale. -/
theorem exp2_score (ok : Prop) [Decidable ok] (d μ σ : ℝ) (hσ : 0 < σ) :
    Ideal.exp2 ((score ok d - (μ : EReal)) * ((σ * (Real.log 2)⁻¹ : ℝ) : EReal)) = (weight ok ((d - μ) * σ) : EReal) := by
  have hl : 0 < Real.log 2 := Real.log_pos (by norm_num)
  unfold score weight
  split
  · rw [← EReal.coe_sub, ← EReal.coe_mul]
    show ((Real.rpow 2 _ : ℝ) : EReal) = _
    congr 1
    rw [Real.rpow_eq_pow, Real.rpow_def_of_pos (by norm_num)]
    congr 1
    field_simp
  · rw [EReal.bot_sub, EReal.bot_mul_coe_of_pos (mul_pos hσ (inv_pos.mpr hl))]
    rfl

/-- The exponential of a shifted score. -/
theorem exp_score (ok : Prop) [Decidable ok] (d μ : ℝ) :
    Ideal.exp (score ok d - (μ : EReal)) = (weight ok (d - μ) : EReal) := by
  unfold score weight
  split
  · rw [← EReal.coe_sub]; rfl
  · rw [EReal.bot_sub]; rfl

/-- A shift of all exponents is a common factor. -/
theorem weight_sub (ok : Prop) [Decidable ok] (x y : ℝ) : weight ok (x - y) = Real.exp (-y) * weight ok x := by
  unfold weight
  split
  · rw [← Real.exp_add]; congr 1; ring
  · rw [mul_zero]

/-- Weights are not negative. -/
theorem weight_nonneg (ok : Prop) [Decidable ok] (x : ℝ) : 0 ≤ weight ok x := by
  unfold weight; split
  · exact (Real.exp_pos _).le
  · exact le_rfl

/-- The sum of the weights is positive where one key is attended to. -/
theorem sum_weight_pos {ι : Type*} [Fintype ι] (ok : ι → Prop) [DecidablePred ok] (x : ι → ℝ) (h : ∃ k, ok k) :
    0 < ∑ k, weight (ok k) (x k) := by
  obtain ⟨k, hk⟩ := h
  refine Finset.sum_pos' (fun j _ => weight_nonneg _ _) ⟨k, mem_univ k, ?_⟩
  simp only [weight, if_pos hk]; exact Real.exp_pos _

/-- The quotient of two reals, the divisor not zero, taken among the extended reals. -/
theorem div_coe (x y : ℝ) (h : y ≠ 0) : Ideal.div (x : EReal) (y : EReal) = ((x / y : ℝ) : EReal) := by
  unfold Ideal.div
  rw [if_neg (by simpa using h), div_eq_mul_inv, EReal.coe_mul, EReal.coe_inv]

/-- The kernel's attention over its keys: the weighted sum of the values over the sum of the weights, from unnormalised base-two
    weights taken after the greatest score is subtracted, is the softmax-weighted average of the values. -/
theorem average_exp2 {n : ℕ} (ok : Fin n → Prop) [DecidablePred ok] (d v : Fin n → ℝ) (σ : ℝ) (hσ : 0 < σ) (h : ∃ k, ok k) :
    Ideal.div
      (∑ k, Ideal.exp2 ((score (ok k) (d k) - univ.sup fun j => score (ok j) (d j)) * ((σ * (Real.log 2)⁻¹ : ℝ) : EReal)) * (v k : EReal))
      (∑ k, Ideal.exp2 ((score (ok k) (d k) - univ.sup fun j => score (ok j) (d j)) * ((σ * (Real.log 2)⁻¹ : ℝ) : EReal)))
      = (((∑ k, weight (ok k) (d k * σ) * v k) / ∑ k, weight (ok k) (d k * σ) : ℝ) : EReal) := by
  obtain ⟨μ, hμ⟩ := sup_score ok d h
  simp only [hμ, exp2_score _ _ _ _ hσ, sub_mul, weight_sub]
  simp only [← EReal.coe_mul, coe_sum, mul_assoc, ← Finset.mul_sum]
  have hp := sum_weight_pos ok (fun k => d k * σ) h
  rw [div_coe _ _ (mul_pos (Real.exp_pos _) hp).ne', mul_div_mul_left _ _ (Real.exp_pos _).ne']

end Cert.Proof

end
-- ==== Proof.Spec.lean ====
module

public import proofs.«01_k».proof.Proof.Softmax

@[expose] public section

noncomputable section

namespace Cert.Proof

open Idealize.ShloMosaic Finset

open Classical

/-- The keys a query attends to: row `r` of block `i`, whose gates are `g`, attends to key `j` of the sequence where the key's block
    is before block `i` and among the three of the greatest gates, or where the key is in block `i` and not after the query. -/
def Seen (g : Fin 8 → ℝ) (i r j : ℕ) : Prop :=
  (∃ h : j / 256 < 8, j / 256 < i ∧ rank (masked g i) ⟨j / 256, h⟩ < 3) ∨ (j / 256 = i ∧ j % 256 ≤ r)

/-- The sum over the attended keys of `f` weighted by `e ^ x`. -/
def seenSum (g : Fin 8 → ℝ) (i r : ℕ) (x f : ℕ → ℝ) : ℝ := ∑ j : Fin 2048, weight (Seen g i r j) (x j) * f j

/-- The attention of one query: the softmax-weighted average, over the attended keys, of the values `v`. -/
def attend (g : Fin 8 → ℝ) (i r : ℕ) (x v : ℕ → ℝ) : ℝ := seenSum g i r x v / seenSum g i r x fun _ => 1

/-- A key after the query's block is not attended to. -/
theorem not_seen (g : Fin 8 → ℝ) {i r j : ℕ} (h : (i + 1) * 256 ≤ j) : ¬ Seen g i r j := by
  rintro (⟨_, h1, _⟩ | ⟨h1, _⟩) <;> omega

/-- The weighted sum over the keys up to the end of the query's block is the sum over all attended keys. -/
theorem sum_upto (g : Fin 8 → ℝ) (i r n : ℕ) (hi : i < 8) (hn : n = (i + 1) * 256) (ok : Fin n → Prop)
    (hok : ∀ k, ok k ↔ Seen g i r k) (x f : ℕ → ℝ) :
    ∑ k : Fin n, weight (ok k) (x k) * f k = seenSum g i r x f := by
  have h1 : ∀ k : Fin n, weight (ok k) (x k) * f k = (fun j : ℕ => weight (Seen g i r j) (x j) * f j) k := by
    intro k
    have : ok k = Seen g i r k := propext (hok k)
    simp only [this]
  unfold seenSum
  simp only [h1]
  rw [Fin.sum_univ_eq_sum_range (fun j : ℕ => weight (Seen g i r j) (x j) * f j) n,
    Fin.sum_univ_eq_sum_range (fun j : ℕ => weight (Seen g i r j) (x j) * f j) 2048]
  refine Finset.sum_subset (fun j hj => ?_) fun j _ hj => ?_
  · simp only [mem_range] at hj ⊢; omega
  · simp only [mem_range, not_lt] at hj
    rw [weight, if_neg (not_seen g (hn ▸ hj)), zero_mul]

/-- The sum over the three selected blocks, of which those not before block `i` count for nothing, and over the query's own block up to
    the query is the sum over all attended keys. -/
theorem sum_selected (g : Fin 8 → ℝ) (i r : ℕ) (hi : i < 8) (before : Fin 8 → Fin 8 → Bool)
    (hb : ∀ a b, before a b = true ↔ masked g i b < masked g i a) (x f : ℕ → ℝ) :
    ((∑ s : Fin 3, ∑ k : Fin 256,
        weight ((sortedFrom before (Fin.castLE (by decide) s)).val < i) (x ((sortedFrom before (Fin.castLE (by decide) s)).val * 256 + k.val))
          * f ((sortedFrom before (Fin.castLE (by decide) s)).val * 256 + k.val))
      + ∑ k : Fin 256, weight (k.val ≤ r) (x (i * 256 + k.val)) * f (i * 256 + k.val)) = seenSum g i r x f := by
  rw [sum_sortedFrom (k := 3) (by decide) (masked g i) before hb
    (fun a => ∑ k : Fin 256, weight (a.val < i) (x (a.val * 256 + k.val)) * f (a.val * 256 + k.val))]
  unfold seenSum
  have h2 := Fin.sum_mul_add_fin (L := 2048) 8 256 (fun j : Fin 2048 => weight (Seen g i r j) (x j) * f j) rfl
  rw [← h2]
  have h3 : (∑ k : Fin 256, weight (k.val ≤ r) (x (i * 256 + k.val)) * f (i * 256 + k.val))
      = ∑ a : Fin 8, if a = ⟨i, hi⟩ then ∑ k : Fin 256, weight (k.val ≤ r) (x (a.val * 256 + k.val)) * f (a.val * 256 + k.val) else 0 := by
    rw [Finset.sum_ite_eq']; simp
  rw [h3, ← Finset.sum_add_distrib]
  refine Finset.sum_congr rfl fun a _ => ?_
  have hd : ∀ k : Fin 256, (a.val * 256 + k.val) / 256 = a.val := fun k => by omega
  have hm : ∀ k : Fin 256, (a.val * 256 + k.val) % 256 = k.val := fun k => by omega
  have hs : ∀ k : Fin 256, Seen g i r (a.val * 256 + k.val) ↔ (a.val < i ∧ rank (masked g i) a < 3) ∨ (a.val = i ∧ k.val ≤ r) := by
    intro k
    have ha : ∀ h, (⟨(a.val * 256 + k.val) / 256, h⟩ : Fin 8) = a := fun h => Fin.ext (hd k)
    unfold Seen
    simp only [hd, hm, ha, a.isLt, exists_prop, true_and, Fin.eta]
  by_cases hai : a.val < i
  · have hne : a ≠ ⟨i, hi⟩ := fun h => by rw [h] at hai; exact lt_irrefl _ hai
    have hne' : a.val ≠ i := by omega
    rw [if_neg hne, add_zero]
    split
    · rename_i hr
      exact Finset.sum_congr rfl fun k _ => by simp [weight, hs, hai, hr]
    · rename_i hr
      exact (Finset.sum_eq_zero fun k _ => by simp [weight, hs, hai, hr, hne']).symm
  · by_cases hae : a = ⟨i, hi⟩
    · have hae' : a.val = i := by rw [hae]
      rw [if_pos hae]
      have h0 : (∑ k : Fin 256, weight (a.val < i) (x (a.val * 256 + k.val)) * f (a.val * 256 + k.val)) = 0 :=
        Finset.sum_eq_zero fun k _ => by simp [weight, hai]
      rw [h0, ite_self, zero_add]
      refine Finset.sum_congr rfl fun k _ => ?_
      have hk := hs k
      simp only [hae', lt_irrefl, false_and, true_and, false_or] at hk
      simp [weight, hae', hk]
    · have hne' : a.val ≠ i := fun h => hae (Fin.ext h)
      rw [if_neg hae, add_zero]
      have h0 : (∑ k : Fin 256, weight (a.val < i) (x (a.val * 256 + k.val)) * f (a.val * 256 + k.val)) = 0 :=
        Finset.sum_eq_zero fun k _ => by simp [weight, hai]
      rw [h0, ite_self]
      exact (Finset.sum_eq_zero fun k _ => by simp [weight, hs, hai, hne']).symm

end Cert.Proof

end
-- ==== Proof.Consts.lean ====
module

public import Idealize.ShloMosaic.Lib.Pointwise

@[expose] public section

noncomputable section

namespace Cert.Proof

open Idealize.ShloMosaic

/-- The `f32` pattern of minus infinity is the least extended real. -/
theorem ofBits_bot : Ideal.ofBits .f32 0xFF800000#32 = ⊥ := by simp [Ideal.ofBits, Ideal.ieee]

/-- The `f32` pattern of infinity is the greatest extended real. -/
theorem ofBits_top : Ideal.ofBits .f32 0x7F800000#32 = ⊤ := by simp [Ideal.ofBits, Ideal.ieee]

/-- The `f32` nearest to the inverse square root of the head's width, as a rational number. -/
theorem ofBits_scale : Ideal.ofBits .f32 0x3DB504F3#32 = ((11863283 / 134217728 : ℝ) : EReal) := by
  simp [Ideal.ofBits, Ideal.ieee, -EReal.coe_mul]; norm_num

end Cert.Proof

end
-- ==== Proof.Head.lean ====
module

public import proofs.«01_k».proof.KernelIdeal
public import proofs.«01_k».proof.Proof.Spec
public import proofs.«01_k».proof.Proof.Consts
public import Idealize.ShloMosaic.Lib.Pointwise
public import Idealize.ShloMosaic.Lib.Pointwise.IndexVar
public import Idealize.ShloMosaic.Lib.MatmulPlain

@[expose] public section

set_option maxRecDepth 16384

noncomputable section

namespace Cert.KernelIdeal

open Idealize.ShloMosaic Idealize.ShloMosaic.TcCoe Finset

/-- A matrix shape. -/
abbrev Mat (a b : ℕ) : Shape := ⟨2, ![a, b]⟩

/-- The additive bias of the blocks: zero for a chosen block, the mask for another. -/
def biasOf (chosen : IVec S8x256 1) : FVec Ideal S8x256 .f32 :=
  select chosen (broadcast S8x256 (Scalar.ofBits (F := Ideal) .f32 0x00000000#32)) (broadcast S8x256 (Named.named (F := Ideal) κ "mask" 0xF149F2CA#32))

/-- The queries with the bias of the eight blocks as further columns. -/
def queryAug (q : FVec Ideal S256x128 .bf16) (chosen : IVec S8x256 1) (h1 : Shape.Concatenates [S8x256, S120x256] S128x256 0)
    (h2 : S128x256.Transposes [1, 0] S256x128) (h3 : FTy.bits .bf16 < FTy.bits .f32)
    (h4 : Shape.Concatenates [S256x128, S256x128] S256x256 1) : FVec Ideal S256x256 .bf16 :=
  concatenate S256x256 1 [⟨S256x128, q⟩, ⟨S256x128, truncf .bf16 (transpose S256x128 [1, 0]
    (concatenate S128x256 0 [⟨S8x256, biasOf chosen⟩, ⟨S120x256, broadcast S120x256 (Scalar.ofBits (F := Ideal) .f32 0x00000000#32)⟩] h1) h2) h3⟩] h4

/-- The scores of the queries against `n` keys. -/
def scoresOf (n : ℕ) (qa : FVec Ideal S256x256 .bf16) (K : FVec Ideal (Mat n 256) .bf16) : FVec Ideal (Mat 256 n) .f32 :=
  matmul (DotDims.transposedRhs 256 256 n) none qa K (constant (Mat 256 n) .f32 0x00000000#32)

/-- The causal mask inside a block. -/
def causal (s : FVec Ideal S256x256 .f32) (h0 : S256x256.Iotas .tc 32 [0]) (h1 : S256x256.Iotas .tc 32 [1]) : FVec Ideal S256x256 .f32 :=
  select (cmpi .sle (iota .tc S256x256 32 [1] h1) (iota .tc S256x256 32 [0] h0)) s (broadcast S256x256 (Named.named (F := Ideal) κ "mask" 0xF149F2CA#32))

/-- The scores with the causal mask on the last 256 keys. -/
def causalTail (n p : ℕ) (s : FVec Ideal (Mat 256 n) .f32) (h0 : S256x256.Iotas .tc 32 [0]) (h1 : S256x256.Iotas .tc 32 [1])
    (h2 : (Mat 256 n).Slices ![0, 0] (Mat 256 p)) (h3 : (Mat 256 n).Slices ![0, p] S256x256)
    (h4 : Shape.Concatenates [Mat 256 p, S256x256] (Mat 256 n) 1) : FVec Ideal (Mat 256 n) .f32 :=
  concatenate (Mat 256 n) 1 [⟨Mat 256 p, extractStridedSlice (Mat 256 p) ![0, 0] s h2⟩,
    ⟨S256x256, causal (extractStridedSlice S256x256 ![0, p] s h3) h0 h1⟩] h4

/-- The unnormalised weights of the scores. -/
def weightsOf (n : ℕ) (s : FVec Ideal (Mat 256 n) .f32) (h1 : (Mat 256 n).Reduces [1] S256) (h2 : S256.ShapeCasts S256x1)
    (h3 : S256x1.Broadcasts (Mat 256 n)) (h4 : FKind.Formats .f32) (h5 : 0xFF800000#32 = FKind.maximumf.neutral .f32 h4)
    (h6 : FTy.bits .bf16 < FTy.bits .f32) : FVec Ideal (Mat 256 n) .bf16 :=
  truncf .bf16 (exp2 (mulf (subf s (broadcastTo (Mat 256 n) (shapeCast S256x1
    (multiReduction .maximumf [1] S256 s 0xFF800000#32 h1 h4 h5) h2) h3))
      (broadcast (Mat 256 n) (Named.named (F := Ideal) κ "softmax_exp2_scale" 0x3E0293EE#32)))) h6

/-- The weighted average of the values, whose further columns are ones. -/
def averageOf (n : ℕ) (w : FVec Ideal (Mat 256 n) .bf16) (V : FVec Ideal (Mat n 256) .bf16) (h1 : S256x256.Slices ![0, 0] S256x128)
    (h2 : S256x256.Slices ![0, 128] S256x128) (h3 : FTy.bits .bf16 < FTy.bits .f32) : FVec Ideal S256x128 .bf16 :=
  truncf .bf16 (divf
    (extractStridedSlice S256x128 ![0, 0] (matmul (DotDims.plain 256 n 256) none w V (constant S256x256 .f32 0x00000000#32)) h1)
    (extractStridedSlice S256x128 ![0, 128] (matmul (DotDims.plain 256 n 256) none w V (constant S256x256 .f32 0x00000000#32)) h2)) h3

/-- The two ways to write the index of a matrix agree. -/
theorem ix2_eq {a b : ℕ} (i : Fin a) (j : Fin b) : (ValueIdx.ix2 i j : (Mat a b).Idx) = ix2 i j := by
  funext d
  match d with
  | ⟨0, _⟩ => rfl
  | ⟨1, _⟩ => rfl

/-- The left half of a matrix of 256 columns, entry by entry. -/
theorem slice_left (X : FVec Ideal S256x256 .f32) (h1 : S256x256.Slices ![0, 0] S256x128) (r : Fin 256) (c : Fin 128) :
    extractStridedSlice S256x128 ![0, 0] X h1 (ix2 r c) = X (ix2 r (Fin.castAdd 128 c)) := by
  pointwise
  rfl

/-- The right half of a matrix of 256 columns, entry by entry. -/
theorem slice_right (X : FVec Ideal S256x256 .f32) (h1 : S256x256.Slices ![0, 128] S256x128) (r : Fin 256) (c : Fin 128) :
    extractStridedSlice S256x128 ![0, 128] X h1 (ix2 r c) = X (ix2 r (Fin.natAdd 128 c)) := by
  pointwise
  congr 1

/-- A product of weights and values, entry by entry, is a sum over the keys. -/
theorem matmul_plain (n : ℕ) (w : FVec Ideal (Mat 256 n) .bf16) (V : FVec Ideal (Mat n 256) .bf16) (r c : Fin 256) :
    matmul (DotDims.plain 256 n 256) none w V (constant S256x256 .f32 0x00000000#32) (ix2 r c) = ∑ k : Fin n, w (ix2 r k) * V (ix2 k c) := by
  rw [← ix2_eq]
  refine (Ideal.matmul_plain_apply none w V (constant S256x256 .f32 0x00000000#32) r c).trans ?_
  simp only [ix2_eq, constant_apply]
  pointwise

/-- An entry of the output: the weighted sum of the values over the sum of the weights. -/
theorem averageOf_apply (n : ℕ) (w V h1 h2 h3) (r : Fin 256) (c : Fin 128) :
    averageOf n w V h1 h2 h3 (ix2 r c)
      = Ideal.div (∑ k : Fin n, w (ix2 r k) * V (ix2 k (Fin.castAdd 128 c))) (∑ k : Fin n, w (ix2 r k) * V (ix2 k (Fin.natAdd 128 c))) := by
  unfold averageOf
  rw [truncf_apply, divf_apply, slice_left, slice_right, matmul_plain, matmul_plain]
  rfl

/-- A weight: two to the power of the scaled distance of the score from the largest one. -/
theorem weightsOf_apply (n : ℕ) (s h1 h2 h3 h4 h5 h6) (r : Fin 256) (k : Fin n) :
    weightsOf n s h1 h2 h3 h4 h5 h6 (ix2 r k)
      = Ideal.exp2 ((s (ix2 r k) - univ.sup fun j : Fin n => s (ix2 r j)) * (((11863283 / 134217728) * (Real.log 2)⁻¹ : ℝ) : EReal)) := by
  have e (X : FVec Ideal S256 .f32) : broadcastTo (Mat 256 n) (shapeCast S256x1 X h2) h3 (ix2 r k)
      = X (ix1 r) := by
    pointwise
  have e2 : multiReduction .maximumf [1] S256 s 0xFF800000#32 h1 h4 h5 (ix1 r) = univ.sup fun j : Fin n => s (ix2 r j) := by
    rw [Ideal.multiReduction_maximumf_single]
    have h : ∀ k : Fin n, h1.lift (ix1 r) k = ix2 r k := by
      intro k
      funext d
      refine Fin.ext ?_
      match d with
      | ⟨0, _⟩ => rfl
      | ⟨1, _⟩ => rfl
    have h' : s ∘ h1.lift (ix1 r) = fun k : Fin n => s (ix2 r k) := funext fun k => congrArg s (h k)
    rw [h']
    have hb : (FloatOps.ofBits (F := Ideal) FTy.f32 0xFF800000#32 : EReal) = ⊥ := Cert.Proof.ofBits_bot
    rw [hb]
    rfl
  unfold weightsOf
  rw [truncf_apply, exp2_apply, mulf_apply, subf_apply, e, e2]
  rfl

/-- A small number is the integer that its word stands for. -/
theorem toInt_small (a : ℕ) (h : a < 2 ^ 31) : (BitVec.ofNat 32 a).toInt = a := by
  rw [BitVec.toInt_ofNat', Int.bmod_eq_of_le (by omega) (by omega)]

/-- The signed test for at most, on small numbers. -/
theorem cmpi_sle (a b : ℕ) (ha : a < 2 ^ 31) (hb : b < 2 ^ 31) :
    IntOp.cmpi .sle (BitVec.ofNat 32 a) (BitVec.ofNat 32 b) = BitVec.ofBool (decide (a ≤ b)) := by
  refine congrArg BitVec.ofBool (Bool.eq_iff_iff.2 ?_)
  rw [BitVec.sle_iff_toInt_le, toInt_small _ ha, toInt_small _ hb]
  simp

/-- The signed test for less, on small numbers. -/
theorem cmpi_slt (a b : ℕ) (ha : a < 2 ^ 31) (hb : b < 2 ^ 31) :
    IntOp.cmpi .slt (BitVec.ofNat 32 a) (BitVec.ofNat 32 b) = BitVec.ofBool (decide (a < b)) := by
  refine congrArg BitVec.ofBool (Bool.eq_iff_iff.2 ?_)
  rw [BitVec.slt_iff_toInt_lt, toInt_small _ ha, toInt_small _ hb]
  simp

/-- The signed test for greater, on small numbers. -/
theorem cmpi_sgt (a b : ℕ) (ha : a < 2 ^ 31) (hb : b < 2 ^ 31) :
    IntOp.cmpi .sgt (BitVec.ofNat 32 a) (BitVec.ofNat 32 b) = BitVec.ofBool (decide (b < a)) := cmpi_slt b a hb ha

/-- The test for equality, on small numbers. -/
theorem cmpi_eq (a b : ℕ) (ha : a < 2 ^ 31) (hb : b < 2 ^ 31) :
    IntOp.cmpi .eq (BitVec.ofNat 32 a) (BitVec.ofNat 32 b) = BitVec.ofBool (decide (a = b)) := by
  refine congrArg BitVec.ofBool (Bool.eq_iff_iff.2 ?_)
  rw [beq_iff_eq, ← BitVec.toInt_inj, toInt_small _ ha, toInt_small _ hb]
  simp

/-- The bit of a decided statement is one exactly where the statement holds. -/
theorem ofBool_decide_eq (p : Prop) [Decidable p] : BitVec.ofBool (decide p) = 1#1 ↔ p := by
  by_cases h : p <;> simp [h]

/-- The mask of the own block: a key after the query gets the lowest score. -/
theorem causal_apply (s h0 h1) (r k : Fin 256) : causal s h0 h1 (ix2 r k) = if k.val ≤ r.val then s (ix2 r k) else ⊥ := by
  unfold causal
  pointwise
  rw [cmpi_sle _ _ (by omega) (by omega), Scalar.select_ofBool]
  simp only [decide_eq_true_eq]
  rfl

/-- The mask on the last block of all scores: a key of the own block after the query gets the lowest score. -/
theorem causalTail_apply (n p : ℕ) (hn : n = p + 256) (s h0 h1 h2 h3 h4) (r : Fin 256) (k : Fin n) :
    causalTail n p s h0 h1 h2 h3 h4 (ix2 r k) = if k.val ≤ p + r.val then s (ix2 r k) else ⊥ := by
  unfold causalTail
  pointwise
  split
  · rename_i h
    rw [if_pos (by omega)]
  · rename_i h
    rw [causal_apply]
    pointwise
    have e : (⟨p + (k.val - p), by omega⟩ : Fin n) = k := Fin.ext (by simp; omega)
    rw [e]
    exact if_congr (by omega) rfl rfl

/-- The first 128 columns of the extended queries are the queries. -/
theorem queryAug_left (q chosen h1 h2 h3 h4) (r : Fin 256) (d : Fin 128) :
    queryAug q chosen h1 h2 h3 h4 (ix2 r (Fin.castAdd 128 d)) = q (ix2 r d) := by
  unfold queryAug biasOf
  pointwise
  exact (dif_pos d.isLt).trans rfl

/-- The last 128 columns of the extended queries: zero at a chosen block and past the blocks, the mask at any other block. -/
theorem queryAug_right (q chosen h1 h2 h3 h4) (r : Fin 256) (e : Fin 128) :
    queryAug q chosen h1 h2 h3 h4 (ix2 r (Fin.natAdd 128 e)) = if h : e.val < 8 then (if chosen (ix2 ⟨e, h⟩ r) = 1#1 then 0 else ⊥) else 0 := by
  unfold queryAug biasOf
  pointwise
  have h0 : ¬ (Fin.natAdd 128 e).val < 128 := by simp
  rw [dif_neg h0]
  have h1 : (Fin.natAdd 128 e).val - 128 = e.val := by simp
  simp only [h1]
  rfl

/-- A score is the sum of the products of an extended query and an extended key. -/
theorem scoresOf_apply (n : ℕ) (qa K) (r : Fin 256) (k : Fin n) :
    scoresOf n qa K (ix2 r k) = (∑ d : Fin 128, qa (ix2 r (Fin.castAdd 128 d)) * K (ix2 k (Fin.castAdd 128 d)))
      + ∑ e : Fin 128, qa (ix2 r (Fin.natAdd 128 e)) * K (ix2 k (Fin.natAdd 128 e)) := by
  unfold scoresOf
  rw [← ix2_eq]
  refine (Ideal.matmul_transposedRhs_apply none qa K (constant (Mat 256 n) .f32 0x00000000#32) r k).trans ?_
  rw [← Fin.sum_univ_add (a := 128) (b := 128) fun e => qa (ix2 r e) * K (ix2 k e)]
  simp only [ix2_eq, constant_apply]
  pointwise

/-- The row that holds a key and the one-hot of its block. -/
def keyAug (xk : ℕ → Fin 128 → ℝ) (k : ℕ) (e : Fin 256) : EReal :=
  if h : e.val < 128 then ((xk k ⟨e, h⟩ : ℝ) : EReal) else if e.val - 128 = k / 256 then 1 else 0

/-- The row that holds a value and ones. -/
def valAug (xv : ℕ → Fin 128 → ℝ) (k : ℕ) (e : Fin 256) : EReal :=
  if h : e.val < 128 then ((xv k ⟨e, h⟩ : ℝ) : EReal) else 1

open Classical in
theorem scoresOf_queryAug (n : ℕ) (hn8 : n ≤ 2048) (q chosen h1 h2 h3 h4) (K : FVec Ideal (Mat n 256) .bf16) (xq : Fin 128 → ℝ) (xk : ℕ → Fin 128 → ℝ)
    (r : Fin 256) (hq : ∀ d, q (ix2 r d) = ((xq d : ℝ) : EReal)) (hK : ∀ k e, K (ix2 k e) = keyAug xk k.val e) (k : Fin n) :
    scoresOf n (queryAug q chosen h1 h2 h3 h4) K (ix2 r k)
      = Cert.Proof.score (chosen (ix2 ⟨k.val / 256, by omega⟩ r) = 1#1) (∑ d, xq d * xk k d) := by
  rw [scoresOf_apply]
  simp only [queryAug_left, queryAug_right, hq, hK]
  have e1 : ∀ d : Fin 128, keyAug xk k (Fin.castAdd 128 d) = ((xk k d : ℝ) : EReal) := fun d => dif_pos d.isLt
  have e2 : ∀ e : Fin 128, keyAug xk k (Fin.natAdd 128 e) = if e = ⟨k.val / 256, by omega⟩ then 1 else 0 := by
    intro e
    have h0 : ¬ (Fin.natAdd 128 e).val < 128 := by simp
    unfold keyAug
    rw [dif_neg h0]
    exact if_congr (by simp [Fin.ext_iff]) rfl rfl
  simp only [e1, e2, mul_ite, mul_one, mul_zero, Finset.sum_ite_eq', Finset.mem_univ, if_true]
  rw [dif_pos (by omega)]
  simp only [← EReal.coe_mul, Cert.Proof.coe_sum]
  unfold Cert.Proof.score
  split
  · rw [add_zero]
  · exact EReal.add_bot _

open Classical in
/-- One head's attention for one block of queries. -/
theorem average_apply (n : ℕ) (s : FVec Ideal (Mat 256 n) .f32) (V : FVec Ideal (Mat n 256) .bf16) (a1 a2 a3 a4 a5 a6 b1 b2 b3)
    (r : Fin 256) (c : Fin 128) (ok : Fin n → Prop) (d : Fin n → ℝ) (xv : ℕ → Fin 128 → ℝ)
    (hs : ∀ k, s (ix2 r k) = Cert.Proof.score (ok k) (d k)) (hV : ∀ k e, V (ix2 k e) = valAug xv k.val e) (hok : ∃ k, ok k) :
    averageOf n (weightsOf n s a1 a2 a3 a4 a5 a6) V b1 b2 b3 (ix2 r c)
      = ((((∑ k, Cert.Proof.weight (ok k) (d k * (11863283 / 134217728)) * xv k c) / ∑ k, Cert.Proof.weight (ok k) (d k * (11863283 / 134217728)) : ℝ)) : EReal) := by
  rw [averageOf_apply]
  simp only [weightsOf_apply, hs, hV]
  have e1 : ∀ k, valAug xv k (Fin.castAdd 128 c) = ((xv k c : ℝ) : EReal) := fun k => dif_pos c.isLt
  have e2 : ∀ k, valAug xv k (Fin.natAdd 128 c) = 1 := fun k => dif_neg (by simp)
  simp only [e1, e2, mul_one]
  exact Cert.Proof.average_exp2 ok d (fun k => xv k c) (11863283 / 134217728) (by norm_num) hok

/-- One step of the count of the blocks ahead. -/
def rankStep (gate : FVec Ideal S8x256 .f32) (j : ℕ) (acc : IVec S8x256 32) (h0 : S8x256.Iotas .tc 32 [0]) (h1 : S8x256.Slices ![j, 0] S1x256)
    (h2 : S1x256.Broadcasts S8x256) : IVec S8x256 32 :=
  addi acc (select (cmpf .ogt (broadcastTo S8x256 (extractStridedSlice S1x256 ![j, 0] gate h1) h2) gate) (broadcast S8x256 1#32)
    (select (cmpf .oeq (broadcastTo S8x256 (extractStridedSlice S1x256 ![j, 0] gate h1) h2) gate)
      (select (cmpi .sgt (iota .tc S8x256 32 [0] h0) (broadcast S8x256 (BitVec.ofNat 32 j))) (broadcast S8x256 1#32) (broadcast S8x256 0#32))
      (broadcast S8x256 0#32)))

/-- The count of the blocks ahead, over the listed blocks. -/
def rankWords (gate : FVec Ideal S8x256 .f32) (h0 : S8x256.Iotas .tc 32 [0]) (h2 : S1x256.Broadcasts S8x256)
    (l : List {j : ℕ // S8x256.Slices ![j, 0] S1x256}) : IVec S8x256 32 :=
  l.foldl (fun acc j => rankStep gate j.1 acc h0 j.2 h2) (broadcast S8x256 0#32)

/-- The chosen blocks among more than four. -/
def chosenOf (i : ℕ) (rank : IVec S8x256 32) (h0 : S8x256.Iotas .tc 32 [0]) : IVec S8x256 1 :=
  cmpi .slt (select (cmpi .slt (iota .tc S8x256 32 [0] h0) (broadcast S8x256 (BitVec.ofNat 32 i))) rank
    (select (cmpi .eq (iota .tc S8x256 32 [0] h0) (broadcast S8x256 (BitVec.ofNat 32 i))) (broadcast S8x256 0#32) (broadcast S8x256 3#32)))
    (broadcast S8x256 3#32)

/-- The chosen blocks among at most four. -/
def chosenFirst (i : ℕ) (h0 : S8x256.Iotas .tc 32 [0]) : IVec S8x256 1 :=
  cmpi .sle (iota .tc S8x256 32 [0] h0) (broadcast S8x256 (BitVec.ofNat 32 i))

/-- The gates. -/
def gateOf (km : FVec Ideal S8x128 .f32) (q : FVec Ideal S256x128 .bf16) (h : FTy.bits .bf16 < FTy.bits .f32) : FVec Ideal S8x256 .f32 :=
  matmul (DotDims.transposedRhs 8 128 256) none (truncf .bf16 km h) q (constant S8x256 .f32 0x00000000#32)

/-- The gate of a block and a query is the product of the mean key and the query. -/
theorem gateOf_apply (km q h) (a : Fin 8) (r : Fin 256) (y x : Fin 128 → ℝ) (hy : ∀ d, km (ix2 a d) = ((y d : ℝ) : EReal))
    (hx : ∀ d, q (ix2 r d) = ((x d : ℝ) : EReal)) : gateOf km q h (ix2 a r) = ((∑ d, y d * x d : ℝ) : EReal) := by
  unfold gateOf
  rw [← ix2_eq]
  refine (Ideal.matmul_transposedRhs_apply none (truncf .bf16 km h) q (constant S8x256 .f32 0x00000000#32) a r).trans ?_
  simp only [ix2_eq, truncf_apply, hx]
  have : ∀ d, FloatOps.truncf FTy.bf16 h (km (ix2 a d)) = ((y d : ℝ) : EReal) := hy
  simp only [this, ← EReal.coe_mul, Cert.Proof.coe_sum]
  pointwise

open Classical in
theorem rankStep_apply (gate : FVec Ideal S8x256 .f32) (j acc h0 h1 h2) (hj : j < 8) (a : Fin 8) (r : Fin 256) (g : Fin 8 → ℝ)
    (hg : ∀ b, gate (ix2 b r) = ((g b : ℝ) : EReal)) :
    rankStep gate j acc h0 h1 h2 (ix2 a r) = acc (ix2 a r) + if g a < g ⟨j, hj⟩ ∨ (g ⟨j, hj⟩ = g a ∧ j < a.val) then 1#32 else 0#32 := by
  unfold rankStep
  pointwise
  rw [cmpi_sgt _ _ (by omega) (by omega), Scalar.select_ofBool, hg, hg]
  refine congrArg (acc (ix2 a r) + ·) ?_
  by_cases h1 : g a < g ⟨j, hj⟩
  · simp [h1]
  · by_cases h2 : g ⟨j, hj⟩ = g a
    · simp [h2]
    · simp [h1, h2]

open Classical in
/-- The number of the listed blocks ahead of a block. -/
def countAhead (g : Fin 8 → ℝ) (a : Fin 8) (l : List ℕ) : ℕ :=
  (l.map fun j => if ∃ h : j < 8, g a < g ⟨j, h⟩ ∨ (g ⟨j, h⟩ = g a ∧ j < a.val) then 1 else 0).sum

/-- The rank of a block is the number of past blocks whose gate comes before its own. -/
theorem rankWords_apply (gate : FVec Ideal S8x256 .f32) (h0 h2) (a : Fin 8) (r : Fin 256) (g : Fin 8 → ℝ)
    (hg : ∀ b, gate (ix2 b r) = ((g b : ℝ) : EReal)) (l : List {j : ℕ // S8x256.Slices ![j, 0] S1x256}) (hl : ∀ j ∈ l, j.1 < 8) :
    rankWords gate h0 h2 l (ix2 a r) = BitVec.ofNat 32 (countAhead g a (l.map Subtype.val)) := by
  have key : ∀ (l : List {j : ℕ // S8x256.Slices ![j, 0] S1x256}) (_ : ∀ j ∈ l, j.1 < 8) (acc : IVec S8x256 32) (N : ℕ),
      acc (ix2 a r) = BitVec.ofNat 32 N →
      (l.foldl (fun acc j => rankStep gate j.1 acc h0 j.2 h2) acc) (ix2 a r) = BitVec.ofNat 32 (N + countAhead g a (l.map Subtype.val)) := by
    intro l
    induction l with
    | nil => intro _ acc N h; simpa [countAhead] using h
    | cons j l ih =>
      intro hl acc N h
      rw [List.foldl_cons]
      have hj : j.1 < 8 := hl j (by simp)
      rw [ih (fun k hk => hl k (by simp [hk])) _ (N + if g a < g ⟨j.1, hj⟩ ∨ (g ⟨j.1, hj⟩ = g a ∧ j.1 < a.val) then 1 else 0)]
      · simp [countAhead, hj, add_assoc]
      · rw [rankStep_apply gate j.1 acc h0 j.2 h2 hj a r g hg, h]
        split <;> simp [BitVec.ofNat_add]
  have := key l hl (broadcast S8x256 0#32) 0 rfl
  rwa [zero_add] at this

/-- The count over the past blocks is the rank among the past blocks. -/
theorem rank_masked (g : Fin 8 → ℝ) (i : ℕ) (hi : i < 8) (a : Fin 8) (ha : a.val < i) :
    countAhead g a (List.range i) = Cert.Proof.rank (Cert.Proof.masked g i) a := by
  unfold countAhead Cert.Proof.rank
  rw [Finset.card_filter]
  simp only [Cert.Proof.ahead_masked g i a _ ha]
  rw [← List.sum_toFinset _ (List.nodup_range), List.toFinset_range]
  have e : ∀ x : Fin 8, (if x.val < i ∧ (g a < g x ∨ g x = g a ∧ x < a) then 1 else 0)
      = (fun j : ℕ => if j < i then (if ∃ h : j < 8, g a < g ⟨j, h⟩ ∨ (g ⟨j, h⟩ = g a ∧ j < a.val) then 1 else 0) else 0) x.val := by
    intro x
    have hx := x.isLt
    simp only [hx, exists_true_left, Fin.eta, Fin.lt_def, ite_and]
  rw [Finset.sum_congr rfl fun x _ => e x,
    Fin.sum_univ_eq_sum_range (fun j : ℕ => if j < i then (if ∃ h : j < 8, g a < g ⟨j, h⟩ ∨ (g ⟨j, h⟩ = g a ∧ j < a.val) then 1 else 0) else 0) 8,
    ← Finset.sum_filter (· < i)]
  refine Finset.sum_congr ?_ fun _ _ => rfl
  ext j
  simp only [Finset.mem_range, Finset.mem_filter]
  omega

/-- A count over a list is at most its length. -/
theorem countAhead_le (g : Fin 8 → ℝ) (a : Fin 8) (l : List ℕ) : countAhead g a l ≤ l.length := by
  unfold countAhead
  induction l with
  | nil => simp
  | cons j l ih =>
    rw [List.map_cons, List.sum_cons, List.length_cons]
    split <;> omega

/-- The chosen blocks: the past ones of rank less than three, and the own one. -/
theorem chosenOf_apply (i : ℕ) (hi : i < 8) (rank h0) (a : Fin 8) (r : Fin 256) (N : ℕ) (hN : N ≤ 8) (h : rank (ix2 a r) = BitVec.ofNat 32 N) :
    chosenOf i rank h0 (ix2 a r) = 1#1 ↔ ((a.val < i ∧ N < 3) ∨ a.val = i) := by
  unfold chosenOf
  pointwise
  rw [cmpi_slt _ _ (by omega) (by omega), cmpi_eq _ _ (by omega) (by omega), Scalar.select_ofBool, Scalar.select_ofBool, h]
  simp only [decide_eq_true_eq]
  have e : (if a.val < i then BitVec.ofNat 32 N else if a.val = i then 0#32 else 3#32)
      = BitVec.ofNat 32 (if a.val < i then N else if a.val = i then 0 else 3) := by
    split
    · rfl
    · split <;> rfl
  rw [e, cmpi_slt _ 3 (by split <;> [skip; split] <;> omega) (by omega), ofBool_decide_eq]
  split
  · simp only [*, true_and]; omega
  · split <;> simp [*]

/-- With at most three past blocks, all of them are chosen, and the own one. -/
theorem chosenFirst_apply (i : ℕ) (hi : i < 8) (h0) (a : Fin 8) (r : Fin 256) :
    chosenFirst i h0 (ix2 a r) = 1#1 ↔ a.val ≤ i := by
  unfold chosenFirst
  pointwise
  rw [cmpi_sle _ _ (by omega) (by omega), ofBool_decide_eq]

/-- With at most three past blocks each has rank less than three. -/
theorem rank_lt_three (g : Fin 8 → ℝ) (i : ℕ) (hi : i ≤ 3) (a : Fin 8) (ha : a.val < i) :
    Cert.Proof.rank (Cert.Proof.masked g i) a < 3 := by
  rw [← rank_masked g i (by omega) a ha]
  unfold countAhead
  have : ∀ l : List ℕ, a.val ∈ l → (l.map fun j => if ∃ h : j < 8, g a < g ⟨j, h⟩ ∨ (g ⟨j, h⟩ = g a ∧ j < a.val) then 1 else 0).sum < l.length := by
    intro l
    induction l with
    | nil => simp
    | cons j l ih =>
      intro hm
      rw [List.map_cons, List.sum_cons, List.length_cons]
      by_cases hj : j = a.val
      · have h0 : ¬ ∃ h : j < 8, g a < g ⟨j, h⟩ ∨ (g ⟨j, h⟩ = g a ∧ j < a.val) := by
          subst hj; simp
        rw [if_neg h0]
        have := countAhead_le g a l
        unfold countAhead at this
        omega
      · have := ih (by rcases List.mem_cons.1 hm with h | h; exact absurd h.symm hj; exact h)
        split <;> omega
  have := this (List.range i) (List.mem_range.2 ha)
  rw [List.length_range] at this
  omega

open Classical in
/-- The attention of one block of queries in one head, from the chosen blocks. -/
theorem block_apply (i n p : ℕ) (hi : i < 8) (hp : p = i * 256) (hn : n = p + 256) (s : FVec Ideal (Mat 256 n) .f32)
    (q chosen c1 c2 c3 c4) (K V : FVec Ideal (Mat n 256) .bf16) (a1 a2 a3 a4 a5 a6 b1 b2 b3)
    (r : Fin 256) (c : Fin 128) (g : Fin 8 → ℝ) (xq : Fin 128 → ℝ) (xk xv : ℕ → Fin 128 → ℝ)
    (hs : ∀ k, s (ix2 r k) = if k.val ≤ p + r.val then scoresOf n (queryAug q chosen c1 c2 c3 c4) K (ix2 r k) else ⊥)
    (hc : ∀ a : Fin 8, chosen (ix2 a r) = 1#1 ↔ ((a.val < i ∧ Cert.Proof.rank (Cert.Proof.masked g i) a < 3) ∨ a.val = i))
    (hq : ∀ d, q (ix2 r d) = ((xq d : ℝ) : EReal)) (hK : ∀ k e, K (ix2 k e) = keyAug xk k.val e) (hV : ∀ k e, V (ix2 k e) = valAug xv k.val e) :
    averageOf n (weightsOf n s a1 a2 a3 a4 a5 a6) V b1 b2 b3 (ix2 r c)
      = ((Cert.Proof.attend g i r (fun j => (∑ d, xq d * xk j d) * (11863283 / 134217728)) (fun j => xv j c) : ℝ) : EReal) := by
  have hsk : ∀ k : Fin n, s (ix2 r k) = Cert.Proof.score (Cert.Proof.Seen g i r k) (∑ d, xq d * xk k d) := by
    intro k
    have hk := k.isLt
    have hr := r.isLt
    rw [hs, scoresOf_queryAug n (by omega) q chosen c1 c2 c3 c4 K xq xk r hq hK k]
    unfold Cert.Proof.score
    simp only [hc]
    rw [← ite_and]
    refine if_congr ?_ rfl rfl
    unfold Cert.Proof.Seen
    have h8 : k.val / 256 < 8 := by omega
    simp only [h8, exists_true_left]
    by_cases hb : k.val / 256 < i
    · have h1 : k.val ≤ p + r.val := by omega
      have h2 : ¬ k.val / 256 = i := by omega
      simp only [h1, hb, h2, true_and, false_and, or_false]
    · have h2 : k.val / 256 = i := by omega
      have h3 : k.val ≤ p + r.val ↔ k.val % 256 ≤ r.val := by omega
      simp only [hb, h2, h3, lt_irrefl, false_and, false_or, true_and, and_true]
  have hok : ∃ k : Fin n, Cert.Proof.Seen g i r k := by
    refine ⟨⟨p, by omega⟩, Or.inr ⟨?_, ?_⟩⟩
    · show p / 256 = i; omega
    · show p % 256 ≤ r.val; omega
  rw [average_apply n s V a1 a2 a3 a4 a5 a6 b1 b2 b3 r c (fun k => Cert.Proof.Seen g i r k) (fun k => ∑ d, xq d * xk k d) xv hsk hV hok]
  unfold Cert.Proof.attend
  have h1 := Cert.Proof.sum_upto g i r n hi (by omega) (fun k => Cert.Proof.Seen g i r k) (fun _ => Iff.rfl)
    (fun j => (∑ d, xq d * xk j d) * (11863283 / 134217728)) (fun j => xv j c)
  have h2 := Cert.Proof.sum_upto g i r n hi (by omega) (fun k => Cert.Proof.Seen g i r k) (fun _ => Iff.rfl)
    (fun j => (∑ d, xq d * xk j d) * (11863283 / 134217728)) (fun _ => 1)
  simp only [mul_one] at h2
  rw [h1, h2]

/-- One head's attention for the queries of one of the blocks four to seven. -/
theorem late_apply (i n p : ℕ) (hi : i < 8) (hp : p = i * 256) (hn : n = p + 256) (l : List {j : ℕ // S8x256.Slices ![j, 0] S1x256})
    (hl : l.map Subtype.val = List.range i) (km : FVec Ideal S8x128 .f32) (q : FVec Ideal S256x128 .bf16) (K V : FVec Ideal (Mat n 256) .bf16)
    (g0 g1 g2 g3 c1 c2 c3 c4 a1 a2 a3 a4 a5 a6 b1 b2 b3 s0 s1 s2 s3 s4)
    (r : Fin 256) (c : Fin 128) (y : Fin 8 → Fin 128 → ℝ) (xq : Fin 128 → ℝ) (xk xv : ℕ → Fin 128 → ℝ)
    (hy : ∀ a d, km (ix2 a d) = ((y a d : ℝ) : EReal)) (hq : ∀ d, q (ix2 r d) = ((xq d : ℝ) : EReal))
    (hK : ∀ k e, K (ix2 k e) = keyAug xk k.val e) (hV : ∀ k e, V (ix2 k e) = valAug xv k.val e) :
    averageOf n (weightsOf n (causalTail n p (scoresOf n (queryAug q (chosenOf i (rankWords (gateOf km q g0) g1 g2 l) g3) c1 c2 c3 c4) K) s0 s1 s2 s3 s4)
        a1 a2 a3 a4 a5 a6) V b1 b2 b3 (ix2 r c)
      = ((Cert.Proof.attend (fun a => ∑ d, y a d * xq d) i r (fun j => (∑ d, xq d * xk j d) * (11863283 / 134217728)) (fun j => xv j c) : ℝ) : EReal) := by
  refine block_apply i n p hi hp hn _ q _ c1 c2 c3 c4 K V a1 a2 a3 a4 a5 a6 b1 b2 b3 r c _ xq xk xv
    (fun k => causalTail_apply n p hn _ s0 s1 s2 s3 s4 r k) (fun a => ?_) hq hK hV
  have hl8 : ∀ j ∈ l, j.1 < 8 := by
    intro j hj
    have h : j.1 ∈ l.map Subtype.val := List.mem_map_of_mem hj
    rw [hl, List.mem_range] at h
    omega
  have hr := rankWords_apply (gateOf km q g0) g1 g2 a r (fun a => ∑ d, y a d * xq d) (fun b => gateOf_apply km q g0 b r (y b) xq (hy b) hq) l hl8
  rw [hl] at hr
  have hle := countAhead_le (fun a => ∑ d, y a d * xq d) a (List.range i)
  rw [List.length_range] at hle
  rw [chosenOf_apply i hi _ g3 a r _ (by omega) hr]
  refine or_congr (and_congr_right fun ha => ?_) Iff.rfl
  rw [rank_masked _ i hi a ha]

/-- One head's attention for the queries of one of the blocks one to three, which attend to every block before them. -/
theorem early_apply (i n p : ℕ) (hi : i ≤ 3) (hp : p = i * 256) (hn : n = p + 256)
    (q : FVec Ideal S256x128 .bf16) (K V : FVec Ideal (Mat n 256) .bf16)
    (g3 c1 c2 c3 c4 a1 a2 a3 a4 a5 a6 b1 b2 b3 s0 s1 s2 s3 s4)
    (r : Fin 256) (c : Fin 128) (g : Fin 8 → ℝ) (xq : Fin 128 → ℝ) (xk xv : ℕ → Fin 128 → ℝ)
    (hq : ∀ d, q (ix2 r d) = ((xq d : ℝ) : EReal))
    (hK : ∀ k e, K (ix2 k e) = keyAug xk k.val e) (hV : ∀ k e, V (ix2 k e) = valAug xv k.val e) :
    averageOf n (weightsOf n (causalTail n p (scoresOf n (queryAug q (chosenFirst i g3) c1 c2 c3 c4) K) s0 s1 s2 s3 s4)
        a1 a2 a3 a4 a5 a6) V b1 b2 b3 (ix2 r c)
      = ((Cert.Proof.attend g i r (fun j => (∑ d, xq d * xk j d) * (11863283 / 134217728)) (fun j => xv j c) : ℝ) : EReal) := by
  refine block_apply i n p (by omega) hp hn _ q _ c1 c2 c3 c4 K V a1 a2 a3 a4 a5 a6 b1 b2 b3 r c g xq xk xv
    (fun k => causalTail_apply n p hn _ s0 s1 s2 s3 s4 r k) (fun a => ?_) hq hK hV
  rw [chosenFirst_apply i (by omega)]
  constructor
  · intro h
    rcases Nat.lt_or_eq_of_le h with h | h
    · exact Or.inl ⟨h, rank_lt_three g i hi a h⟩
    · exact Or.inr h
  · rintro (h | h) <;> omega

/-- One head's attention for the queries of the first block. -/
theorem first_apply (q : FVec Ideal S256x128 .bf16) (K V : FVec Ideal (Mat 256 256) .bf16)
    (g3 c1 c2 c3 c4 a1 a2 a3 a4 a5 a6 b1 b2 b3 s0 s1)
    (r : Fin 256) (c : Fin 128) (g : Fin 8 → ℝ) (xq : Fin 128 → ℝ) (xk xv : ℕ → Fin 128 → ℝ)
    (hq : ∀ d, q (ix2 r d) = ((xq d : ℝ) : EReal))
    (hK : ∀ k e, K (ix2 k e) = keyAug xk k.val e) (hV : ∀ k e, V (ix2 k e) = valAug xv k.val e) :
    averageOf 256 (weightsOf 256 (causal (scoresOf 256 (queryAug q (chosenFirst 0 g3) c1 c2 c3 c4) K) s0 s1)
        a1 a2 a3 a4 a5 a6) V b1 b2 b3 (ix2 r c)
      = ((Cert.Proof.attend g 0 r (fun j => (∑ d, xq d * xk j d) * (11863283 / 134217728)) (fun j => xv j c) : ℝ) : EReal) := by
  refine block_apply 0 256 0 (by omega) rfl rfl _ q (chosenFirst 0 g3) c1 c2 c3 c4 K V a1 a2 a3 a4 a5 a6 b1 b2 b3 r c g xq xk xv
    (fun k => ?_) (fun a => ?_) hq hK hV
  · rw [causal_apply, zero_add]
  · rw [chosenFirst_apply 0 (by omega)]
    constructor
    · intro h; exact Or.inr (by omega)
    · rintro (h | h) <;> omega

end Cert.KernelIdeal

end
-- ==== Proof.Buffers.lean ====
module

public import proofs.«01_k».proof.Proof.Head
public import proofs.«01_k».proof.Proof.Gen.KernelIdeal.Frame
public import Idealize.ShloMosaic.Lib.Pipeline.ValueKit

@[expose] public section

set_option maxRecDepth 16384

noncomputable section

namespace Cert.KernelIdeal

open Idealize.ShloMosaic Idealize.ShloMosaic.TcCoe Finset

/-- A load of the first `n` rows of one head's part of a scratch buffer reads the buffer's contents. -/
theorem squeezed_load {κ : Kind} {sp : Space} (v : View sig κ sp S4x2048x256 .bf16) (L : List (View.Piece (Elt Ideal) S4x2048x256 .bf16)) (hh n : ℕ) (hhh : hh < 4) (hn : n ≤ 2048)
    (inbA : ∀ a, (![hh, 0, 0] : Fin 3 → ℕ) a + (![1, 2048, 256] : Fin 3 → ℕ) a ≤ S4x2048x256.size a)
    (inbB : ∀ a, (![0, 0] : Fin 2 → ℕ) a + (![n, 256] : Fin 2 → ℕ) a ≤ S2048x256.size a)
    (h0 : (![1, 2048, 256] : Fin 3 → ℕ) 0 = 1) (hs : ∀ i : Fin 2, (![1, 2048, 256] : Fin 3 → ℕ) i.succ = (![2048, 256] : Fin 2 → ℕ) i)
    (h₀ : ∀ a, (Rect.unit (s := S4x2048x256) ![hh, 0, 0] ![1, 2048, 256] inbA).stride a = 1)
    (hR : (Rect.unit (s := S2048x256) ![0, 0] ![n, 256] inbB).toLoadRect.shape.numel
      = ((Rect.unit (s := S4x2048x256) ![hh, 0, 0] ![1, 2048, 256] inbA).withinL
          ((Rect.unit (s := S2048x256) ![0, 0] ![n, 256] inbB).toLoadRect.consLift ![1, 2048, 256] h0 hs) h₀).shape.numel)
    (k : Fin n) (e : Fin 256) :
    LoadRect.valAlong hR (v.readCov L ((Rect.unit (s := S4x2048x256) ![hh, 0, 0] ![1, 2048, 256] inbA).withinL
          ((Rect.unit (s := S2048x256) ![0, 0] ![n, 256] inbB).toLoadRect.consLift ![1, 2048, 256] h0 hs) h₀)) (ix2 k e)
      = View.canon L (ix3 ⟨hh, hhh⟩ (Fin.castLE hn k) e) := by
  rw [View.readCov_eq_canon']
  refine congrArg (View.canon L) ?_
  have hx := Shape.reshapeEquiv_cons_one (d := ![n, 256]) hR (ix2 k e)
  refine (congrArg _ hx).trans ?_
  funext a
  refine Fin.ext ?_
  match a with
  | ⟨0, _⟩ => show hh + 0 + 1 * 0 = hh; omega
  | ⟨1, _⟩ => show 0 + 0 + 1 * k.val = k.val; omega
  | ⟨2, _⟩ => show 0 + 0 + 1 * e.val = e.val; omega

/-- Which block a key is in, as the kernel computes it. -/
def blockWords (h0 : S2048x128.Iotas .tc 32 [0]) (hw : 1 < 32) : IVec S2048x128 32 :=
  select (andi (cmpi .ne (subi (extui 32 (cmpi .sgt (iota .tc S2048x128 32 [0] h0) (broadcast S2048x128 0#32)) hw)
      (extui 32 (cmpi .slt (iota .tc S2048x128 32 [0] h0) (broadcast S2048x128 0#32)) hw)) (broadcast S2048x128 1#32))
      (cmpi .ne (remsi (iota .tc S2048x128 32 [0] h0) (broadcast S2048x128 256#32)) (broadcast S2048x128 0#32)))
    (subi (divsi (iota .tc S2048x128 32 [0] h0) (broadcast S2048x128 256#32)) (broadcast S2048x128 1#32))
    (divsi (iota .tc S2048x128 32 [0] h0) (broadcast S2048x128 256#32))

/-- The one-hot columns of the keys' blocks. -/
def oneHot (h0 : S2048x128.Iotas .tc 32 [0]) (h1 : S2048x128.Iotas .tc 32 [1]) (hw : 1 < 32) (hb : FTy.bits .bf16 < FTy.bits .f32) :
    FVec Ideal S2048x128 .bf16 :=
  truncf .bf16 (select (cmpi .eq (iota .tc S2048x128 32 [1] h1) (blockWords h0 hw))
    (broadcast S2048x128 (Scalar.ofBits (F := Ideal) .f32 0x3F800000#32)) (broadcast S2048x128 (Scalar.ofBits (F := Ideal) .f32 0x00000000#32))) hb

/-- The word beside key `k` is the number of the block of `k`. -/
theorem blockWords_apply (h0 hw) (k : Fin 2048) (e : Fin 128) : blockWords h0 hw (ix2 k e) = BitVec.ofNat 32 (k.val / 256) := by
  have h : ∀ k : Fin 2048, Scalar.select (IntOp.andi (IntOp.cmpi .ne (IntOp.subi ((IntOp.cmpi .sgt (BitVec.ofNat 32 k.val) 0#32).setWidth 32)
      ((IntOp.cmpi .slt (BitVec.ofNat 32 k.val) 0#32).setWidth 32)) 1#32) (IntOp.cmpi .ne (IntOp.remsi .vector (BitVec.ofNat 32 k.val) 256#32) 0#32))
      (IntOp.subi (IntOp.divsi .vector (BitVec.ofNat 32 k.val) 256#32) 1#32) (IntOp.divsi .vector (BitVec.ofNat 32 k.val) 256#32)
        = BitVec.ofNat 32 (k.val / 256) := by
    decide +kernel
  unfold blockWords
  pointwise
  exact h k

/-- The columns beside the keys are one where the column is the number of the block of the key, else zero. -/
theorem oneHot_apply (h0 h1 hw hb) (k : Fin 2048) (e : Fin 128) :
    oneHot h0 h1 hw hb (ix2 k e) = if e.val = k.val / 256 then (1 : EReal) else 0 := by
  unfold oneHot
  rw [truncf_apply]
  show Scalar.select (IntOp.cmpi .eq (iota .tc S2048x128 32 [1] h1 (ix2 k e)) (blockWords h0 hw (ix2 k e))) _ _ = _
  rw [blockWords_apply]
  pointwise
  rw [cmpi_eq _ _ (by omega) (by omega), Scalar.select_ofBool]
  simp only [decide_eq_true_eq]

/-- The pieces of a scratch buffer: each head's columns of an array, and further columns. -/
def headPieces (X : FVec Ideal S2048x512 .bf16) (W : FVec Ideal S2048x128 .bf16)
    (q : ∀ h o : ℕ, h < 4 → o ≤ 128 → ∀ a, (![h, 0, o] : Fin 3 → ℕ) a + (![1, 2048, 128] : Fin 3 → ℕ) a ≤ S4x2048x256.size a)
    (p : ∀ o : ℕ, o ≤ 384 → ∀ a, (![0, o] : Fin 2 → ℕ) a + (![2048, 128] : Fin 2 → ℕ) a ≤ S2048x512.size a)
    (c : S2048x128.ShapeCasts S1x2048x128) : List (View.Piece (Elt Ideal) S4x2048x256 .bf16) :=
  [⟨Rect.unit ![3, 0, 128] ![1, 2048, 128] (q 3 128 (by omega) (by omega)), shapeCast S1x2048x128 W c⟩,
   ⟨Rect.unit ![3, 0, 0] ![1, 2048, 128] (q 3 0 (by omega) (by omega)), shapeCast S1x2048x128 (View.ld X (Rect.unit ![0, 384] ![2048, 128] (p 384 (by omega)))) c⟩,
   ⟨Rect.unit ![2, 0, 128] ![1, 2048, 128] (q 2 128 (by omega) (by omega)), shapeCast S1x2048x128 W c⟩,
   ⟨Rect.unit ![2, 0, 0] ![1, 2048, 128] (q 2 0 (by omega) (by omega)), shapeCast S1x2048x128 (View.ld X (Rect.unit ![0, 256] ![2048, 128] (p 256 (by omega)))) c⟩,
   ⟨Rect.unit ![1, 0, 128] ![1, 2048, 128] (q 1 128 (by omega) (by omega)), shapeCast S1x2048x128 W c⟩,
   ⟨Rect.unit ![1, 0, 0] ![1, 2048, 128] (q 1 0 (by omega) (by omega)), shapeCast S1x2048x128 (View.ld X (Rect.unit ![0, 128] ![2048, 128] (p 128 (by omega)))) c⟩,
   ⟨Rect.unit ![0, 0, 128] ![1, 2048, 128] (q 0 128 (by omega) (by omega)), shapeCast S1x2048x128 W c⟩,
   ⟨Rect.unit ![0, 0, 0] ![1, 2048, 128] (q 0 0 (by omega) (by omega)), shapeCast S1x2048x128 (View.ld X (Rect.unit ![0, 0] ![2048, 128] (p 0 (by omega)))) c⟩]

/-- The pieces stored for the heads cover the whole buffer. -/
theorem headPieces_cover (X W q p c) (y : S4x2048x256.Idx) : ∃ r ∈ headPieces X W q p c, y ∈ r.1.set := by
  have y0 : (y 0).val < 4 := (y 0).isLt
  have y1 : (y 1).val < 2048 := (y 1).isLt
  have y2 : (y 2).val < 256 := (y 2).isLt
  have key : ∀ (a o : ℕ) (inb), (y 0).val = a → o ≤ (y 2).val → (y 2).val < o + 128 → y ∈ (Rect.unit (s := S4x2048x256) ![a, 0, o] ![1, 2048, 128] inb).set := by
    intro a o inb h0 h1 h2
    rw [Rect.mem_set_unit]
    intro b
    match b with
    | ⟨0, _⟩ => exact ⟨h0.ge, by show (y 0).val < a + 1; omega⟩
    | ⟨1, _⟩ => exact ⟨Nat.zero_le _, by show (y 1).val < 0 + 2048; omega⟩
    | ⟨2, _⟩ => exact ⟨h1, h2⟩
  unfold headPieces
  simp only [List.mem_cons, List.not_mem_nil, or_false, exists_eq_or_imp, exists_eq_left]
  rcases Nat.lt_or_ge (y 2).val 128 with h | h
  · obtain h0 | h0 | h0 | h0 : (y 0).val = 0 ∨ (y 0).val = 1 ∨ (y 0).val = 2 ∨ (y 0).val = 3 := by omega
    · exact .inr (.inr (.inr (.inr (.inr (.inr (.inr (key _ _ _ h0 (by omega) (by omega))))))))
    · exact .inr (.inr (.inr (.inr (.inr (.inl (key _ _ _ h0 (by omega) (by omega)))))))
    · exact .inr (.inr (.inr (.inl (key _ _ _ h0 (by omega) (by omega)))))
    · exact .inr (.inl (key _ _ _ h0 (by omega) (by omega)))
  · obtain h0 | h0 | h0 | h0 : (y 0).val = 0 ∨ (y 0).val = 1 ∨ (y 0).val = 2 ∨ (y 0).val = 3 := by omega
    · exact .inr (.inr (.inr (.inr (.inr (.inr (.inl (key _ _ _ h0 (by omega) (by omega))))))))
    · exact .inr (.inr (.inr (.inr (.inl (key _ _ _ h0 (by omega) (by omega))))))
    · exact .inr (.inr (.inl (key _ _ _ h0 (by omega) (by omega))))
    · exact .inl (key _ _ _ h0 (by omega) (by omega))

/-- A block stored under a leading axis of size one, at an index. -/
theorem stored_apply (W : FVec Ideal S2048x128 .bf16) (c : S2048x128.ShapeCasts S1x2048x128) (x : S1x2048x128.Idx) :
    shapeCast S1x2048x128 W c x = W (ix2 (x 1) (x 2)) := by
  refine (shapeCast_addUnit_apply ![2048, 128] W c x).trans (congrArg W ?_)
  funext a
  match a with
  | ⟨0, _⟩ => rfl
  | ⟨1, _⟩ => rfl

/-- A piece of further columns. -/
theorem tail_piece (W : FVec Ideal S2048x128 .bf16) (c : S2048x128.ShapeCasts S1x2048x128) (y : S4x2048x256.Idx) (x : S1x2048x128.Idx)
    (h1 : (y 1).val = (x 1).val) (h2 : (y 2).val = 128 + (x 2).val) {A : (y 2).val < 128 → EReal} :
    shapeCast S1x2048x128 W c x = if h : (y 2).val < 128 then A h
        else W (ix2 (y 1) ⟨(y 2).val - 128, by have : (y 2).val < 256 := (y 2).isLt; omega⟩) := by
  rw [dif_neg (by omega), stored_apply]
  refine congrArg W ?_
  funext a
  refine Fin.ext ?_
  match a with
  | ⟨0, _⟩ => exact h1.symm
  | ⟨1, _⟩ => show (x 2).val = (y 2).val - 128; omega

/-- A piece of one head's columns. -/
theorem head_piece (X : FVec Ideal S2048x512 .bf16) (c : S2048x128.ShapeCasts S1x2048x128) (y : S4x2048x256.Idx) (x : S1x2048x128.Idx)
    (o : ℕ) (B : FVec Ideal S2048x128 .bf16)
    (hB : ∀ (p : ∀ a, (![0, o] : Fin 2 → ℕ) a + (![2048, 128] : Fin 2 → ℕ) a ≤ S2048x512.size a) i, B i = X ((Rect.unit (s := S2048x512) ![0, o] ![2048, 128] p).idx i)) (ho : o = 128 * (y 0).val)
    (h1 : (y 1).val = (x 1).val) (h2 : (y 2).val = (x 2).val) {A : ¬ (y 2).val < 128 → EReal} :
    shapeCast S1x2048x128 B c x
      = if h : (y 2).val < 128 then X (ix2 (y 1) ⟨128 * (y 0).val + (y 2).val, by have : (y 0).val < 4 := (y 0).isLt; omega⟩) else A h := by
  have h0 : (y 0).val < 4 := (y 0).isLt
  have x2 : (x 2).val < 128 := (x 2).isLt
  have p : ∀ a, (![0, o] : Fin 2 → ℕ) a + (![2048, 128] : Fin 2 → ℕ) a ≤ S2048x512.size a := by
    intro a
    match a with
    | ⟨0, _⟩ => show 0 + 2048 ≤ 2048; omega
    | ⟨1, _⟩ => show o + 128 ≤ 512; omega
  rw [dif_pos (by omega), stored_apply, hB p]
  refine congrArg X ?_
  funext a
  refine Fin.ext ?_
  match a with
  | ⟨0, _⟩ => show 0 + 1 * (x 1).val = (y 1).val; omega
  | ⟨1, _⟩ => show o + 1 * (x 2).val = 128 * (y 0).val + (y 2).val; omega

/-- The contents of a scratch buffer. -/
theorem headPieces_canon (X W q p c) (y : S4x2048x256.Idx) : View.canon (headPieces X W q p c) y
      = if h : (y 2).val < 128 then X (ix2 (y 1) ⟨128 * (y 0).val + (y 2).val, by have : (y 0).val < 4 := (y 0).isLt; omega⟩)
        else W (ix2 (y 1) ⟨(y 2).val - 128, by have : (y 2).val < 256 := (y 2).isLt; omega⟩) := by
  have hcover := headPieces_cover X W q p c y
  unfold headPieces at hcover ⊢
  canon_tiles x h using hcover
  case piece1 => exact head_piece X c y x 384 _ (fun _ _ => rfl) (by omega) (by omega) (by omega)
  case piece3 => exact head_piece X c y x 256 _ (fun _ _ => rfl) (by omega) (by omega) (by omega)
  case piece5 => exact head_piece X c y x 128 _ (fun _ _ => rfl) (by omega) (by omega) (by omega)
  case piece7 => exact head_piece X c y x 0 _ (fun _ _ => rfl) (by omega) (by omega) (by omega)
  all_goals exact tail_piece W c y x (by omega) (by omega)

/-- The keys' scratch buffer: each head's keys, then the one-hot columns of their blocks. -/
theorem keys_canon (X q p c h0 h1 hw hb) (x : ℕ → ℕ → ℝ) (hX : ∀ k e, X (ix2 k e) = ((x k.val e.val : ℝ) : EReal))
    (hh : Fin 4) (k : Fin 2048) (e : Fin 256) :
    View.canon (headPieces X (oneHot h0 h1 hw hb) q p c) (ix3 hh k e) = keyAug (fun k d => x k (128 * hh.val + d.val)) k.val e := by
  rw [headPieces_canon]
  show (if h : e.val < 128 then X (ix2 k ⟨128 * hh.val + e.val, _⟩) else oneHot h0 h1 hw hb (ix2 k ⟨e.val - 128, _⟩)) = _
  unfold keyAug
  by_cases h : e.val < 128
  · rw [dif_pos h, dif_pos h, hX]
  · rw [dif_neg h, dif_neg h, oneHot_apply]

/-- The values' scratch buffer: each head's values, then columns of ones. -/
theorem vals_canon (X q p c) (x : ℕ → ℕ → ℝ) (hX : ∀ k e, X (ix2 k e) = ((x k.val e.val : ℝ) : EReal))
    (hh : Fin 4) (k : Fin 2048) (e : Fin 256) :
    View.canon (headPieces X (broadcast S2048x128 (FloatOps.ofBits .bf16 0x3F80#16)) q p c) (ix3 hh k e)
      = valAug (fun k d => x k (128 * hh.val + d.val)) k.val e := by
  rw [headPieces_canon]
  show (if h : e.val < 128 then X (ix2 k ⟨128 * hh.val + e.val, _⟩) else FloatOps.ofBits .bf16 0x3F80#16) = _
  unfold valAug
  by_cases h : e.val < 128
  · rw [dif_pos h, dif_pos h, hX]
  · rw [dif_neg h, dif_neg h]
    exact Ideal.ofBits_one_bf16

end Cert.KernelIdeal

end
-- ==== Proof.KernelValue.lean ====
module

public import proofs.«01_k».proof.Proof.Gen.KernelIdeal.Frame
public import Idealize.ShloMosaic.Lib.Pipeline.ValueKit
public import proofs.«01_k».proof.Proof.Buffers

@[expose] public section

set_option maxRecDepth 16384

noncomputable section

namespace Cert.KernelIdeal.Gen

open Idealize.ShloMosaic Idealize.SL.Sem Idealize.ShloMosaic.TcCoe
open Idealize.ShloMosaic.Pipeline (Dat Cfg Window cellOf)
open Idealize.SL Idealize.SL.RA Idealize.SL.BI

/-- The attention of the query in row `R` of all sequences' rows and of the head that has column `C`, at that column: the array `x` holds
    the queries, the keys and the values side by side, the array `y` the means of each block's keys. -/
def attn (x y : ℕ → ℕ → ℝ) (R C : ℕ) : ℝ :=
  Cert.Proof.attend (fun a => ∑ d : Fin 128, y (R / 2048 * 8 + a.val) (C / 128 * 128 + d.val) * x R (C / 128 * 128 + d.val)) (R % 2048 / 256) (R % 256)
    (fun j => (∑ d : Fin 128, x R (C / 128 * 128 + d.val) * x (R / 2048 * 2048 + j) (1024 + (C / 128 * 128 + d.val))) * (11863283 / 134217728))
    (fun j => x (R / 2048 * 2048 + j) (2048 + C))

/-- The same within one point's blocks: four heads of one sequence. -/
def attnBlock (q k v y : ℕ → ℕ → ℝ) (i hh r e : ℕ) : ℝ :=
  Cert.Proof.attend (fun a => ∑ d : Fin 128, y a.val (128 * hh + d.val) * q (256 * i + r) (128 * hh + d.val)) i r
    (fun j => (∑ d : Fin 128, q (256 * i + r) (128 * hh + d.val) * k j (128 * hh + d.val)) * (11863283 / 134217728))
    (fun j => v j (128 * hh + e))

/-- The blocks of a point hold the attention's arguments. -/
theorem attnBlock_eq (x y : ℕ → ℕ → ℝ) (b s i hh r e : ℕ) (hi : i < 8) (hr : r < 256) (he : e < 128) :
    attnBlock (fun a c => x (2048 * b + a) (512 * s + c)) (fun a c => x (2048 * b + a) (512 * (2 + s) + c))
        (fun a c => x (2048 * b + a) (512 * (4 + s) + c)) (fun a c => y (8 * b + a) (512 * s + c)) i hh r e
      = attn x y (2048 * b + (256 * i + r)) (512 * s + (128 * hh + e)) := by
  have h1 : (2048 * b + (256 * i + r)) / 2048 = b := by omega
  have h2 : (2048 * b + (256 * i + r)) % 2048 / 256 = i := by omega
  have h3 : (2048 * b + (256 * i + r)) % 256 = r := by omega
  have h4 : (512 * s + (128 * hh + e)) / 128 * 128 = 512 * s + 128 * hh := by omega
  have h5 : ∀ d, 1024 + (512 * s + (128 * hh + d)) = 512 * (2 + s) + (128 * hh + d) := fun d => by omega
  have h6 : 2048 + (512 * s + (128 * hh + e)) = 512 * (4 + s) + (128 * hh + e) := by omega
  unfold attnBlock attn
  simp only [h1, h2, h3, h4, h5, h6, Nat.mul_comm b, add_assoc]

/-- The rectangles of a scratch buffer are inside it. -/
theorem headRects : ∀ h o : ℕ, h < 4 → o ≤ 128 → ∀ a, (![h, 0, o] : Fin 3 → ℕ) a + (![1, 2048, 128] : Fin 3 → ℕ) a ≤ S4x2048x256.size a := by
  intro h o hh ho a
  match a with
  | ⟨0, _⟩ => show h + 1 ≤ 4; omega
  | ⟨1, _⟩ => show 0 + 2048 ≤ 2048; omega
  | ⟨2, _⟩ => show o + 128 ≤ 256; omega

/-- The rectangles of a block's columns are inside it. -/
theorem colRects : ∀ o : ℕ, o ≤ 384 → ∀ a, (![0, o] : Fin 2 → ℕ) a + (![2048, 128] : Fin 2 → ℕ) a ≤ S2048x512.size a := by
  intro o ho a
  match a with
  | ⟨0, _⟩ => show 0 + 2048 ≤ 2048; omega
  | ⟨1, _⟩ => show o + 128 ≤ 512; omega

/-- A part of a block, at an index. -/
theorem part_apply {A B n k : ℕ} {e : EltTy} (X : Vec Ideal (Mat A B) e) (o o' : ℕ) (p) (r : Fin n) (d : Fin k) (h : o + r.val < A) (h' : o' + d.val < B) :
    View.ld X (Rect.unit (s := Mat A B) ![o, o'] ![n, k] p) (ix2 r d) = X (ix2 ⟨o + r.val, h⟩ ⟨o' + d.val, h'⟩) := by
  refine congrArg X ?_
  funext a
  refine Fin.ext ?_
  match a with
  | ⟨0, _⟩ => show o + 1 * r.val = o + r.val; omega
  | ⟨1, _⟩ => show o' + 1 * d.val = o' + d.val; omega

/-- The keys' scratch buffer, as a head's rows are loaded from it. -/
theorem keys_loaded {κ : Kind} {sp : Space} (v : View sig κ sp S4x2048x256 .bf16) (X c h0 h1 hw hb) (x : ℕ → ℕ → ℝ)
    (hX : ∀ k e, X (ix2 k e) = ((x k.val e.val : ℝ) : EReal)) (hh n : ℕ) (hhh : hh < 4) (hn : n ≤ 2048)
    (inbA : ∀ a, (![hh, 0, 0] : Fin 3 → ℕ) a + (![1, 2048, 256] : Fin 3 → ℕ) a ≤ S4x2048x256.size a)
    (inbB : ∀ a, (![0, 0] : Fin 2 → ℕ) a + (![n, 256] : Fin 2 → ℕ) a ≤ S2048x256.size a)
    (q0 : (![1, 2048, 256] : Fin 3 → ℕ) 0 = 1) (qs : ∀ i : Fin 2, (![1, 2048, 256] : Fin 3 → ℕ) i.succ = (![2048, 256] : Fin 2 → ℕ) i)
    (q₀ : ∀ a, (Rect.unit (s := S4x2048x256) ![hh, 0, 0] ![1, 2048, 256] inbA).stride a = 1)
    (hR : (Rect.unit (s := S2048x256) ![0, 0] ![n, 256] inbB).toLoadRect.shape.numel
      = ((Rect.unit (s := S4x2048x256) ![hh, 0, 0] ![1, 2048, 256] inbA).withinL
          ((Rect.unit (s := S2048x256) ![0, 0] ![n, 256] inbB).toLoadRect.consLift ![1, 2048, 256] q0 qs) q₀).shape.numel)
    (k : Fin n) (e : Fin 256) :
    LoadRect.valAlong hR (v.readCov (headPieces X (oneHot h0 h1 hw hb) headRects colRects c)
        ((Rect.unit (s := S4x2048x256) ![hh, 0, 0] ![1, 2048, 256] inbA).withinL
          ((Rect.unit (s := S2048x256) ![0, 0] ![n, 256] inbB).toLoadRect.consLift ![1, 2048, 256] q0 qs) q₀)) (ix2 k e)
      = keyAug (fun k d => x k (128 * hh + d.val)) k.val e :=
  (squeezed_load v _ hh n hhh hn inbA inbB q0 qs q₀ hR k e).trans (keys_canon X headRects colRects c h0 h1 hw hb x hX ⟨hh, hhh⟩ (Fin.castLE hn k) e)

/-- The values' scratch buffer, as a head's rows are loaded from it. -/
theorem vals_loaded {κ : Kind} {sp : Space} (v : View sig κ sp S4x2048x256 .bf16) (X c) (x : ℕ → ℕ → ℝ)
    (hX : ∀ k e, X (ix2 k e) = ((x k.val e.val : ℝ) : EReal)) (hh n : ℕ) (hhh : hh < 4) (hn : n ≤ 2048)
    (inbA : ∀ a, (![hh, 0, 0] : Fin 3 → ℕ) a + (![1, 2048, 256] : Fin 3 → ℕ) a ≤ S4x2048x256.size a)
    (inbB : ∀ a, (![0, 0] : Fin 2 → ℕ) a + (![n, 256] : Fin 2 → ℕ) a ≤ S2048x256.size a)
    (q0 : (![1, 2048, 256] : Fin 3 → ℕ) 0 = 1) (qs : ∀ i : Fin 2, (![1, 2048, 256] : Fin 3 → ℕ) i.succ = (![2048, 256] : Fin 2 → ℕ) i)
    (q₀ : ∀ a, (Rect.unit (s := S4x2048x256) ![hh, 0, 0] ![1, 2048, 256] inbA).stride a = 1)
    (hR : (Rect.unit (s := S2048x256) ![0, 0] ![n, 256] inbB).toLoadRect.shape.numel
      = ((Rect.unit (s := S4x2048x256) ![hh, 0, 0] ![1, 2048, 256] inbA).withinL
          ((Rect.unit (s := S2048x256) ![0, 0] ![n, 256] inbB).toLoadRect.consLift ![1, 2048, 256] q0 qs) q₀).shape.numel)
    (k : Fin n) (e : Fin 256) :
    LoadRect.valAlong hR (v.readCov (headPieces X (broadcast S2048x128 (FloatOps.ofBits .bf16 0x3F80#16)) headRects colRects c)
        ((Rect.unit (s := S4x2048x256) ![hh, 0, 0] ![1, 2048, 256] inbA).withinL
          ((Rect.unit (s := S2048x256) ![0, 0] ![n, 256] inbB).toLoadRect.consLift ![1, 2048, 256] q0 qs) q₀)) (ix2 k e)
      = valAug (fun k d => x k (128 * hh + d.val)) k.val e :=
  (squeezed_load v _ hh n hhh hn inbA inbB q0 qs q₀ hR k e).trans (vals_canon X headRects colRects c x hX ⟨hh, hhh⟩ (Fin.castLE hn k) e)

variable (m : (ℓ : Loc nD τ sig) → Buf (Elt Ideal) ℓ)

/-- The block indices of the windows. -/
theorem idx : ∀ t : Fin cfg0.N, win0_0.index t = ![t.val / 2, t.val % 2] ∧ win0_1.index t = ![t.val / 2, 2 + t.val % 2]
    ∧ win0_2.index t = ![t.val / 2, 4 + t.val % 2] ∧ win0_3.index t = ![t.val / 2, t.val % 2] ∧ win0_4.index t = ![t.val / 2, t.val % 2] :=
  (by decide +kernel : ∀ t : Fin grid0.N, _)

section Blocks

variable (x y : ℕ → ℕ → ℝ) (c : Dev nD)
  (hx : ∀ R C, (show S32768x3072.Idx → EReal from m ((c : Thread nD τ).loc main_arg0)) (ix2 R C) = ((x R.val C.val : ℝ) : EReal))
  (hy : ∀ R C, (show S128x1024.Idx → EReal from m ((c : Thread nD τ).loc main_arg1)) (ix2 R C) = ((y R.val C.val : ℝ) : EReal))

include hx in
theorem block0 (t : Fin cfg0.N) (k e) : (show S2048x512.Idx → EReal from iblk m c 0 t) (ix2 k e) = ((x (2048 * (t.val / 2) + k.val) (512 * (t.val % 2) + e.val) : ℝ) : EReal) := by
  have ht : t.val < 32 := t.isLt
  refine Eq.trans ?_ (hx ⟨2048 * (t.val / 2) + k.val, by omega⟩ ⟨512 * (t.val % 2) + e.val, by omega⟩)
  blk_ext [iblk, V, idx t]

include hx in
theorem block1 (t : Fin cfg0.N) (k e) : (show S2048x512.Idx → EReal from iblk m c 1 t) (ix2 k e) = ((x (2048 * (t.val / 2) + k.val) (512 * (2 + t.val % 2) + e.val) : ℝ) : EReal) := by
  have ht : t.val < 32 := t.isLt
  refine Eq.trans ?_ (hx ⟨2048 * (t.val / 2) + k.val, by omega⟩ ⟨512 * (2 + t.val % 2) + e.val, by omega⟩)
  blk_ext [iblk, V, idx t]

include hx in
theorem block2 (t : Fin cfg0.N) (k e) : (show S2048x512.Idx → EReal from iblk m c 2 t) (ix2 k e) = ((x (2048 * (t.val / 2) + k.val) (512 * (4 + t.val % 2) + e.val) : ℝ) : EReal) := by
  have ht : t.val < 32 := t.isLt
  refine Eq.trans ?_ (hx ⟨2048 * (t.val / 2) + k.val, by omega⟩ ⟨512 * (4 + t.val % 2) + e.val, by omega⟩)
  blk_ext [iblk, V, idx t]

include hy in
theorem block3 (t : Fin cfg0.N) (k e) : (show S8x512.Idx → EReal from iblk m c 3 t) (ix2 k e) = ((y (8 * (t.val / 2) + k.val) (512 * (t.val % 2) + e.val) : ℝ) : EReal) := by
  have ht : t.val < 32 := t.isLt
  refine Eq.trans ?_ (hy ⟨8 * (t.val / 2) + k.val, by omega⟩ ⟨512 * (t.val % 2) + e.val, by omega⟩)
  blk_ext [iblk, V, idx t]

end Blocks

/-- Where an element of the written block lies. -/
theorem written_at (x y : ℕ → ℕ → ℝ) (t : Fin cfg0.N) (z : ((cfg0.win 4).xblock (cfg0.grid.coords t)).Idx) (i hh r e : ℕ) (hi : i < 8) (hr : r < 256) (he : e < 128)
    (h0 : (z 0).val = 256 * i + r) (h1 : (z 1).val = 128 * hh + e) :
    ((attnBlock (fun a c => x (2048 * (t.val / 2) + a) (512 * (t.val % 2) + c)) (fun a c => x (2048 * (t.val / 2) + a) (512 * (2 + t.val % 2) + c))
        (fun a c => x (2048 * (t.val / 2) + a) (512 * (4 + t.val % 2) + c)) (fun a c => y (8 * (t.val / 2) + a) (512 * (t.val % 2) + c)) i hh r e : ℝ) : EReal)
      = ((attn x y (win0_4.index t 0 * 2048 + (z 0).val) (win0_4.index t 1 * 512 + (z 1).val) : ℝ) : EReal) := by
  rw [attnBlock_eq x y _ _ i hh r e hi hr he, ← h0, ← h1, (idx t).2.2.2.2]
  show ((attn x y _ _ : ℝ) : EReal) = ((attn x y (t.val / 2 * 2048 + _) (t.val % 2 * 512 + _) : ℝ) : EReal)
  rw [Nat.mul_comm 2048, Nat.mul_comm 512]

/-- The array the kernel writes is the attention. -/
theorem final (x y : ℕ → ℕ → ℝ) (c : Dev nD)
    (hx : ∀ R C, (show S32768x3072.Idx → EReal from m ((c : Thread nD τ).loc main_arg0)) (ix2 R C) = ((x R.val C.val : ℝ) : EReal))
    (hy : ∀ R C, (show S128x1024.Idx → EReal from m ((c : Thread nD τ).loc main_arg1)) (ix2 R C) = ((y R.val C.val : ℝ) : EReal)) :
    (dats m 0 c).arrAt 4 (cfgs 0).N = fun j : S32768x1024.Idx => ((attn x y (j 0).val (j 1).val : ℝ) : EReal) := by
  refine (dats m 0 c).arrAt_eq_of_covers 4 _ (by decide +kernel) fun t hf z => ?_
  have hB0 := block0 m x c hx t
  have hB1 := block1 m x c hx t
  have hB2 := block2 m x c hx t
  have hB3 := block3 m y c hy t
  blk_simp
  rw [after0_4]
  unfold outsAt0
  frame_out
  canon_tiles w h
  case piece0 =>
    obtain ⟨r, e, rfl⟩ : ∃ r e, w = ix2 r e := ⟨w 0, w 1, by funext a; match a with | ⟨0, _⟩ => rfl | ⟨1, _⟩ => rfl⟩
    refine (late_apply 7 2048 1792 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩, ⟨5, slices_S8x256_o5_0_S1x256⟩, ⟨6, slices_S8x256_o6_0_S1x256⟩] rfl
      _ _ _ _ _ _ _ _ _ _ _ _ _ _ _ _ _ _ _ _ _ _ _ slices_S256x2048_o0_0_S256x1792 slices_S256x2048_o0_1792_S256x256 concatenates_S256x1792_S256x256_S256x2048_d1 r e
      (fun a d => y (8 * (t.val / 2) + a.val) (512 * (t.val % 2) + (128 * 3 + d.val)))
      (fun d => x (2048 * (t.val / 2) + (256 * 7 + r.val)) (512 * (t.val % 2) + (128 * 3 + d.val)))
      (fun k d => x (2048 * (t.val / 2) + k) (512 * (2 + t.val % 2) + (128 * 3 + d.val))) (fun k d => x (2048 * (t.val / 2) + k) (512 * (4 + t.val % 2) + (128 * 3 + d.val))) ?_ ?_ ?_ ?_).trans ?_
    · exact fun a d => (part_apply _ 0 384 _ a d (by omega) (by omega)).trans ((hB3 _ _).trans (by simp only [Nat.zero_add, Nat.mul_zero]))
    · exact fun d => (part_apply _ 1792 384 _ r d (by omega) (by omega)).trans (hB0 _ _)
    · exact fun k e => keys_loaded _ _ _ _ _ _ _ (fun a c => x (2048 * (t.val / 2) + a) (512 * (2 + t.val % 2) + c)) hB1 3 2048 (by decide) (by decide) _ _ _ _ _ _ k e
    · exact fun k e => vals_loaded _ _ _ (fun a c => x (2048 * (t.val / 2) + a) (512 * (4 + t.val % 2) + c)) hB2 3 2048 (by decide) (by decide) _ _ _ _ _ _ k e
    · exact written_at x y t z 7 3 r.val e.val (by decide) r.isLt e.isLt h0 h1
  case piece1 =>
    obtain ⟨r, e, rfl⟩ : ∃ r e, w = ix2 r e := ⟨w 0, w 1, by funext a; match a with | ⟨0, _⟩ => rfl | ⟨1, _⟩ => rfl⟩
    refine (late_apply 7 2048 1792 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩, ⟨5, slices_S8x256_o5_0_S1x256⟩, ⟨6, slices_S8x256_o6_0_S1x256⟩] rfl
      _ _ _ _ _ _ _ _ _ _ _ _ _ _ _ _ _ _ _ _ _ _ _ slices_S256x2048_o0_0_S256x1792 slices_S256x2048_o0_1792_S256x256 concatenates_S256x1792_S256x256_S256x2048_d1 r e
      (fun a d => y (8 * (t.val / 2) + a.val) (512 * (t.val % 2) + (128 * 2 + d.val)))
      (fun d => x (2048 * (t.val / 2) + (256 * 7 + r.val)) (512 * (t.val % 2) + (128 * 2 + d.val)))
      (fun k d => x (2048 * (t.val / 2) + k) (512 * (2 + t.val % 2) + (128 * 2 + d.val))) (fun k d => x (2048 * (t.val / 2) + k) (512 * (4 + t.val % 2) + (128 * 2 + d.val))) ?_ ?_ ?_ ?_).trans ?_
    · exact fun a d => (part_apply _ 0 256 _ a d (by omega) (by omega)).trans ((hB3 _ _).trans (by simp only [Nat.zero_add, Nat.mul_zero]))
    · exact fun d => (part_apply _ 1792 256 _ r d (by omega) (by omega)).trans (hB0 _ _)
    · exact fun k e => keys_loaded _ _ _ _ _ _ _ (fun a c => x (2048 * (t.val / 2) + a) (512 * (2 + t.val % 2) + c)) hB1 2 2048 (by decide) (by decide) _ _ _ _ _ _ k e
    · exact fun k e => vals_loaded _ _ _ (fun a c => x (2048 * (t.val / 2) + a) (512 * (4 + t.val % 2) + c)) hB2 2 2048 (by decide) (by decide) _ _ _ _ _ _ k e
    · exact written_at x y t z 7 2 r.val e.val (by decide) r.isLt e.isLt h0 h1
  case piece2 =>
    obtain ⟨r, e, rfl⟩ : ∃ r e, w = ix2 r e := ⟨w 0, w 1, by funext a; match a with | ⟨0, _⟩ => rfl | ⟨1, _⟩ => rfl⟩
    refine (late_apply 7 2048 1792 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩, ⟨5, slices_S8x256_o5_0_S1x256⟩, ⟨6, slices_S8x256_o6_0_S1x256⟩] rfl
      _ _ _ _ _ _ _ _ _ _ _ _ _ _ _ _ _ _ _ _ _ _ _ slices_S256x2048_o0_0_S256x1792 slices_S256x2048_o0_1792_S256x256 concatenates_S256x1792_S256x256_S256x2048_d1 r e
      (fun a d => y (8 * (t.val / 2) + a.val) (512 * (t.val % 2) + (128 * 1 + d.val)))
      (fun d => x (2048 * (t.val / 2) + (256 * 7 + r.val)) (512 * (t.val % 2) + (128 * 1 + d.val)))
      (fun k d => x (2048 * (t.val / 2) + k) (512 * (2 + t.val % 2) + (128 * 1 + d.val))) (fun k d => x (2048 * (t.val / 2) + k) (512 * (4 + t.val % 2) + (128 * 1 + d.val))) ?_ ?_ ?_ ?_).trans ?_
    · exact fun a d => (part_apply _ 0 128 _ a d (by omega) (by omega)).trans ((hB3 _ _).trans (by simp only [Nat.zero_add, Nat.mul_zero]))
    · exact fun d => (part_apply _ 1792 128 _ r d (by omega) (by omega)).trans (hB0 _ _)
    · exact fun k e => keys_loaded _ _ _ _ _ _ _ (fun a c => x (2048 * (t.val / 2) + a) (512 * (2 + t.val % 2) + c)) hB1 1 2048 (by decide) (by decide) _ _ _ _ _ _ k e
    · exact fun k e => vals_loaded _ _ _ (fun a c => x (2048 * (t.val / 2) + a) (512 * (4 + t.val % 2) + c)) hB2 1 2048 (by decide) (by decide) _ _ _ _ _ _ k e
    · exact written_at x y t z 7 1 r.val e.val (by decide) r.isLt e.isLt h0 h1
  case piece3 =>
    obtain ⟨r, e, rfl⟩ : ∃ r e, w = ix2 r e := ⟨w 0, w 1, by funext a; match a with | ⟨0, _⟩ => rfl | ⟨1, _⟩ => rfl⟩
    refine (late_apply 7 2048 1792 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩, ⟨5, slices_S8x256_o5_0_S1x256⟩, ⟨6, slices_S8x256_o6_0_S1x256⟩] rfl
      _ _ _ _ _ _ _ _ _ _ _ _ _ _ _ _ _ _ _ _ _ _ _ slices_S256x2048_o0_0_S256x1792 slices_S256x2048_o0_1792_S256x256 concatenates_S256x1792_S256x256_S256x2048_d1 r e
      (fun a d => y (8 * (t.val / 2) + a.val) (512 * (t.val % 2) + (128 * 0 + d.val)))
      (fun d => x (2048 * (t.val / 2) + (256 * 7 + r.val)) (512 * (t.val % 2) + (128 * 0 + d.val)))
      (fun k d => x (2048 * (t.val / 2) + k) (512 * (2 + t.val % 2) + (128 * 0 + d.val))) (fun k d => x (2048 * (t.val / 2) + k) (512 * (4 + t.val % 2) + (128 * 0 + d.val))) ?_ ?_ ?_ ?_).trans ?_
    · exact fun a d => (part_apply _ 0 0 _ a d (by omega) (by omega)).trans ((hB3 _ _).trans (by simp only [Nat.zero_add, Nat.mul_zero]))
    · exact fun d => (part_apply _ 1792 0 _ r d (by omega) (by omega)).trans (hB0 _ _)
    · exact fun k e => keys_loaded _ _ _ _ _ _ _ (fun a c => x (2048 * (t.val / 2) + a) (512 * (2 + t.val % 2) + c)) hB1 0 2048 (by decide) (by decide) _ _ _ _ _ _ k e
    · exact fun k e => vals_loaded _ _ _ (fun a c => x (2048 * (t.val / 2) + a) (512 * (4 + t.val % 2) + c)) hB2 0 2048 (by decide) (by decide) _ _ _ _ _ _ k e
    · exact written_at x y t z 7 0 r.val e.val (by decide) r.isLt e.isLt h0 (h1.trans (Nat.zero_add _).symm)
  case piece4 =>
    obtain ⟨r, e, rfl⟩ : ∃ r e, w = ix2 r e := ⟨w 0, w 1, by funext a; match a with | ⟨0, _⟩ => rfl | ⟨1, _⟩ => rfl⟩
    refine (late_apply 6 1792 1536 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩, ⟨5, slices_S8x256_o5_0_S1x256⟩] rfl
      _ _ _ _ _ _ _ _ _ _ _ _ _ _ _ _ _ _ _ _ _ _ _ slices_S256x1792_o0_0_S256x1536 slices_S256x1792_o0_1536_S256x256 concatenates_S256x1536_S256x256_S256x1792_d1 r e
      (fun a d => y (8 * (t.val / 2) + a.val) (512 * (t.val % 2) + (128 * 3 + d.val)))
      (fun d => x (2048 * (t.val / 2) + (256 * 6 + r.val)) (512 * (t.val % 2) + (128 * 3 + d.val)))
      (fun k d => x (2048 * (t.val / 2) + k) (512 * (2 + t.val % 2) + (128 * 3 + d.val))) (fun k d => x (2048 * (t.val / 2) + k) (512 * (4 + t.val % 2) + (128 * 3 + d.val))) ?_ ?_ ?_ ?_).trans ?_
    · exact fun a d => (part_apply _ 0 384 _ a d (by omega) (by omega)).trans ((hB3 _ _).trans (by simp only [Nat.zero_add, Nat.mul_zero]))
    · exact fun d => (part_apply _ 1536 384 _ r d (by omega) (by omega)).trans (hB0 _ _)
    · exact fun k e => keys_loaded _ _ _ _ _ _ _ (fun a c => x (2048 * (t.val / 2) + a) (512 * (2 + t.val % 2) + c)) hB1 3 1792 (by decide) (by decide) _ _ _ _ _ _ k e
    · exact fun k e => vals_loaded _ _ _ (fun a c => x (2048 * (t.val / 2) + a) (512 * (4 + t.val % 2) + c)) hB2 3 1792 (by decide) (by decide) _ _ _ _ _ _ k e
    · exact written_at x y t z 6 3 r.val e.val (by decide) r.isLt e.isLt h0 h1
  case piece5 =>
    obtain ⟨r, e, rfl⟩ : ∃ r e, w = ix2 r e := ⟨w 0, w 1, by funext a; match a with | ⟨0, _⟩ => rfl | ⟨1, _⟩ => rfl⟩
    refine (late_apply 6 1792 1536 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩, ⟨5, slices_S8x256_o5_0_S1x256⟩] rfl
      _ _ _ _ _ _ _ _ _ _ _ _ _ _ _ _ _ _ _ _ _ _ _ slices_S256x1792_o0_0_S256x1536 slices_S256x1792_o0_1536_S256x256 concatenates_S256x1536_S256x256_S256x1792_d1 r e
      (fun a d => y (8 * (t.val / 2) + a.val) (512 * (t.val % 2) + (128 * 2 + d.val)))
      (fun d => x (2048 * (t.val / 2) + (256 * 6 + r.val)) (512 * (t.val % 2) + (128 * 2 + d.val)))
      (fun k d => x (2048 * (t.val / 2) + k) (512 * (2 + t.val % 2) + (128 * 2 + d.val))) (fun k d => x (2048 * (t.val / 2) + k) (512 * (4 + t.val % 2) + (128 * 2 + d.val))) ?_ ?_ ?_ ?_).trans ?_
    · exact fun a d => (part_apply _ 0 256 _ a d (by omega) (by omega)).trans ((hB3 _ _).trans (by simp only [Nat.zero_add, Nat.mul_zero]))
    · exact fun d => (part_apply _ 1536 256 _ r d (by omega) (by omega)).trans (hB0 _ _)
    · exact fun k e => keys_loaded _ _ _ _ _ _ _ (fun a c => x (2048 * (t.val / 2) + a) (512 * (2 + t.val % 2) + c)) hB1 2 1792 (by decide) (by decide) _ _ _ _ _ _ k e
    · exact fun k e => vals_loaded _ _ _ (fun a c => x (2048 * (t.val / 2) + a) (512 * (4 + t.val % 2) + c)) hB2 2 1792 (by decide) (by decide) _ _ _ _ _ _ k e
    · exact written_at x y t z 6 2 r.val e.val (by decide) r.isLt e.isLt h0 h1
  case piece6 =>
    obtain ⟨r, e, rfl⟩ : ∃ r e, w = ix2 r e := ⟨w 0, w 1, by funext a; match a with | ⟨0, _⟩ => rfl | ⟨1, _⟩ => rfl⟩
    refine (late_apply 6 1792 1536 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩, ⟨5, slices_S8x256_o5_0_S1x256⟩] rfl
      _ _ _ _ _ _ _ _ _ _ _ _ _ _ _ _ _ _ _ _ _ _ _ slices_S256x1792_o0_0_S256x1536 slices_S256x1792_o0_1536_S256x256 concatenates_S256x1536_S256x256_S256x1792_d1 r e
      (fun a d => y (8 * (t.val / 2) + a.val) (512 * (t.val % 2) + (128 * 1 + d.val)))
      (fun d => x (2048 * (t.val / 2) + (256 * 6 + r.val)) (512 * (t.val % 2) + (128 * 1 + d.val)))
      (fun k d => x (2048 * (t.val / 2) + k) (512 * (2 + t.val % 2) + (128 * 1 + d.val))) (fun k d => x (2048 * (t.val / 2) + k) (512 * (4 + t.val % 2) + (128 * 1 + d.val))) ?_ ?_ ?_ ?_).trans ?_
    · exact fun a d => (part_apply _ 0 128 _ a d (by omega) (by omega)).trans ((hB3 _ _).trans (by simp only [Nat.zero_add, Nat.mul_zero]))
    · exact fun d => (part_apply _ 1536 128 _ r d (by omega) (by omega)).trans (hB0 _ _)
    · exact fun k e => keys_loaded _ _ _ _ _ _ _ (fun a c => x (2048 * (t.val / 2) + a) (512 * (2 + t.val % 2) + c)) hB1 1 1792 (by decide) (by decide) _ _ _ _ _ _ k e
    · exact fun k e => vals_loaded _ _ _ (fun a c => x (2048 * (t.val / 2) + a) (512 * (4 + t.val % 2) + c)) hB2 1 1792 (by decide) (by decide) _ _ _ _ _ _ k e
    · exact written_at x y t z 6 1 r.val e.val (by decide) r.isLt e.isLt h0 h1
  case piece7 =>
    obtain ⟨r, e, rfl⟩ : ∃ r e, w = ix2 r e := ⟨w 0, w 1, by funext a; match a with | ⟨0, _⟩ => rfl | ⟨1, _⟩ => rfl⟩
    refine (late_apply 6 1792 1536 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩, ⟨5, slices_S8x256_o5_0_S1x256⟩] rfl
      _ _ _ _ _ _ _ _ _ _ _ _ _ _ _ _ _ _ _ _ _ _ _ slices_S256x1792_o0_0_S256x1536 slices_S256x1792_o0_1536_S256x256 concatenates_S256x1536_S256x256_S256x1792_d1 r e
      (fun a d => y (8 * (t.val / 2) + a.val) (512 * (t.val % 2) + (128 * 0 + d.val)))
      (fun d => x (2048 * (t.val / 2) + (256 * 6 + r.val)) (512 * (t.val % 2) + (128 * 0 + d.val)))
      (fun k d => x (2048 * (t.val / 2) + k) (512 * (2 + t.val % 2) + (128 * 0 + d.val))) (fun k d => x (2048 * (t.val / 2) + k) (512 * (4 + t.val % 2) + (128 * 0 + d.val))) ?_ ?_ ?_ ?_).trans ?_
    · exact fun a d => (part_apply _ 0 0 _ a d (by omega) (by omega)).trans ((hB3 _ _).trans (by simp only [Nat.zero_add, Nat.mul_zero]))
    · exact fun d => (part_apply _ 1536 0 _ r d (by omega) (by omega)).trans (hB0 _ _)
    · exact fun k e => keys_loaded _ _ _ _ _ _ _ (fun a c => x (2048 * (t.val / 2) + a) (512 * (2 + t.val % 2) + c)) hB1 0 1792 (by decide) (by decide) _ _ _ _ _ _ k e
    · exact fun k e => vals_loaded _ _ _ (fun a c => x (2048 * (t.val / 2) + a) (512 * (4 + t.val % 2) + c)) hB2 0 1792 (by decide) (by decide) _ _ _ _ _ _ k e
    · exact written_at x y t z 6 0 r.val e.val (by decide) r.isLt e.isLt h0 (h1.trans (Nat.zero_add _).symm)
  case piece8 =>
    obtain ⟨r, e, rfl⟩ : ∃ r e, w = ix2 r e := ⟨w 0, w 1, by funext a; match a with | ⟨0, _⟩ => rfl | ⟨1, _⟩ => rfl⟩
    refine (late_apply 5 1536 1280 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩] rfl
      _ _ _ _ _ _ _ _ _ _ _ _ _ _ _ _ _ _ _ _ _ _ _ slices_S256x1536_o0_0_S256x1280 slices_S256x1536_o0_1280_S256x256 concatenates_S256x1280_S256x256_S256x1536_d1 r e
      (fun a d => y (8 * (t.val / 2) + a.val) (512 * (t.val % 2) + (128 * 3 + d.val)))
      (fun d => x (2048 * (t.val / 2) + (256 * 5 + r.val)) (512 * (t.val % 2) + (128 * 3 + d.val)))
      (fun k d => x (2048 * (t.val / 2) + k) (512 * (2 + t.val % 2) + (128 * 3 + d.val))) (fun k d => x (2048 * (t.val / 2) + k) (512 * (4 + t.val % 2) + (128 * 3 + d.val))) ?_ ?_ ?_ ?_).trans ?_
    · exact fun a d => (part_apply _ 0 384 _ a d (by omega) (by omega)).trans ((hB3 _ _).trans (by simp only [Nat.zero_add, Nat.mul_zero]))
    · exact fun d => (part_apply _ 1280 384 _ r d (by omega) (by omega)).trans (hB0 _ _)
    · exact fun k e => keys_loaded _ _ _ _ _ _ _ (fun a c => x (2048 * (t.val / 2) + a) (512 * (2 + t.val % 2) + c)) hB1 3 1536 (by decide) (by decide) _ _ _ _ _ _ k e
    · exact fun k e => vals_loaded _ _ _ (fun a c => x (2048 * (t.val / 2) + a) (512 * (4 + t.val % 2) + c)) hB2 3 1536 (by decide) (by decide) _ _ _ _ _ _ k e
    · exact written_at x y t z 5 3 r.val e.val (by decide) r.isLt e.isLt h0 h1
  case piece9 =>
    obtain ⟨r, e, rfl⟩ : ∃ r e, w = ix2 r e := ⟨w 0, w 1, by funext a; match a with | ⟨0, _⟩ => rfl | ⟨1, _⟩ => rfl⟩
    refine (late_apply 5 1536 1280 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩] rfl
      _ _ _ _ _ _ _ _ _ _ _ _ _ _ _ _ _ _ _ _ _ _ _ slices_S256x1536_o0_0_S256x1280 slices_S256x1536_o0_1280_S256x256 concatenates_S256x1280_S256x256_S256x1536_d1 r e
      (fun a d => y (8 * (t.val / 2) + a.val) (512 * (t.val % 2) + (128 * 2 + d.val)))
      (fun d => x (2048 * (t.val / 2) + (256 * 5 + r.val)) (512 * (t.val % 2) + (128 * 2 + d.val)))
      (fun k d => x (2048 * (t.val / 2) + k) (512 * (2 + t.val % 2) + (128 * 2 + d.val))) (fun k d => x (2048 * (t.val / 2) + k) (512 * (4 + t.val % 2) + (128 * 2 + d.val))) ?_ ?_ ?_ ?_).trans ?_
    · exact fun a d => (part_apply _ 0 256 _ a d (by omega) (by omega)).trans ((hB3 _ _).trans (by simp only [Nat.zero_add, Nat.mul_zero]))
    · exact fun d => (part_apply _ 1280 256 _ r d (by omega) (by omega)).trans (hB0 _ _)
    · exact fun k e => keys_loaded _ _ _ _ _ _ _ (fun a c => x (2048 * (t.val / 2) + a) (512 * (2 + t.val % 2) + c)) hB1 2 1536 (by decide) (by decide) _ _ _ _ _ _ k e
    · exact fun k e => vals_loaded _ _ _ (fun a c => x (2048 * (t.val / 2) + a) (512 * (4 + t.val % 2) + c)) hB2 2 1536 (by decide) (by decide) _ _ _ _ _ _ k e
    · exact written_at x y t z 5 2 r.val e.val (by decide) r.isLt e.isLt h0 h1
  case piece10 =>
    obtain ⟨r, e, rfl⟩ : ∃ r e, w = ix2 r e := ⟨w 0, w 1, by funext a; match a with | ⟨0, _⟩ => rfl | ⟨1, _⟩ => rfl⟩
    refine (late_apply 5 1536 1280 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩] rfl
      _ _ _ _ _ _ _ _ _ _ _ _ _ _ _ _ _ _ _ _ _ _ _ slices_S256x1536_o0_0_S256x1280 slices_S256x1536_o0_1280_S256x256 concatenates_S256x1280_S256x256_S256x1536_d1 r e
      (fun a d => y (8 * (t.val / 2) + a.val) (512 * (t.val % 2) + (128 * 1 + d.val)))
      (fun d => x (2048 * (t.val / 2) + (256 * 5 + r.val)) (512 * (t.val % 2) + (128 * 1 + d.val)))
      (fun k d => x (2048 * (t.val / 2) + k) (512 * (2 + t.val % 2) + (128 * 1 + d.val))) (fun k d => x (2048 * (t.val / 2) + k) (512 * (4 + t.val % 2) + (128 * 1 + d.val))) ?_ ?_ ?_ ?_).trans ?_
    · exact fun a d => (part_apply _ 0 128 _ a d (by omega) (by omega)).trans ((hB3 _ _).trans (by simp only [Nat.zero_add, Nat.mul_zero]))
    · exact fun d => (part_apply _ 1280 128 _ r d (by omega) (by omega)).trans (hB0 _ _)
    · exact fun k e => keys_loaded _ _ _ _ _ _ _ (fun a c => x (2048 * (t.val / 2) + a) (512 * (2 + t.val % 2) + c)) hB1 1 1536 (by decide) (by decide) _ _ _ _ _ _ k e
    · exact fun k e => vals_loaded _ _ _ (fun a c => x (2048 * (t.val / 2) + a) (512 * (4 + t.val % 2) + c)) hB2 1 1536 (by decide) (by decide) _ _ _ _ _ _ k e
    · exact written_at x y t z 5 1 r.val e.val (by decide) r.isLt e.isLt h0 h1
  case piece11 =>
    obtain ⟨r, e, rfl⟩ : ∃ r e, w = ix2 r e := ⟨w 0, w 1, by funext a; match a with | ⟨0, _⟩ => rfl | ⟨1, _⟩ => rfl⟩
    refine (late_apply 5 1536 1280 (by decide) rfl rfl [⟨0, slices_S8x256_o0_0_S1x256⟩, ⟨1, slices_S8x256_o1_0_S1x256⟩, ⟨2, slices_S8x256_o2_0_S1x256⟩, ⟨3, slices_S8x256_o3_0_S1x256⟩, ⟨4, slices_S8x256_o4_0_S1x256⟩] rfl
      _ _ _ _ _ _ _ _ _ _ _ _ _ _ _ _ _ _ _ _ _ _ _ slices_S256x1536_o0_0_S256x1280 slices_S256x1536_o0_1280_S256x256 concatenates_S256x1280_S256x256_S256x1536_d1 r e
      (fun a d => y (8 * (t.val / 2) + a.val) (512 * (t.val % 2) + (128 * 0 + d.val)))
      (fun d => x (2048 * (t.val / 2) + (256 * 5 + r.val)) (512 * (t.val % 2) + (128 * 0 + d.val)))
      (fun k d => x (2048 * (t.val / 2) + k) (512 * (2 + t.val % 2) + (128 * 0 + d.val))) (fun k d => x (2048 * (t.val / 2) + k) (512 * (4 + t.val % 2) + (128 * 0 + d.val))) ?_ ?_ ?_ ?_).trans ?_
    · exact fun a d => (part_apply _ 0 0 _ a d (by omega) (by omega)).trans ((hB3 _ _).trans (by simp only [Nat.zero_add, Nat.mul_zero]))
    · exact fun d => (part_apply _ 1280 0 _ r d (by omega) (by omega)).trans (hB0 _ _)
    · exact fun k e => keys_loaded _ _ _ _ _ _ _ (fun a c => x (2048 * (t.val / 2) + a) (512 * (2 + t.val % 2) + c)) hB1 0 1536 (by decide) (by decide) _ _ _ _ _ _ k e
    · exact fun k e => vals_loaded _ _ _ (fun a c => x (2048 * (t.val / 2) + a) (512 * (4 + t.val % 2) + c)) hB2 0 1536 (by decide) (by decide) _ _ _ _ _ _ k e
    · exact written_at x y t z 5 0 r.val e.val (by decide) r.isLt e.isLt h0 (h1.trans (Nat.zero_add _).symm)
  case piece12 =>
    obtain ⟨r, e, rfl⟩ : ∃ r e, w = ix2 r e := ⟨w 0, w 1, by funext a; match a with | ⟨0, _⟩ => rfl | ⟨1, _⟩ => rfl⟩
    refine (late_apply 4 1280 1024 (by decide) rfl rfl [⟨0, slices_S8x256_o0_0_S1x256⟩, ⟨1, slices_S8x256_o1_0_S1x256⟩, ⟨2, slices_S8x256_o2_0_S1x256⟩, ⟨3, slices_S8x256_o3_0_S1x256⟩] rfl
      _ _ _ _ _ _ _ _ _ _ _ _ _ _ _ _ _ _ _ _ _ _ _ slices_S256x1280_o0_0_S256x1024 slices_S256x1280_o0_1024_S256x256 concatenates_S256x1024_S256x256_S256x1280_d1 r e
      (fun a d => y (8 * (t.val / 2) + a.val) (512 * (t.val % 2) + (128 * 3 + d.val)))
      (fun d => x (2048 * (t.val / 2) + (256 * 4 + r.val)) (512 * (t.val % 2) + (128 * 3 + d.val)))
      (fun k d => x (2048 * (t.val / 2) + k) (512 * (2 + t.val % 2) + (128 * 3 + d.val))) (fun k d => x (2048 * (t.val / 2) + k) (512 * (4 + t.val % 2) + (128 * 3 + d.val))) ?_ ?_ ?_ ?_).trans ?_
    · exact fun a d => (part_apply _ 0 384 _ a d (by omega) (by omega)).trans ((hB3 _ _).trans (by simp only [Nat.zero_add, Nat.mul_zero]))
    · exact fun d => (part_apply _ 1024 384 _ r d (by omega) (by omega)).trans (hB0 _ _)
    · exact fun k e => keys_loaded _ _ _ _ _ _ _ (fun a c => x (2048 * (t.val / 2) + a) (512 * (2 + t.val % 2) + c)) hB1 3 1280 (by decide) (by decide) _ _ _ _ _ _ k e
    · exact fun k e => vals_loaded _ _ _ (fun a c => x (2048 * (t.val / 2) + a) (512 * (4 + t.val % 2) + c)) hB2 3 1280 (by decide) (by decide) _ _ _ _ _ _ k e
    · exact written_at x y t z 4 3 r.val e.val (by decide) r.isLt e.isLt h0 h1
  case piece13 =>
    obtain ⟨r, e, rfl⟩ : ∃ r e, w = ix2 r e := ⟨w 0, w 1, by funext a; match a with | ⟨0, _⟩ => rfl | ⟨1, _⟩ => rfl⟩
    refine (late_apply 4 1280 1024 (by decide) rfl rfl [⟨0, slices_S8x256_o0_0_S1x256⟩, ⟨1, slices_S8x256_o1_0_S1x256⟩, ⟨2, slices_S8x256_o2_0_S1x256⟩, ⟨3, slices_S8x256_o3_0_S1x256⟩] rfl
      _ _ _ _ _ _ _ _ _ _ _ _ _ _ _ _ _ _ _ _ _ _ _ slices_S256x1280_o0_0_S256x1024 slices_S256x1280_o0_1024_S256x256 concatenates_S256x1024_S256x256_S256x1280_d1 r e
      (fun a d => y (8 * (t.val / 2) + a.val) (512 * (t.val % 2) + (128 * 2 + d.val)))
      (fun d => x (2048 * (t.val / 2) + (256 * 4 + r.val)) (512 * (t.val % 2) + (128 * 2 + d.val)))
      (fun k d => x (2048 * (t.val / 2) + k) (512 * (2 + t.val % 2) + (128 * 2 + d.val))) (fun k d => x (2048 * (t.val / 2) + k) (512 * (4 + t.val % 2) + (128 * 2 + d.val))) ?_ ?_ ?_ ?_).trans ?_
    · exact fun a d => (part_apply _ 0 256 _ a d (by omega) (by omega)).trans ((hB3 _ _).trans (by simp only [Nat.zero_add, Nat.mul_zero]))
    · exact fun d => (part_apply _ 1024 256 _ r d (by omega) (by omega)).trans (hB0 _ _)
    · exact fun k e => keys_loaded _ _ _ _ _ _ _ (fun a c => x (2048 * (t.val / 2) + a) (512 * (2 + t.val % 2) + c)) hB1 2 1280 (by decide) (by decide) _ _ _ _ _ _ k e
    · exact fun k e => vals_loaded _ _ _ (fun a c => x (2048 * (t.val / 2) + a) (512 * (4 + t.val % 2) + c)) hB2 2 1280 (by decide) (by decide) _ _ _ _ _ _ k e
    · exact written_at x y t z 4 2 r.val e.val (by decide) r.isLt e.isLt h0 h1
  case piece14 =>
    obtain ⟨r, e, rfl⟩ : ∃ r e, w = ix2 r e := ⟨w 0, w 1, by funext a; match a with | ⟨0, _⟩ => rfl | ⟨1, _⟩ => rfl⟩
    refine (late_apply 4 1280 1024 (by decide) rfl rfl [⟨0, slices_S8x256_o0_0_S1x256⟩, ⟨1, slices_S8x256_o1_0_S1x256⟩, ⟨2, slices_S8x256_o2_0_S1x256⟩, ⟨3, slices_S8x256_o3_0_S1x256⟩] rfl
      _ _ _ _ _ _ _ _ _ _ _ _ _ _ _ _ _ _ _ _ _ _ _ slices_S256x1280_o0_0_S256x1024 slices_S256x1280_o0_1024_S256x256 concatenates_S256x1024_S256x256_S256x1280_d1 r e
      (fun a d => y (8 * (t.val / 2) + a.val) (512 * (t.val % 2) + (128 * 1 + d.val)))
      (fun d => x (2048 * (t.val / 2) + (256 * 4 + r.val)) (512 * (t.val % 2) + (128 * 1 + d.val)))
      (fun k d => x (2048 * (t.val / 2) + k) (512 * (2 + t.val % 2) + (128 * 1 + d.val))) (fun k d => x (2048 * (t.val / 2) + k) (512 * (4 + t.val % 2) + (128 * 1 + d.val))) ?_ ?_ ?_ ?_).trans ?_
    · exact fun a d => (part_apply _ 0 128 _ a d (by omega) (by omega)).trans ((hB3 _ _).trans (by simp only [Nat.zero_add, Nat.mul_zero]))
    · exact fun d => (part_apply _ 1024 128 _ r d (by omega) (by omega)).trans (hB0 _ _)
    · exact fun k e => keys_loaded _ _ _ _ _ _ _ (fun a c => x (2048 * (t.val / 2) + a) (512 * (2 + t.val % 2) + c)) hB1 1 1280 (by decide) (by decide) _ _ _ _ _ _ k e
    · exact fun k e => vals_loaded _ _ _ (fun a c => x (2048 * (t.val / 2) + a) (512 * (4 + t.val % 2) + c)) hB2 1 1280 (by decide) (by decide) _ _ _ _ _ _ k e
    · exact written_at x y t z 4 1 r.val e.val (by decide) r.isLt e.isLt h0 h1
  case piece15 =>
    obtain ⟨r, e, rfl⟩ : ∃ r e, w = ix2 r e := ⟨w 0, w 1, by funext a; match a with | ⟨0, _⟩ => rfl | ⟨1, _⟩ => rfl⟩
    refine (late_apply 4 1280 1024 (by decide) rfl rfl [⟨0, slices_S8x256_o0_0_S1x256⟩, ⟨1, slices_S8x256_o1_0_S1x256⟩, ⟨2, slices_S8x256_o2_0_S1x256⟩, ⟨3, slices_S8x256_o3_0_S1x256⟩] rfl
      _ _ _ _ _ _ _ _ _ _ _ _ _ _ _ _ _ _ _ _ _ _ _ slices_S256x1280_o0_0_S256x1024 slices_S256x1280_o0_1024_S256x256 concatenates_S256x1024_S256x256_S256x1280_d1 r e
      (fun a d => y (8 * (t.val / 2) + a.val) (512 * (t.val % 2) + (128 * 0 + d.val)))
      (fun d => x (2048 * (t.val / 2) + (256 * 4 + r.val)) (512 * (t.val % 2) + (128 * 0 + d.val)))
      (fun k d => x (2048 * (t.val / 2) + k) (512 * (2 + t.val % 2) + (128 * 0 + d.val))) (fun k d => x (2048 * (t.val / 2) + k) (512 * (4 + t.val % 2) + (128 * 0 + d.val))) ?_ ?_ ?_ ?_).trans ?_
    · exact fun a d => (part_apply _ 0 0 _ a d (by omega) (by omega)).trans ((hB3 _ _).trans (by simp only [Nat.zero_add, Nat.mul_zero]))
    · exact fun d => (part_apply _ 1024 0 _ r d (by omega) (by omega)).trans (hB0 _ _)
    · exact fun k e => keys_loaded _ _ _ _ _ _ _ (fun a c => x (2048 * (t.val / 2) + a) (512 * (2 + t.val % 2) + c)) hB1 0 1280 (by decide) (by decide) _ _ _ _ _ _ k e
    · exact fun k e => vals_loaded _ _ _ (fun a c => x (2048 * (t.val / 2) + a) (512 * (4 + t.val % 2) + c)) hB2 0 1280 (by decide) (by decide) _ _ _ _ _ _ k e
    · exact written_at x y t z 4 0 r.val e.val (by decide) r.isLt e.isLt h0 (h1.trans (Nat.zero_add _).symm)
  case piece16 =>
    obtain ⟨r, e, rfl⟩ : ∃ r e, w = ix2 r e := ⟨w 0, w 1, by funext a; match a with | ⟨0, _⟩ => rfl | ⟨1, _⟩ => rfl⟩
    refine (early_apply 3 1024 768 (by decide) rfl rfl _ _ _ _ _ _ _ _ _ _ _ _ _ _ slices_S256x256_o0_0_S256x128 slices_S256x256_o0_128_S256x128 _ _ _ slices_S256x1024_o0_0_S256x768 slices_S256x1024_o0_768_S256x256 concatenates_S256x768_S256x256_S256x1024_d1 r e
      (fun a => ∑ d : Fin 128, y (8 * (t.val / 2) + a.val) (512 * (t.val % 2) + (128 * 3 + d.val)) * x (2048 * (t.val / 2) + (256 * 3 + r.val)) (512 * (t.val % 2) + (128 * 3 + d.val)))
      (fun d => x (2048 * (t.val / 2) + (256 * 3 + r.val)) (512 * (t.val % 2) + (128 * 3 + d.val)))
      (fun k d => x (2048 * (t.val / 2) + k) (512 * (2 + t.val % 2) + (128 * 3 + d.val))) (fun k d => x (2048 * (t.val / 2) + k) (512 * (4 + t.val % 2) + (128 * 3 + d.val))) ?_ ?_ ?_).trans ?_
    · exact fun d => (part_apply _ 768 384 _ r d (by omega) (by omega)).trans (hB0 _ _)
    · exact fun k e => keys_loaded _ _ _ _ _ _ _ (fun a c => x (2048 * (t.val / 2) + a) (512 * (2 + t.val % 2) + c)) hB1 3 1024 (by decide) (by decide) _ _ _ _ _ _ k e
    · exact fun k e => vals_loaded _ _ _ (fun a c => x (2048 * (t.val / 2) + a) (512 * (4 + t.val % 2) + c)) hB2 3 1024 (by decide) (by decide) _ _ _ _ _ _ k e
    · exact written_at x y t z 3 3 r.val e.val (by decide) r.isLt e.isLt h0 h1
  case piece17 =>
    obtain ⟨r, e, rfl⟩ : ∃ r e, w = ix2 r e := ⟨w 0, w 1, by funext a; match a with | ⟨0, _⟩ => rfl | ⟨1, _⟩ => rfl⟩
    refine (early_apply 3 1024 768 (by decide) rfl rfl _ _ _ _ _ _ _ _ _ _ _ _ _ _ slices_S256x256_o0_0_S256x128 slices_S256x256_o0_128_S256x128 _ _ _ slices_S256x1024_o0_0_S256x768 slices_S256x1024_o0_768_S256x256 concatenates_S256x768_S256x256_S256x1024_d1 r e
      (fun a => ∑ d : Fin 128, y (8 * (t.val / 2) + a.val) (512 * (t.val % 2) + (128 * 2 + d.val)) * x (2048 * (t.val / 2) + (256 * 3 + r.val)) (512 * (t.val % 2) + (128 * 2 + d.val)))
      (fun d => x (2048 * (t.val / 2) + (256 * 3 + r.val)) (512 * (t.val % 2) + (128 * 2 + d.val)))
      (fun k d => x (2048 * (t.val / 2) + k) (512 * (2 + t.val % 2) + (128 * 2 + d.val))) (fun k d => x (2048 * (t.val / 2) + k) (512 * (4 + t.val % 2) + (128 * 2 + d.val))) ?_ ?_ ?_).trans ?_
    · exact fun d => (part_apply _ 768 256 _ r d (by omega) (by omega)).trans (hB0 _ _)
    · exact fun k e => keys_loaded _ _ _ _ _ _ _ (fun a c => x (2048 * (t.val / 2) + a) (512 * (2 + t.val % 2) + c)) hB1 2 1024 (by decide) (by decide) _ _ _ _ _ _ k e
    · exact fun k e => vals_loaded _ _ _ (fun a c => x (2048 * (t.val / 2) + a) (512 * (4 + t.val % 2) + c)) hB2 2 1024 (by decide) (by decide) _ _ _ _ _ _ k e
    · exact written_at x y t z 3 2 r.val e.val (by decide) r.isLt e.isLt h0 h1
  case piece18 =>
    obtain ⟨r, e, rfl⟩ : ∃ r e, w = ix2 r e := ⟨w 0, w 1, by funext a; match a with | ⟨0, _⟩ => rfl | ⟨1, _⟩ => rfl⟩
    refine (early_apply 3 1024 768 (by decide) rfl rfl _ _ _ _ _ _ _ _ _ _ _ _ _ _ slices_S256x256_o0_0_S256x128 slices_S256x256_o0_128_S256x128 _ _ _ slices_S256x1024_o0_0_S256x768 slices_S256x1024_o0_768_S256x256 concatenates_S256x768_S256x256_S256x1024_d1 r e
      (fun a => ∑ d : Fin 128, y (8 * (t.val / 2) + a.val) (512 * (t.val % 2) + (128 * 1 + d.val)) * x (2048 * (t.val / 2) + (256 * 3 + r.val)) (512 * (t.val % 2) + (128 * 1 + d.val)))
      (fun d => x (2048 * (t.val / 2) + (256 * 3 + r.val)) (512 * (t.val % 2) + (128 * 1 + d.val)))
      (fun k d => x (2048 * (t.val / 2) + k) (512 * (2 + t.val % 2) + (128 * 1 + d.val))) (fun k d => x (2048 * (t.val / 2) + k) (512 * (4 + t.val % 2) + (128 * 1 + d.val))) ?_ ?_ ?_).trans ?_
    · exact fun d => (part_apply _ 768 128 _ r d (by omega) (by omega)).trans (hB0 _ _)
    · exact fun k e => keys_loaded _ _ _ _ _ _ _ (fun a c => x (2048 * (t.val / 2) + a) (512 * (2 + t.val % 2) + c)) hB1 1 1024 (by decide) (by decide) _ _ _ _ _ _ k e
    · exact fun k e => vals_loaded _ _ _ (fun a c => x (2048 * (t.val / 2) + a) (512 * (4 + t.val % 2) + c)) hB2 1 1024 (by decide) (by decide) _ _ _ _ _ _ k e
    · exact written_at x y t z 3 1 r.val e.val (by decide) r.isLt e.isLt h0 h1
  case piece19 =>
    obtain ⟨r, e, rfl⟩ : ∃ r e, w = ix2 r e := ⟨w 0, w 1, by funext a; match a with | ⟨0, _⟩ => rfl | ⟨1, _⟩ => rfl⟩
    refine (early_apply 3 1024 768 (by decide) rfl rfl _ _ _ _ _ _ _ _ _ _ _ _ _ _ slices_S256x256_o0_0_S256x128 slices_S256x256_o0_128_S256x128 _ _ _ slices_S256x1024_o0_0_S256x768 slices_S256x1024_o0_768_S256x256 concatenates_S256x768_S256x256_S256x1024_d1 r e
      (fun a => ∑ d : Fin 128, y (8 * (t.val / 2) + a.val) (512 * (t.val % 2) + (128 * 0 + d.val)) * x (2048 * (t.val / 2) + (256 * 3 + r.val)) (512 * (t.val % 2) + (128 * 0 + d.val)))
      (fun d => x (2048 * (t.val / 2) + (256 * 3 + r.val)) (512 * (t.val % 2) + (128 * 0 + d.val)))
      (fun k d => x (2048 * (t.val / 2) + k) (512 * (2 + t.val % 2) + (128 * 0 + d.val))) (fun k d => x (2048 * (t.val / 2) + k) (512 * (4 + t.val % 2) + (128 * 0 + d.val))) ?_ ?_ ?_).trans ?_
    · exact fun d => (part_apply _ 768 0 _ r d (by omega) (by omega)).trans (hB0 _ _)
    · exact fun k e => keys_loaded _ _ _ _ _ _ _ (fun a c => x (2048 * (t.val / 2) + a) (512 * (2 + t.val % 2) + c)) hB1 0 1024 (by decide) (by decide) _ _ _ _ _ _ k e
    · exact fun k e => vals_loaded _ _ _ (fun a c => x (2048 * (t.val / 2) + a) (512 * (4 + t.val % 2) + c)) hB2 0 1024 (by decide) (by decide) _ _ _ _ _ _ k e
    · exact written_at x y t z 3 0 r.val e.val (by decide) r.isLt e.isLt h0 (h1.trans (Nat.zero_add _).symm)
  case piece20 =>
    obtain ⟨r, e, rfl⟩ : ∃ r e, w = ix2 r e := ⟨w 0, w 1, by funext a; match a with | ⟨0, _⟩ => rfl | ⟨1, _⟩ => rfl⟩
    refine (early_apply 2 768 512 (by decide) rfl rfl _ _ _ _ _ _ _ _ _ _ _ _ _ _ slices_S256x256_o0_0_S256x128 slices_S256x256_o0_128_S256x128 _ _ _ slices_S256x768_o0_0_S256x512 slices_S256x768_o0_512_S256x256 concatenates_S256x512_S256x256_S256x768_d1 r e
      (fun a => ∑ d : Fin 128, y (8 * (t.val / 2) + a.val) (512 * (t.val % 2) + (128 * 3 + d.val)) * x (2048 * (t.val / 2) + (256 * 2 + r.val)) (512 * (t.val % 2) + (128 * 3 + d.val)))
      (fun d => x (2048 * (t.val / 2) + (256 * 2 + r.val)) (512 * (t.val % 2) + (128 * 3 + d.val)))
      (fun k d => x (2048 * (t.val / 2) + k) (512 * (2 + t.val % 2) + (128 * 3 + d.val))) (fun k d => x (2048 * (t.val / 2) + k) (512 * (4 + t.val % 2) + (128 * 3 + d.val))) ?_ ?_ ?_).trans ?_
    · exact fun d => (part_apply _ 512 384 _ r d (by omega) (by omega)).trans (hB0 _ _)
    · exact fun k e => keys_loaded _ _ _ _ _ _ _ (fun a c => x (2048 * (t.val / 2) + a) (512 * (2 + t.val % 2) + c)) hB1 3 768 (by decide) (by decide) _ _ _ _ _ _ k e
    · exact fun k e => vals_loaded _ _ _ (fun a c => x (2048 * (t.val / 2) + a) (512 * (4 + t.val % 2) + c)) hB2 3 768 (by decide) (by decide) _ _ _ _ _ _ k e
    · exact written_at x y t z 2 3 r.val e.val (by decide) r.isLt e.isLt h0 h1
  case piece21 =>
    obtain ⟨r, e, rfl⟩ : ∃ r e, w = ix2 r e := ⟨w 0, w 1, by funext a; match a with | ⟨0, _⟩ => rfl | ⟨1, _⟩ => rfl⟩
    refine (early_apply 2 768 512 (by decide) rfl rfl _ _ _ _ _ _ _ _ _ _ _ _ _ _ slices_S256x256_o0_0_S256x128 slices_S256x256_o0_128_S256x128 _ _ _ slices_S256x768_o0_0_S256x512 slices_S256x768_o0_512_S256x256 concatenates_S256x512_S256x256_S256x768_d1 r e
      (fun a => ∑ d : Fin 128, y (8 * (t.val / 2) + a.val) (512 * (t.val % 2) + (128 * 2 + d.val)) * x (2048 * (t.val / 2) + (256 * 2 + r.val)) (512 * (t.val % 2) + (128 * 2 + d.val)))
      (fun d => x (2048 * (t.val / 2) + (256 * 2 + r.val)) (512 * (t.val % 2) + (128 * 2 + d.val)))
      (fun k d => x (2048 * (t.val / 2) + k) (512 * (2 + t.val % 2) + (128 * 2 + d.val))) (fun k d => x (2048 * (t.val / 2) + k) (512 * (4 + t.val % 2) + (128 * 2 + d.val))) ?_ ?_ ?_).trans ?_
    · exact fun d => (part_apply _ 512 256 _ r d (by omega) (by omega)).trans (hB0 _ _)
    · exact fun k e => keys_loaded _ _ _ _ _ _ _ (fun a c => x (2048 * (t.val / 2) + a) (512 * (2 + t.val % 2) + c)) hB1 2 768 (by decide) (by decide) _ _ _ _ _ _ k e
    · exact fun k e => vals_loaded _ _ _ (fun a c => x (2048 * (t.val / 2) + a) (512 * (4 + t.val % 2) + c)) hB2 2 768 (by decide) (by decide) _ _ _ _ _ _ k e
    · exact written_at x y t z 2 2 r.val e.val (by decide) r.isLt e.isLt h0 h1
  case piece22 =>
    obtain ⟨r, e, rfl⟩ : ∃ r e, w = ix2 r e := ⟨w 0, w 1, by funext a; match a with | ⟨0, _⟩ => rfl | ⟨1, _⟩ => rfl⟩
    refine (early_apply 2 768 512 (by decide) rfl rfl _ _ _ _ _ _ _ _ _ _ _ _ _ _ slices_S256x256_o0_0_S256x128 slices_S256x256_o0_128_S256x128 _ _ _ slices_S256x768_o0_0_S256x512 slices_S256x768_o0_512_S256x256 concatenates_S256x512_S256x256_S256x768_d1 r e
      (fun a => ∑ d : Fin 128, y (8 * (t.val / 2) + a.val) (512 * (t.val % 2) + (128 * 1 + d.val)) * x (2048 * (t.val / 2) + (256 * 2 + r.val)) (512 * (t.val % 2) + (128 * 1 + d.val)))
      (fun d => x (2048 * (t.val / 2) + (256 * 2 + r.val)) (512 * (t.val % 2) + (128 * 1 + d.val)))
      (fun k d => x (2048 * (t.val / 2) + k) (512 * (2 + t.val % 2) + (128 * 1 + d.val))) (fun k d => x (2048 * (t.val / 2) + k) (512 * (4 + t.val % 2) + (128 * 1 + d.val))) ?_ ?_ ?_).trans ?_
    · exact fun d => (part_apply _ 512 128 _ r d (by omega) (by omega)).trans (hB0 _ _)
    · exact fun k e => keys_loaded _ _ _ _ _ _ _ (fun a c => x (2048 * (t.val / 2) + a) (512 * (2 + t.val % 2) + c)) hB1 1 768 (by decide) (by decide) _ _ _ _ _ _ k e
    · exact fun k e => vals_loaded _ _ _ (fun a c => x (2048 * (t.val / 2) + a) (512 * (4 + t.val % 2) + c)) hB2 1 768 (by decide) (by decide) _ _ _ _ _ _ k e
    · exact written_at x y t z 2 1 r.val e.val (by decide) r.isLt e.isLt h0 h1
  case piece23 =>
    obtain ⟨r, e, rfl⟩ : ∃ r e, w = ix2 r e := ⟨w 0, w 1, by funext a; match a with | ⟨0, _⟩ => rfl | ⟨1, _⟩ => rfl⟩
    refine (early_apply 2 768 512 (by decide) rfl rfl _ _ _ _ _ _ _ _ _ _ _ _ _ _ slices_S256x256_o0_0_S256x128 slices_S256x256_o0_128_S256x128 _ _ _ slices_S256x768_o0_0_S256x512 slices_S256x768_o0_512_S256x256 concatenates_S256x512_S256x256_S256x768_d1 r e
      (fun a => ∑ d : Fin 128, y (8 * (t.val / 2) + a.val) (512 * (t.val % 2) + (128 * 0 + d.val)) * x (2048 * (t.val / 2) + (256 * 2 + r.val)) (512 * (t.val % 2) + (128 * 0 + d.val)))
      (fun d => x (2048 * (t.val / 2) + (256 * 2 + r.val)) (512 * (t.val % 2) + (128 * 0 + d.val)))
      (fun k d => x (2048 * (t.val / 2) + k) (512 * (2 + t.val % 2) + (128 * 0 + d.val))) (fun k d => x (2048 * (t.val / 2) + k) (512 * (4 + t.val % 2) + (128 * 0 + d.val))) ?_ ?_ ?_).trans ?_
    · exact fun d => (part_apply _ 512 0 _ r d (by omega) (by omega)).trans (hB0 _ _)
    · exact fun k e => keys_loaded _ _ _ _ _ _ _ (fun a c => x (2048 * (t.val / 2) + a) (512 * (2 + t.val % 2) + c)) hB1 0 768 (by decide) (by decide) _ _ _ _ _ _ k e
    · exact fun k e => vals_loaded _ _ _ (fun a c => x (2048 * (t.val / 2) + a) (512 * (4 + t.val % 2) + c)) hB2 0 768 (by decide) (by decide) _ _ _ _ _ _ k e
    · exact written_at x y t z 2 0 r.val e.val (by decide) r.isLt e.isLt h0 (h1.trans (Nat.zero_add _).symm)
  case piece24 =>
    obtain ⟨r, e, rfl⟩ : ∃ r e, w = ix2 r e := ⟨w 0, w 1, by funext a; match a with | ⟨0, _⟩ => rfl | ⟨1, _⟩ => rfl⟩
    refine (early_apply 1 512 256 (by decide) rfl rfl _ _ _ _ _ _ _ _ _ _ _ _ _ _ slices_S256x256_o0_0_S256x128 slices_S256x256_o0_128_S256x128 _ _ _ slices_S256x512_o0_0_S256x256 slices_S256x512_o0_256_S256x256 concatenates_S256x256_S256x256_S256x512_d1 r e
      (fun a => ∑ d : Fin 128, y (8 * (t.val / 2) + a.val) (512 * (t.val % 2) + (128 * 3 + d.val)) * x (2048 * (t.val / 2) + (256 * 1 + r.val)) (512 * (t.val % 2) + (128 * 3 + d.val)))
      (fun d => x (2048 * (t.val / 2) + (256 * 1 + r.val)) (512 * (t.val % 2) + (128 * 3 + d.val)))
      (fun k d => x (2048 * (t.val / 2) + k) (512 * (2 + t.val % 2) + (128 * 3 + d.val))) (fun k d => x (2048 * (t.val / 2) + k) (512 * (4 + t.val % 2) + (128 * 3 + d.val))) ?_ ?_ ?_).trans ?_
    · exact fun d => (part_apply _ 256 384 _ r d (by omega) (by omega)).trans (hB0 _ _)
    · exact fun k e => keys_loaded _ _ _ _ _ _ _ (fun a c => x (2048 * (t.val / 2) + a) (512 * (2 + t.val % 2) + c)) hB1 3 512 (by decide) (by decide) _ _ _ _ _ _ k e
    · exact fun k e => vals_loaded _ _ _ (fun a c => x (2048 * (t.val / 2) + a) (512 * (4 + t.val % 2) + c)) hB2 3 512 (by decide) (by decide) _ _ _ _ _ _ k e
    · exact written_at x y t z 1 3 r.val e.val (by decide) r.isLt e.isLt h0 h1
  case piece25 =>
    obtain ⟨r, e, rfl⟩ : ∃ r e, w = ix2 r e := ⟨w 0, w 1, by funext a; match a with | ⟨0, _⟩ => rfl | ⟨1, _⟩ => rfl⟩
    refine (early_apply 1 512 256 (by decide) rfl rfl _ _ _ _ _ _ _ _ _ _ _ _ _ _ slices_S256x256_o0_0_S256x128 slices_S256x256_o0_128_S256x128 _ _ _ slices_S256x512_o0_0_S256x256 slices_S256x512_o0_256_S256x256 concatenates_S256x256_S256x256_S256x512_d1 r e
      (fun a => ∑ d : Fin 128, y (8 * (t.val / 2) + a.val) (512 * (t.val % 2) + (128 * 2 + d.val)) * x (2048 * (t.val / 2) + (256 * 1 + r.val)) (512 * (t.val % 2) + (128 * 2 + d.val)))
      (fun d => x (2048 * (t.val / 2) + (256 * 1 + r.val)) (512 * (t.val % 2) + (128 * 2 + d.val)))
      (fun k d => x (2048 * (t.val / 2) + k) (512 * (2 + t.val % 2) + (128 * 2 + d.val))) (fun k d => x (2048 * (t.val / 2) + k) (512 * (4 + t.val % 2) + (128 * 2 + d.val))) ?_ ?_ ?_).trans ?_
    · exact fun d => (part_apply _ 256 256 _ r d (by omega) (by omega)).trans (hB0 _ _)
    · exact fun k e => keys_loaded _ _ _ _ _ _ _ (fun a c => x (2048 * (t.val / 2) + a) (512 * (2 + t.val % 2) + c)) hB1 2 512 (by decide) (by decide) _ _ _ _ _ _ k e
    · exact fun k e => vals_loaded _ _ _ (fun a c => x (2048 * (t.val / 2) + a) (512 * (4 + t.val % 2) + c)) hB2 2 512 (by decide) (by decide) _ _ _ _ _ _ k e
    · exact written_at x y t z 1 2 r.val e.val (by decide) r.isLt e.isLt h0 h1
  case piece26 =>
    obtain ⟨r, e, rfl⟩ : ∃ r e, w = ix2 r e := ⟨w 0, w 1, by funext a; match a with | ⟨0, _⟩ => rfl | ⟨1, _⟩ => rfl⟩
    refine (early_apply 1 512 256 (by decide) rfl rfl _ _ _ _ _ _ _ _ _ _ _ _ _ _ slices_S256x256_o0_0_S256x128 slices_S256x256_o0_128_S256x128 _ _ _ slices_S256x512_o0_0_S256x256 slices_S256x512_o0_256_S256x256 concatenates_S256x256_S256x256_S256x512_d1 r e
      (fun a => ∑ d : Fin 128, y (8 * (t.val / 2) + a.val) (512 * (t.val % 2) + (128 * 1 + d.val)) * x (2048 * (t.val / 2) + (256 * 1 + r.val)) (512 * (t.val % 2) + (128 * 1 + d.val)))
      (fun d => x (2048 * (t.val / 2) + (256 * 1 + r.val)) (512 * (t.val % 2) + (128 * 1 + d.val)))
      (fun k d => x (2048 * (t.val / 2) + k) (512 * (2 + t.val % 2) + (128 * 1 + d.val))) (fun k d => x (2048 * (t.val / 2) + k) (512 * (4 + t.val % 2) + (128 * 1 + d.val))) ?_ ?_ ?_).trans ?_
    · exact fun d => (part_apply _ 256 128 _ r d (by omega) (by omega)).trans (hB0 _ _)
    · exact fun k e => keys_loaded _ _ _ _ _ _ _ (fun a c => x (2048 * (t.val / 2) + a) (512 * (2 + t.val % 2) + c)) hB1 1 512 (by decide) (by decide) _ _ _ _ _ _ k e
    · exact fun k e => vals_loaded _ _ _ (fun a c => x (2048 * (t.val / 2) + a) (512 * (4 + t.val % 2) + c)) hB2 1 512 (by decide) (by decide) _ _ _ _ _ _ k e
    · exact written_at x y t z 1 1 r.val e.val (by decide) r.isLt e.isLt h0 h1
  case piece27 =>
    obtain ⟨r, e, rfl⟩ : ∃ r e, w = ix2 r e := ⟨w 0, w 1, by funext a; match a with | ⟨0, _⟩ => rfl | ⟨1, _⟩ => rfl⟩
    refine (early_apply 1 512 256 (by decide) rfl rfl _ _ _ _ _ _ _ _ _ _ _ _ _ _ slices_S256x256_o0_0_S256x128 slices_S256x256_o0_128_S256x128 _ _ _ slices_S256x512_o0_0_S256x256 slices_S256x512_o0_256_S256x256 concatenates_S256x256_S256x256_S256x512_d1 r e
      (fun a => ∑ d : Fin 128, y (8 * (t.val / 2) + a.val) (512 * (t.val % 2) + (128 * 0 + d.val)) * x (2048 * (t.val / 2) + (256 * 1 + r.val)) (512 * (t.val % 2) + (128 * 0 + d.val)))
      (fun d => x (2048 * (t.val / 2) + (256 * 1 + r.val)) (512 * (t.val % 2) + (128 * 0 + d.val)))
      (fun k d => x (2048 * (t.val / 2) + k) (512 * (2 + t.val % 2) + (128 * 0 + d.val))) (fun k d => x (2048 * (t.val / 2) + k) (512 * (4 + t.val % 2) + (128 * 0 + d.val))) ?_ ?_ ?_).trans ?_
    · exact fun d => (part_apply _ 256 0 _ r d (by omega) (by omega)).trans (hB0 _ _)
    · exact fun k e => keys_loaded _ _ _ _ _ _ _ (fun a c => x (2048 * (t.val / 2) + a) (512 * (2 + t.val % 2) + c)) hB1 0 512 (by decide) (by decide) _ _ _ _ _ _ k e
    · exact fun k e => vals_loaded _ _ _ (fun a c => x (2048 * (t.val / 2) + a) (512 * (4 + t.val % 2) + c)) hB2 0 512 (by decide) (by decide) _ _ _ _ _ _ k e
    · exact written_at x y t z 1 0 r.val e.val (by decide) r.isLt e.isLt h0 (h1.trans (Nat.zero_add _).symm)
  case piece28 =>
    obtain ⟨r, e, rfl⟩ : ∃ r e, w = ix2 r e := ⟨w 0, w 1, by funext a; match a with | ⟨0, _⟩ => rfl | ⟨1, _⟩ => rfl⟩
    refine (first_apply _ _ _ _ _ _ _ _ _ _ _ _ _ _ slices_S256x256_o0_0_S256x128 slices_S256x256_o0_128_S256x128 _ _ _ r e
      (fun a => ∑ d : Fin 128, y (8 * (t.val / 2) + a.val) (512 * (t.val % 2) + (128 * 3 + d.val)) * x (2048 * (t.val / 2) + (256 * 0 + r.val)) (512 * (t.val % 2) + (128 * 3 + d.val)))
      (fun d => x (2048 * (t.val / 2) + (256 * 0 + r.val)) (512 * (t.val % 2) + (128 * 3 + d.val)))
      (fun k d => x (2048 * (t.val / 2) + k) (512 * (2 + t.val % 2) + (128 * 3 + d.val))) (fun k d => x (2048 * (t.val / 2) + k) (512 * (4 + t.val % 2) + (128 * 3 + d.val))) ?_ ?_ ?_).trans ?_
    · exact fun d => (part_apply _ 0 384 _ r d (by omega) (by omega)).trans (hB0 _ _)
    · exact fun k e => keys_loaded _ _ _ _ _ _ _ (fun a c => x (2048 * (t.val / 2) + a) (512 * (2 + t.val % 2) + c)) hB1 3 256 (by decide) (by decide) _ _ _ _ _ _ k e
    · exact fun k e => vals_loaded _ _ _ (fun a c => x (2048 * (t.val / 2) + a) (512 * (4 + t.val % 2) + c)) hB2 3 256 (by decide) (by decide) _ _ _ _ _ _ k e
    · exact written_at x y t z 0 3 r.val e.val (by decide) r.isLt e.isLt (h0.trans (Nat.zero_add _).symm) h1
  case piece29 =>
    obtain ⟨r, e, rfl⟩ : ∃ r e, w = ix2 r e := ⟨w 0, w 1, by funext a; match a with | ⟨0, _⟩ => rfl | ⟨1, _⟩ => rfl⟩
    refine (first_apply _ _ _ _ _ _ _ _ _ _ _ _ _ _ slices_S256x256_o0_0_S256x128 slices_S256x256_o0_128_S256x128 _ _ _ r e
      (fun a => ∑ d : Fin 128, y (8 * (t.val / 2) + a.val) (512 * (t.val % 2) + (128 * 2 + d.val)) * x (2048 * (t.val / 2) + (256 * 0 + r.val)) (512 * (t.val % 2) + (128 * 2 + d.val)))
      (fun d => x (2048 * (t.val / 2) + (256 * 0 + r.val)) (512 * (t.val % 2) + (128 * 2 + d.val)))
      (fun k d => x (2048 * (t.val / 2) + k) (512 * (2 + t.val % 2) + (128 * 2 + d.val))) (fun k d => x (2048 * (t.val / 2) + k) (512 * (4 + t.val % 2) + (128 * 2 + d.val))) ?_ ?_ ?_).trans ?_
    · exact fun d => (part_apply _ 0 256 _ r d (by omega) (by omega)).trans (hB0 _ _)
    · exact fun k e => keys_loaded _ _ _ _ _ _ _ (fun a c => x (2048 * (t.val / 2) + a) (512 * (2 + t.val % 2) + c)) hB1 2 256 (by decide) (by decide) _ _ _ _ _ _ k e
    · exact fun k e => vals_loaded _ _ _ (fun a c => x (2048 * (t.val / 2) + a) (512 * (4 + t.val % 2) + c)) hB2 2 256 (by decide) (by decide) _ _ _ _ _ _ k e
    · exact written_at x y t z 0 2 r.val e.val (by decide) r.isLt e.isLt (h0.trans (Nat.zero_add _).symm) h1
  case piece30 =>
    obtain ⟨r, e, rfl⟩ : ∃ r e, w = ix2 r e := ⟨w 0, w 1, by funext a; match a with | ⟨0, _⟩ => rfl | ⟨1, _⟩ => rfl⟩
    refine (first_apply _ _ _ _ _ _ _ _ _ _ _ _ _ _ slices_S256x256_o0_0_S256x128 slices_S256x256_o0_128_S256x128 _ _ _ r e
      (fun a => ∑ d : Fin 128, y (8 * (t.val / 2) + a.val) (512 * (t.val % 2) + (128 * 1 + d.val)) * x (2048 * (t.val / 2) + (256 * 0 + r.val)) (512 * (t.val % 2) + (128 * 1 + d.val)))
      (fun d => x (2048 * (t.val / 2) + (256 * 0 + r.val)) (512 * (t.val % 2) + (128 * 1 + d.val)))
      (fun k d => x (2048 * (t.val / 2) + k) (512 * (2 + t.val % 2) + (128 * 1 + d.val))) (fun k d => x (2048 * (t.val / 2) + k) (512 * (4 + t.val % 2) + (128 * 1 + d.val))) ?_ ?_ ?_).trans ?_
    · exact fun d => (part_apply _ 0 128 _ r d (by omega) (by omega)).trans (hB0 _ _)
    · exact fun k e => keys_loaded _ _ _ _ _ _ _ (fun a c => x (2048 * (t.val / 2) + a) (512 * (2 + t.val % 2) + c)) hB1 1 256 (by decide) (by decide) _ _ _ _ _ _ k e
    · exact fun k e => vals_loaded _ _ _ (fun a c => x (2048 * (t.val / 2) + a) (512 * (4 + t.val % 2) + c)) hB2 1 256 (by decide) (by decide) _ _ _ _ _ _ k e
    · exact written_at x y t z 0 1 r.val e.val (by decide) r.isLt e.isLt (h0.trans (Nat.zero_add _).symm) h1
  case piece31 =>
    obtain ⟨r, e, rfl⟩ : ∃ r e, w = ix2 r e := ⟨w 0, w 1, by funext a; match a with | ⟨0, _⟩ => rfl | ⟨1, _⟩ => rfl⟩
    refine (first_apply _ _ _ _ _ _ _ _ _ _ _ _ _ _ slices_S256x256_o0_0_S256x128 slices_S256x256_o0_128_S256x128 _ _ _ r e
      (fun a => ∑ d : Fin 128, y (8 * (t.val / 2) + a.val) (512 * (t.val % 2) + (128 * 0 + d.val)) * x (2048 * (t.val / 2) + (256 * 0 + r.val)) (512 * (t.val % 2) + (128 * 0 + d.val)))
      (fun d => x (2048 * (t.val / 2) + (256 * 0 + r.val)) (512 * (t.val % 2) + (128 * 0 + d.val)))
      (fun k d => x (2048 * (t.val / 2) + k) (512 * (2 + t.val % 2) + (128 * 0 + d.val))) (fun k d => x (2048 * (t.val / 2) + k) (512 * (4 + t.val % 2) + (128 * 0 + d.val))) ?_ ?_ ?_).trans ?_
    · exact fun d => (part_apply _ 0 0 _ r d (by omega) (by omega)).trans (hB0 _ _)
    · exact fun k e => keys_loaded _ _ _ _ _ _ _ (fun a c => x (2048 * (t.val / 2) + a) (512 * (2 + t.val % 2) + c)) hB1 0 256 (by decide) (by decide) _ _ _ _ _ _ k e
    · exact fun k e => vals_loaded _ _ _ (fun a c => x (2048 * (t.val / 2) + a) (512 * (4 + t.val % 2) + c)) hB2 0 256 (by decide) (by decide) _ _ _ _ _ _ k e
    · exact written_at x y t z 0 0 r.val e.val (by decide) r.isLt e.isLt (h0.trans (Nat.zero_add _).symm) (h1.trans (Nat.zero_add _).symm)

end Cert.KernelIdeal.Gen

end
-- ==== Proof.RefArrays.lean ====
module

public import proofs.«01_k».proof.Proof.Gen.ReferenceIdeal.Read
public import Idealize.ShloMosaic.Lib.Pipeline.ValueKit
public import Idealize.ShloMosaic.Lib.Pointwise.IndexVar
public import Idealize.ShloMosaic.Lib.ValueIdxRank6
public import proofs.«01_k».proof.Proof.Head
public import proofs.«01_k».proof.Proof.Consts

@[expose] public section

set_option maxRecDepth 16384

noncomputable section

namespace Cert.ReferenceIdeal.Read

open Idealize.ShloMosaic Idealize.ShloMosaic.TcCoe Finset

variable {a0 : (⟨S32768x3072, .bf16⟩ : BufTy).Contents (Elt Ideal)} {a1 : (⟨S128x1024, .f32⟩ : BufTy).Contents (Elt Ideal)} {x y : ℕ → ℕ → ℝ}

/-- Two indices of a matrix with equal coordinates. -/
theorem at_ix2 {A B : ℕ} (f : (⟨2, ![A, B]⟩ : Shape).Idx → EReal) (z : ℕ → ℕ → ℝ) (hf : ∀ R C, f (ix2 R C) = ((z R.val C.val : ℝ) : EReal))
    (i : (⟨2, ![A, B]⟩ : Shape).Idx) (R C : ℕ) (h0 : (i 0).val = R) (h1 : (i 1).val = C) : f i = ((z R C : ℝ) : EReal) := by
  subst h0 h1
  exact (congrArg f (by funext a; match a with | ⟨0, _⟩ => rfl | ⟨1, _⟩ => rfl)).trans (hf (i 0) (i 1))

/-- The queries. -/
theorem v4_at (hx : ∀ R C, a0 (ix2 R C) = ((x R.val C.val : ℝ) : EReal)) (b h q d) :
    val_main_v4 (F := Ideal) a0 (ix4 b h q d) = ((x (2048 * b.val + q.val) (128 * h.val + d.val) : ℝ) : EReal) := by
  rw [val_main_v4_apply, val_main_v3_apply, val_main_v2_apply, val_main_v1_apply]
  refine at_ix2 a0 x hx _ _ _ ?_ ?_ <;> simp <;> omega

/-- The keys. -/
theorem v7_at (hx : ∀ R C, a0 (ix2 R C) = ((x R.val C.val : ℝ) : EReal)) (b h q d) :
    val_main_v7 (F := Ideal) a0 (ix4 b h q d) = ((x (2048 * b.val + q.val) (1024 + (128 * h.val + d.val)) : ℝ) : EReal) := by
  rw [val_main_v7_apply, val_main_v6_apply, val_main_v5_apply, val_main_v1_apply]
  refine at_ix2 a0 x hx _ _ _ ?_ ?_ <;> simp <;> omega

/-- The values. -/
theorem v10_at (hx : ∀ R C, a0 (ix2 R C) = ((x R.val C.val : ℝ) : EReal)) (b h q d) :
    val_main_v10 (F := Ideal) a0 (ix4 b h q d) = ((x (2048 * b.val + q.val) (2048 + (128 * h.val + d.val)) : ℝ) : EReal) := by
  rw [val_main_v10_apply, val_main_v9_apply, val_main_v8_apply, val_main_v1_apply]
  refine at_ix2 a0 x hx _ _ _ ?_ ?_ <;> simp <;> omega

/-- The keys in blocks. -/
theorem v11_at (hx : ∀ R C, a0 (ix2 R C) = ((x R.val C.val : ℝ) : EReal)) (b h n k d) :
    val_main_v11 (F := Ideal) a0 (ix5 b h n k d) = ((x (2048 * b.val + (256 * n.val + k.val)) (1024 + (128 * h.val + d.val)) : ℝ) : EReal) := by
  rw [val_main_v11_apply]
  refine (congrArg _ ?_).trans (v7_at hx b h ⟨256 * n.val + k.val, by omega⟩ d)
  funext a
  refine Fin.ext ?_
  match a with
  | ⟨0, _⟩ => simp; omega
  | ⟨1, _⟩ => simp; omega
  | ⟨2, _⟩ => simp; omega
  | ⟨3, _⟩ => simp

/-- The values in blocks. -/
theorem v12_at (hx : ∀ R C, a0 (ix2 R C) = ((x R.val C.val : ℝ) : EReal)) (b h n k d) :
    val_main_v12 (F := Ideal) a0 (ix5 b h n k d) = ((x (2048 * b.val + (256 * n.val + k.val)) (2048 + (128 * h.val + d.val)) : ℝ) : EReal) := by
  rw [val_main_v12_apply]
  refine (congrArg _ ?_).trans (v10_at hx b h ⟨256 * n.val + k.val, by omega⟩ d)
  funext a
  refine Fin.ext ?_
  match a with
  | ⟨0, _⟩ => simp; omega
  | ⟨1, _⟩ => simp; omega
  | ⟨2, _⟩ => simp; omega
  | ⟨3, _⟩ => simp

/-- The queries in blocks. -/
theorem v82_at (hx : ∀ R C, a0 (ix2 R C) = ((x R.val C.val : ℝ) : EReal)) (b h n k d) :
    val_main_v82 (F := Ideal) a0 (ix5 b h n k d) = ((x (2048 * b.val + (256 * n.val + k.val)) (128 * h.val + d.val) : ℝ) : EReal) := by
  rw [val_main_v82_apply]
  refine (congrArg _ ?_).trans (v4_at hx b h ⟨256 * n.val + k.val, by omega⟩ d)
  funext a
  refine Fin.ext ?_
  match a with
  | ⟨0, _⟩ => simp; omega
  | ⟨1, _⟩ => simp; omega
  | ⟨2, _⟩ => simp; omega
  | ⟨3, _⟩ => simp

/-- The means of the keys. -/
theorem v14_at (hy : ∀ R C, a1 (ix2 R C) = ((y R.val C.val : ℝ) : EReal)) (b h n d) :
    val_main_v14 (F := Ideal) a1 (ix4 b h n d) = ((y (8 * b.val + n.val) (128 * h.val + d.val) : ℝ) : EReal) := by
  rw [val_main_v14_apply, val_main_v13_apply]
  refine at_ix2 a1 y hy _ _ _ ?_ ?_ <;> simp <;> omega

/-- The gate of each block for the query in row `R`, in the head whose first column is `C`. -/
def gateR (x y : ℕ → ℕ → ℝ) (b h q : ℕ) (n : Fin 8) : ℝ := ∑ d : Fin 128, y (8 * b + n.val) (128 * h + d.val) * x (2048 * b + q) (128 * h + d.val)

/-- The gates of the reference, entry by entry, before the mask. -/
theorem v15_at (hx : ∀ R C, a0 (ix2 R C) = ((x R.val C.val : ℝ) : EReal)) (hy : ∀ R C, a1 (ix2 R C) = ((y R.val C.val : ℝ) : EReal)) (b h q n) :
    val_main_v15 (F := Ideal) a0 a1 (ix4 b h q n) = ((gateR x y b.val h.val q.val n : ℝ) : EReal) := by
  rw [val_main_v15_apply]
  unfold gateR
  rw [← Cert.Proof.coe_sum]
  refine Finset.sum_congr rfl fun d _ => ?_
  rw [EReal.coe_mul, mul_comm]
  refine congrArg₂ (· * ·) ((congrArg _ ?_).trans (v14_at hy b h n d)) ((congrArg _ ?_).trans (v4_at hx b h q d))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- Each query's block, as computed. -/
theorem v17_at (q : Fin 2048) : val_main_v17 (F := Ideal) (ix1 q) = BitVec.ofNat 32 (q.val / 256) := by
  have h : ∀ k : Fin 2048, Scalar.select (IntOp.andi (IntOp.cmpi (w := 32) .ne (if BitVec.ofNat 32 k.val = 0 then 0 else if (BitVec.ofNat 32 k.val).msb then -1 else 1)
      (if (256#32) = 0 then 0 else if (256#32).msb then -1 else 1))
      (IntOp.cmpi .ne (IntOp.remsi .host (BitVec.ofNat 32 k.val) 256#32) 0#32))
      (IntOp.subi (IntOp.divsi .host (BitVec.ofNat 32 k.val) 256#32) 1#32) (IntOp.divsi .host (BitVec.ofNat 32 k.val) 256#32)
        = BitVec.ofNat 32 (k.val / 256) := by
    decide +kernel
  exact h q

/-- Whether a block is before the query's block, as computed. -/
theorem v23_at (q : Fin 2048) (n : Fin 8) : val_main_v23 (F := Ideal) (ix2 q n) = BitVec.ofBool (decide (n.val < q.val / 256)) := by
  rw [val_main_v23_apply, val_main_v21_apply, val_main_v22_apply, val_main_v19_apply, val_main_v20_apply, val_main_v18_apply]
  refine (congrArg (IntOp.cmpi .slt _) ((congrArg (val_main_v17 (F := Ideal)) ?_).trans (v17_at q))).trans ?_
  · funext a; match a with | ⟨0, _⟩ => rfl
  · exact Cert.KernelIdeal.cmpi_slt n.val _ (by omega) (by omega)

/-- The masked gates. -/
theorem v24_at (hx : ∀ R C, a0 (ix2 R C) = ((x R.val C.val : ℝ) : EReal)) (hy : ∀ R C, a1 (ix2 R C) = ((y R.val C.val : ℝ) : EReal)) (b h q n) :
    val_main_v24 (F := Ideal) a0 a1 (ix4 b h q n) = Cert.Proof.masked (gateR x y b.val h.val q.val) (q.val / 256) n := by
  rw [val_main_v24_apply, v15_at hx hy, val_main_call1_v1_apply, val_main_call1_v2_apply]
  have h1 : idx_main_call1_v1 (ix4 b h q n) = ix2 q n := by funext a; match a with | ⟨0, _⟩ => rfl | ⟨1, _⟩ => rfl
  rw [h1, v23_at, Scalar.select_ofBool]
  unfold Cert.Proof.masked
  simp only [decide_eq_true_eq]
  exact congrArg _ Cert.Proof.ofBits_bot

/-- The gates' order, as the selection compares them. -/
def beforeR (f : Fin 8 → EReal) (a b : Fin 8) : Bool := FloatOps.cmpfTotal (F := Ideal) (φ := .f32) .gt (f a) (f b) == 1#1

/-- The order of the sort: greater values come first. -/
theorem beforeR_iff (f : Fin 8 → EReal) (a b : Fin 8) : beforeR f a b = true ↔ f b < f a := by
  unfold beforeR
  show (BitVec.ofBool (decide (f b < f a)) == 1#1) = true ↔ _
  by_cases h : f b < f a
  · simp [h]
  · simp [h]

/-- The `s`-th greatest gate's block. -/
def sel (x y : ℕ → ℕ → ℝ) (b h q : ℕ) (s : Fin 3) : Fin 8 :=
  sortedFrom (beforeR (Cert.Proof.masked (gateR x y b h q) (q / 256))) (Fin.castLE (by decide) s)

/-- The index of a gate with another block. -/
theorem along_three (b : Fin 16) (h : Fin 8) (q : Fin 2048) (n k : Fin 8) : Shape.Idx.along (s := S16x8x2048x8) (ix4 b h q n) 3 k = ix4 b h q k := by
  funext a
  match a with
  | ⟨0, _⟩ => rfl
  | ⟨1, _⟩ => rfl
  | ⟨2, _⟩ => rfl
  | ⟨3, _⟩ => rfl

/-- The selection of the three greatest of eight, at an index: the values, and the positions. -/
theorem topK_at (gt : EReal → EReal → BitVec 1) (w : S16x8x2048x8.Idx → EReal) (hs) (b h q) (s : Fin 3) (r : Fin 8)
    (hr : r = sortedFrom (fun k k' => gt (w (ix4 b h q k)) (w (ix4 b h q k')) == 1#1) (Fin.castLE (by decide) s)) :
    (Host.topK S16x8x2048x3 3 gt w hs).1 (ix4 b h q s) = w (ix4 b h q r) ∧ (Host.topK S16x8x2048x3 3 gt w hs).2 (ix4 b h q s) = BitVec.ofNat 32 r.val := by
  have e : ∀ {α : Type} (f : S16x8x2048x8.Idx → α), extractStridedSlice S16x8x2048x3 (fun _ => 0) f hs (ix4 b h q s) = f (ix4 b h q (Fin.castLE (by decide) s)) := by
    intro α f
    refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  have hr' : sortedFrom (fun k k' => gt (w (Shape.Idx.along (s := S16x8x2048x8) (ix4 b h q (Fin.castLE (by decide) s : Fin 8)) 3 k)) (w (Shape.Idx.along (s := S16x8x2048x8) (ix4 b h q (Fin.castLE (by decide) s : Fin 8)) 3 k')) == 1#1)
      (Fin.castLE (by decide) s : Fin 8) = r := by
    rw [hr]
    exact congrArg (fun f => sortedFrom f (Fin.castLE (by decide) s : Fin 8)) (funext fun k => funext fun k' =>
      congrArg₂ (fun u v => gt (w u) (w v) == 1#1) (along_three _ _ _ _ _) (along_three _ _ _ _ _))
  constructor
  · refine (e (Host.sort2 S16x8x2048x8 3 (fun l r => gt l.1 r.1) w fun i => if hd : 3 < S16x8x2048x8.rank then iotaInDim S16x8x2048x8 32 ⟨3, hd⟩ i else 0#32).1).trans ?_
    refine Eq.trans (b := w (Shape.Idx.along (s := S16x8x2048x8) (ix4 b h q (Fin.castLE (by decide) s : Fin 8)) 3 r)) ?_ (congrArg w (along_three _ _ _ _ _))
    rw [← hr']
    rfl
  · refine (e (Host.sort2 S16x8x2048x8 3 (fun l r => gt l.1 r.1) w fun i => if hd : 3 < S16x8x2048x8.rank then iotaInDim S16x8x2048x8 32 ⟨3, hd⟩ i else 0#32).2).trans ?_
    rw [← hr']
    rfl

/-- The blocks that the reference picks are the first three by rank. -/
theorem picked (hx : ∀ R C, a0 (ix2 R C) = ((x R.val C.val : ℝ) : EReal)) (hy : ∀ R C, a1 (ix2 R C) = ((y R.val C.val : ℝ) : EReal)) (b h q) (s : Fin 3) :
    sel x y b.val h.val q.val s = sortedFrom (fun k k' => FloatOps.cmpfTotal (F := Ideal) (φ := .f32) .gt (val_main_v24 (F := Ideal) a0 a1 (ix4 b h q k)) (val_main_v24 (F := Ideal) a0 a1 (ix4 b h q k')) == 1#1)
      (Fin.castLE (by decide) s) := by
  unfold sel beforeR
  simp only [v24_at hx hy]

/-- The three greatest gates. -/
theorem values_at (hx : ∀ R C, a0 (ix2 R C) = ((x R.val C.val : ℝ) : EReal)) (hy : ∀ R C, a1 (ix2 R C) = ((y R.val C.val : ℝ) : EReal)) (b h q s) :
    val_main_values (F := Ideal) a0 a1 (ix4 b h q s) = Cert.Proof.masked (gateR x y b.val h.val q.val) (q.val / 256) (sel x y b.val h.val q.val s) := by
  rw [← v24_at hx hy]
  exact (topK_at _ _ _ b h q s _ (picked hx hy b h q s)).1

/-- Their blocks. -/
theorem indices_at (hx : ∀ R C, a0 (ix2 R C) = ((x R.val C.val : ℝ) : EReal)) (hy : ∀ R C, a1 (ix2 R C) = ((y R.val C.val : ℝ) : EReal)) (b h q s) :
    val_main_indices (F := Ideal) a0 a1 (ix4 b h q s) = BitVec.ofNat 32 (sel x y b.val h.val q.val s).val :=
  (topK_at _ _ _ b h q s _ (picked hx hy b h q s)).2

/-- Whether a selected gate is real: whether its block is before the query's. -/
theorem v27_at (hx : ∀ R C, a0 (ix2 R C) = ((x R.val C.val : ℝ) : EReal)) (hy : ∀ R C, a1 (ix2 R C) = ((y R.val C.val : ℝ) : EReal)) (b h q s) :
    val_main_v27 (F := Ideal) a0 a1 (ix4 b h q s) = BitVec.ofBool (decide ((sel x y b.val h.val q.val s).val < q.val / 256)) := by
  rw [val_main_v27_apply, val_main_v25_apply, values_at hx hy, val_main_v26_apply]
  refine congrArg BitVec.ofBool (decide_eq_decide.2 ?_)
  show max _ (-_) < Ideal.ofBits .f32 0x7F800000#32 ↔ _
  rw [Cert.Proof.ofBits_top]
  unfold Cert.Proof.masked
  split
  · rename_i h'
    simp only [h', iff_true]
    rw [← EReal.coe_neg, max_lt_iff]
    exact ⟨EReal.coe_lt_top _, EReal.coe_lt_top _⟩
  · rename_i h'
    simp [h']

/-- The start indices of the gathers: sequence, head, selected block. -/
theorem start_at (hx : ∀ R C, a0 (ix2 R C) = ((x R.val C.val : ℝ) : EReal)) (hy : ∀ R C, a1 (ix2 R C) = ((y R.val C.val : ℝ) : EReal)) (b h q s) :
    val_main_v52 (F := Ideal) a0 a1 (ix5 b h q s 0) = BitVec.ofNat 32 b.val ∧ val_main_v52 (F := Ideal) a0 a1 (ix5 b h q s 1) = BitVec.ofNat 32 h.val
      ∧ val_main_v52 (F := Ideal) a0 a1 (ix5 b h q s 2) = BitVec.ofNat 32 (sel x y b.val h.val q.val s).val := by
  have e0 : ∀ z, val_main_v49 (F := Ideal) (ix5 b h q s z) = BitVec.ofNat 32 b.val := by
    intro z
    rw [val_main_v49_apply, val_main_v47_apply]
    have h : ∀ k : Fin 16, Scalar.select (IntOp.cmpi .slt (BitVec.ofNat 32 k.val) 0#32) (IntOp.addi (BitVec.ofNat 32 k.val) 16#32) (BitVec.ofNat 32 k.val) = BitVec.ofNat 32 k.val := by
      decide +kernel
    exact h b
  have e1 : ∀ z, val_main_v50 (F := Ideal) (ix5 b h q s z) = BitVec.ofNat 32 h.val := by
    intro z
    rw [val_main_v50_apply, val_main_v48_apply]
    have h' : ∀ k : Fin 8, Scalar.select (IntOp.cmpi .slt (BitVec.ofNat 32 k.val) 0#32) (IntOp.addi (BitVec.ofNat 32 k.val) 8#32) (BitVec.ofNat 32 k.val) = BitVec.ofNat 32 k.val := by
      decide +kernel
    exact h' h
  have e2 : ∀ z, val_main_v51 (F := Ideal) a0 a1 (ix5 b h q s z) = BitVec.ofNat 32 (sel x y b.val h.val q.val s).val := by
    intro z
    rw [val_main_v51_apply]
    have hi : val_main_indices (F := Ideal) a0 a1 (idx_main_v51 (ix5 b h q s z)) = BitVec.ofNat 32 (sel x y b.val h.val q.val s).val :=
      (congrArg _ (by funext a; match a with | ⟨0, _⟩ => rfl | ⟨1, _⟩ => rfl | ⟨2, _⟩ => rfl | ⟨3, _⟩ => rfl)).trans (indices_at hx hy b h q s)
    rw [val_main_v46_apply, val_main_v43_apply, val_main_v45_apply, hi]
    have h' : ∀ k : Fin 8, Scalar.select (IntOp.cmpi .slt (BitVec.ofNat 32 k.val) 0#32) (IntOp.addi (BitVec.ofNat 32 k.val) 8#32) (BitVec.ofNat 32 k.val) = BitVec.ofNat 32 k.val := by
      decide +kernel
    exact h' _
  unfold val_main_v52
  refine ⟨?_, ?_, ?_⟩
  · refine Eq.trans ?_ (e0 0)
    pointwise
  · refine Eq.trans ?_ (e1 0)
    pointwise
  · refine Eq.trans ?_ (e2 0)
    pointwise

end Cert.ReferenceIdeal.Read

end
-- ==== Proof.RefScores.lean ====
module

public import proofs.«01_k».proof.Proof.RefArrays
public import proofs.«01_k».proof.Proof.Spec
public import Idealize.ShloMosaic.Lib.TwoAxisContraction

@[expose] public section

set_option maxRecDepth 16384

noncomputable section

namespace Cert.ReferenceIdeal.Read

open Idealize.ShloMosaic Idealize.ShloMosaic.TcCoe Finset
open Cert.Proof (score weight)

variable {a0 : (⟨S32768x3072, .bf16⟩ : BufTy).Contents (Elt Ideal)} {a1 : (⟨S128x1024, .f32⟩ : BufTy).Contents (Elt Ideal)} {x y : ℕ → ℕ → ℝ}

/-- A gather of whole blocks, read at an index: the block named by the sequence, the head and the block number. -/
theorem gather_at {α : Type} (f : S16x8x8x256x128.Idx → α) (idx : IVec S16x8x2048x3x3 32) (b : Fin 16) (h : Fin 8) (q : Fin 2048) (s : Fin 3)
    (k : Fin 256) (d : Fin 128) (n : Fin 8) (e0 : idx (ix5 b h q s 0) = BitVec.ofNat 32 b.val) (e1 : idx (ix5 b h q s 1) = BitVec.ofNat 32 h.val)
    (e2 : idx (ix5 b h q s 2) = BitVec.ofNat 32 n.val) :
    Host.gather gather_S16x8x8x256x128_S16x8x2048x3x3_S16x8x2048x3x256x128_45_012_n_n_012_4_111256128 f idx (ValueIdx.ix6 b h q s k d)
      = f (ix5 b h n k d) := by
  unfold Host.gather
  refine congrArg f (funext fun a => Fin.ext ?_)
  have hs : ∀ (m : Fin 3) (z : Fin 3), m.val = z.val →
      (gather_S16x8x8x256x128_S16x8x2048x3x3_S16x8x2048x3x256x128_45_012_n_n_012_4_111256128).siIdx (ValueIdx.ix6 b h q s k d) m = ix5 b h q s z := by
    intro m z hm
    funext a
    refine Fin.ext ?_
    match a with
    | ⟨0, _⟩ => rfl
    | ⟨1, _⟩ => rfl
    | ⟨2, _⟩ => rfl
    | ⟨3, _⟩ => rfl
    | ⟨4, _⟩ => exact hm
  match a with
  | ⟨0, _⟩ =>
    show GatherDims.start _ _ idx 0 + GatherDims.batchCoord _ _ 0 + GatherDims.offCoord _ _ 0 = b.val
    rw [GatherDims.batchCoord_eq_zero _ _ _ List.not_mem_nil, GatherDims.offCoord_eq_zero _ _ _ (by decide)]
    unfold GatherDims.start
    rw [dif_pos (by decide)]
    refine (congrArg (fun z => min (idx z).toInt.toNat 15 + 0 + 0) (hs _ 0 rfl)).trans ?_
    show min (idx (ix5 b h q s 0)).toInt.toNat 15 = b.val
    rw [e0, Cert.KernelIdeal.toInt_small _ (by omega)]
    omega
  | ⟨1, _⟩ =>
    show GatherDims.start _ _ idx 1 + GatherDims.batchCoord _ _ 1 + GatherDims.offCoord _ _ 1 = h.val
    rw [GatherDims.batchCoord_eq_zero _ _ _ List.not_mem_nil, GatherDims.offCoord_eq_zero _ _ _ (by decide)]
    unfold GatherDims.start
    rw [dif_pos (by decide)]
    refine (congrArg (fun z => min (idx z).toInt.toNat 7 + 0 + 0) (hs _ 1 rfl)).trans ?_
    show min (idx (ix5 b h q s 1)).toInt.toNat 7 = h.val
    rw [e1, Cert.KernelIdeal.toInt_small _ (by omega)]
    omega
  | ⟨2, _⟩ =>
    show GatherDims.start _ _ idx 2 + GatherDims.batchCoord _ _ 2 + GatherDims.offCoord _ _ 2 = n.val
    rw [GatherDims.batchCoord_eq_zero _ _ _ List.not_mem_nil, GatherDims.offCoord_eq_zero _ _ _ (by decide)]
    unfold GatherDims.start
    rw [dif_pos (by decide)]
    refine (congrArg (fun z => min (idx z).toInt.toNat 7 + 0 + 0) (hs _ 2 rfl)).trans ?_
    show min (idx (ix5 b h q s 2)).toInt.toNat 7 = n.val
    rw [e2, Cert.KernelIdeal.toInt_small _ (by omega)]
    omega
  | ⟨3, _⟩ =>
    show GatherDims.start _ _ idx 3 + GatherDims.batchCoord _ _ 3 + GatherDims.offCoord _ _ 3 = k.val
    rw [GatherDims.batchCoord_eq_zero _ _ _ List.not_mem_nil]
    unfold GatherDims.start GatherDims.offCoord
    rw [dif_neg (by decide), dif_pos (by decide)]
    exact Nat.zero_add _
  | ⟨4, _⟩ =>
    show GatherDims.start _ _ idx 4 + GatherDims.batchCoord _ _ 4 + GatherDims.offCoord _ _ 4 = d.val
    rw [GatherDims.batchCoord_eq_zero _ _ _ List.not_mem_nil]
    unfold GatherDims.start GatherDims.offCoord
    rw [dif_neg (by decide), dif_pos (by decide)]
    exact Nat.zero_add _

/-- The keys of a selected block. -/
theorem v53_at (hx : ∀ R C, a0 (ix2 R C) = ((x R.val C.val : ℝ) : EReal)) (hy : ∀ R C, a1 (ix2 R C) = ((y R.val C.val : ℝ) : EReal)) (b h q s k d) :
    val_main_v53 (F := Ideal) a0 a1 (ValueIdx.ix6 b h q s k d)
      = ((x (2048 * b.val + (256 * (sel x y b.val h.val q.val s).val + k.val)) (1024 + (128 * h.val + d.val)) : ℝ) : EReal) := by
  obtain ⟨e0, e1, e2⟩ := start_at hx hy b h q s
  exact (gather_at _ _ b h q s k d _ e0 e1 e2).trans (v11_at hx b h _ k d)

/-- The second copy of the start indices is the first. -/
theorem v74_eq : val_main_v74 (F := Ideal) a0 a1 = val_main_v52 (F := Ideal) a0 a1 := rfl

/-- The values of a selected block. -/
theorem v75_at (hx : ∀ R C, a0 (ix2 R C) = ((x R.val C.val : ℝ) : EReal)) (hy : ∀ R C, a1 (ix2 R C) = ((y R.val C.val : ℝ) : EReal)) (b h q s k d) :
    val_main_v75 (F := Ideal) a0 a1 (ValueIdx.ix6 b h q s k d)
      = ((x (2048 * b.val + (256 * (sel x y b.val h.val q.val s).val + k.val)) (2048 + (128 * h.val + d.val)) : ℝ) : EReal) := by
  obtain ⟨e0, e1, e2⟩ := start_at hx hy b h q s
  exact (gather_at _ _ b h q s k d _ ((congrFun v74_eq _).trans e0) ((congrFun v74_eq _).trans e1) ((congrFun v74_eq _).trans e2)).trans (v12_at hx b h _ k d)

/-- The score of a query with the key in row `j` of its sequence. -/
def scoreR (x : ℕ → ℕ → ℝ) (b h q j : ℕ) : ℝ :=
  (∑ d : Fin 128, x (2048 * b + q) (128 * h + d.val) * x (2048 * b + j) (1024 + (128 * h + d.val))) * (11863283 / 134217728)

/-- The scale of the scores. -/
theorem scale_word : Ideal.ofBits .f32 0x3DB504F3#32 = ((11863283 / 134217728 : ℝ) : EReal) := Cert.Proof.ofBits_scale

/-- The scores of the keys of a selected block. -/
theorem v80_at (hx : ∀ R C, a0 (ix2 R C) = ((x R.val C.val : ℝ) : EReal)) (hy : ∀ R C, a1 (ix2 R C) = ((y R.val C.val : ℝ) : EReal)) (b h q s k) :
    val_main_v80 (F := Ideal) a0 a1 (ix5 b h q s k)
      = score ((sel x y b.val h.val q.val s).val < q.val / 256) (scoreR x b.val h.val q.val (256 * (sel x y b.val h.val q.val s).val + k.val)) := by
  have e76 : val_main_v76 (F := Ideal) a0 a1 (ix5 b h q s k)
      = ((∑ d : Fin 128, x (2048 * b.val + q.val) (128 * h.val + d.val) * x (2048 * b.val + (256 * (sel x y b.val h.val q.val s).val + k.val)) (1024 + (128 * h.val + d.val)) : ℝ) : EReal) := by
    rw [val_main_v76_apply, ← Cert.Proof.coe_sum]
    refine Finset.sum_congr rfl fun d _ => ?_
    rw [EReal.coe_mul]
    refine congrArg₂ (· * ·) ((congrArg _ ?_).trans (v4_at hx b h q d)) ((congrArg _ ?_).trans (v53_at hx hy b h q s k d))
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl | ⟨4, _⟩ => rfl | ⟨5, _⟩ => rfl
  have e78 : val_main_v78 (F := Ideal) a0 a1 (ix5 b h q s k) = ((scoreR x b.val h.val q.val (256 * (sel x y b.val h.val q.val s).val + k.val) : ℝ) : EReal) := by
    rw [val_main_v78_apply, e76]
    unfold scoreR
    rw [EReal.coe_mul]
    exact congrArg (_ * ·) scale_word
  have ec : val_main_call2_v1 (F := Ideal) a0 a1 (ix5 b h q s k) = BitVec.ofBool (decide ((sel x y b.val h.val q.val s).val < q.val / 256)) := by
    rw [val_main_call2_v1_apply, val_main_v79_apply, ← v27_at hx hy]
    exact congrArg _ (by funext a; match a with | ⟨0, _⟩ => rfl | ⟨1, _⟩ => rfl | ⟨2, _⟩ => rfl | ⟨3, _⟩ => rfl)
  rw [val_main_v80_apply, e78, ec, Scalar.select_ofBool]
  unfold score
  refine if_congr (by simp) rfl ?_
  exact Cert.Proof.ofBits_bot

/-- The scores of the keys of the query's own block. -/
theorem v93_at (hx : ∀ R C, a0 (ix2 R C) = ((x R.val C.val : ℝ) : EReal)) (b h n) (r k : Fin 256) :
    val_main_v93 (F := Ideal) a0 (ix5 b h n r k) = score (k.val ≤ r.val) (scoreR x b.val h.val (256 * n.val + r.val) (256 * n.val + k.val)) := by
  have e83 : val_main_v83 (F := Ideal) a0 (ix5 b h n r k)
      = ((∑ d : Fin 128, x (2048 * b.val + (256 * n.val + r.val)) (128 * h.val + d.val) * x (2048 * b.val + (256 * n.val + k.val)) (1024 + (128 * h.val + d.val)) : ℝ) : EReal) := by
    rw [val_main_v83_apply, ← Cert.Proof.coe_sum]
    refine Finset.sum_congr rfl fun d _ => ?_
    rw [EReal.coe_mul]
    refine congrArg₂ (· * ·) ((congrArg _ ?_).trans (v82_at hx b h n r d)) ((congrArg _ ?_).trans (v11_at hx b h n k d))
    · funext a; match a with | ⟨0, _⟩ => rfl | ⟨1, _⟩ => rfl | ⟨2, _⟩ => rfl | ⟨3, _⟩ => rfl | ⟨4, _⟩ => rfl
    · funext a; match a with | ⟨0, _⟩ => rfl | ⟨1, _⟩ => rfl | ⟨2, _⟩ => rfl | ⟨3, _⟩ => rfl | ⟨4, _⟩ => rfl
  have e85 : val_main_v85 (F := Ideal) a0 (ix5 b h n r k) = ((scoreR x b.val h.val (256 * n.val + r.val) (256 * n.val + k.val) : ℝ) : EReal) := by
    rw [val_main_v85_apply, e83]
    unfold scoreR
    rw [EReal.coe_mul]
    exact congrArg (_ * ·) scale_word
  have ec : val_main_call3_v1 (F := Ideal) (ix5 b h n r k) = BitVec.ofBool (decide (k.val ≤ r.val)) := by
    have h : ∀ r k : Fin 256, IntOp.cmpi .sle (BitVec.ofNat 32 k.val) (BitVec.ofNat 32 r.val) = BitVec.ofBool (decide (k.val ≤ r.val)) := by
      intro r k
      unfold IntOp.cmpi
      refine congrArg BitVec.ofBool ?_
      rw [BitVec.sle_eq_decide, Cert.KernelIdeal.toInt_small _ (by omega), Cert.KernelIdeal.toInt_small _ (by omega)]
      exact decide_eq_decide.2 (by omega)
    exact h r k
  rw [val_main_v93_apply, e85, ec, Scalar.select_ofBool]
  unfold score
  refine if_congr (by simp) rfl ?_
  exact Cert.Proof.ofBits_bot

end Cert.ReferenceIdeal.Read

end
-- ==== Proof.RefValue.lean ====
module

public import proofs.«01_k».proof.Proof.RefScores

@[expose] public section

set_option maxRecDepth 16384

noncomputable section

namespace Cert.ReferenceIdeal.Read

open Idealize.ShloMosaic Idealize.ShloMosaic.TcCoe Finset
open Cert.Proof (score weight)
open Classical

variable {a0 : (⟨S32768x3072, .bf16⟩ : BufTy).Contents (Elt Ideal)} {a1 : (⟨S128x1024, .f32⟩ : BufTy).Contents (Elt Ideal)} {x y : ℕ → ℕ → ℝ}

/-- Whether a query attends to entry `K` of its row of scores: three selected blocks, then its own block. -/
def okR (x y : ℕ → ℕ → ℝ) (b h q : ℕ) (K : Fin 1024) : Prop :=
  if hK : K.val < 768 then (sel x y b h q ⟨K.val / 256, by omega⟩).val < q / 256 else K.val - 768 ≤ q % 256

/-- The row, in its sequence, of the key of entry `K` of a query's row of scores. -/
def keyR (x y : ℕ → ℕ → ℝ) (b h q : ℕ) (K : Fin 1024) : ℕ :=
  if hK : K.val < 768 then 256 * (sel x y b h q ⟨K.val / 256, by omega⟩).val + K.val % 256 else 256 * (q / 256) + (K.val - 768)

/-- The scores, equal where their conditions and their values are. -/
theorem score_congr {p p' : Prop} [Decidable p] [Decidable p'] {d d' : ℝ} (h : p ↔ p') (e : d = d') : score p d = score p' d' := by
  unfold score; subst e; exact if_congr h rfl rfl

/-- The weights, equal where their conditions and their exponents are. -/
theorem weight_congr {p p' : Prop} [Decidable p] [Decidable p'] {d d' : ℝ} (h : p ↔ p') (e : d = d') : weight p d = weight p' d' := by
  unfold weight; subst e; exact if_congr h rfl rfl

/-- The row of scores. -/
theorem v95_at (hx : ∀ R C, a0 (ix2 R C) = ((x R.val C.val : ℝ) : EReal)) (hy : ∀ R C, a1 (ix2 R C) = ((y R.val C.val : ℝ) : EReal)) (b h q) (K : Fin 1024) :
    val_main_v95 (F := Ideal) a0 a1 (ix4 b h q K) = score (okR x y b.val h.val q.val K) (scoreR x b.val h.val q.val (keyR x y b.val h.val q.val K)) := by
  unfold val_main_v95
  pointwise
  split
  · rename_i hK
    rw [val_main_v81_apply]
    refine (congrArg _ ?_).trans ((v80_at hx hy b h q ⟨K.val / 256, by omega⟩ ⟨K.val % 256, by omega⟩).trans ?_)
    · funext a
      refine Fin.ext ?_
      match a with
      | ⟨0, _⟩ => simp; omega
      | ⟨1, _⟩ => simp; omega
      | ⟨2, _⟩ => simp; omega
      | ⟨3, _⟩ => simp; omega
      | ⟨4, _⟩ => simp; omega
    · exact score_congr (by unfold okR; rw [dif_pos hK]) (by unfold keyR; rw [dif_pos hK])
  · rename_i hK
    rw [val_main_v94_apply]
    refine (congrArg _ ?_).trans ((v93_at hx b h ⟨q.val / 256, by omega⟩ ⟨q.val % 256, by omega⟩ ⟨K.val - 768, by omega⟩).trans ?_)
    · funext a
      refine Fin.ext ?_
      match a with
      | ⟨0, _⟩ => simp; omega
      | ⟨1, _⟩ => simp; omega
      | ⟨2, _⟩ => simp; omega
      | ⟨3, _⟩ => simp; omega
      | ⟨4, _⟩ => simp; omega
    · refine score_congr (by unfold okR; rw [dif_neg hK]) ?_
      unfold keyR
      rw [dif_neg hK]
      exact congrArg (fun q => scoreR x b.val h.val q _) (by show 256 * (q.val / 256) + q.val % 256 = q.val; omega)

/-- The greatest score of each row is real. -/
theorem v98_at (hx : ∀ R C, a0 (ix2 R C) = ((x R.val C.val : ℝ) : EReal)) (hy : ∀ R C, a1 (ix2 R C) = ((y R.val C.val : ℝ) : EReal)) (b h q) :
    ∃ μ : ℝ, val_main_v98 (F := Ideal) a0 a1 (ix3 b h q) = (μ : EReal) := by
  obtain ⟨μ, hμ⟩ := Cert.Proof.sup_score (fun K => okR x y b.val h.val q.val K) (fun K => scoreR x b.val h.val q.val (keyR x y b.val h.val q.val K))
    ⟨⟨768, by decide⟩, by unfold okR; simp⟩
  refine ⟨μ, ?_⟩
  have e96 : val_main_v96 (F := Ideal) a0 a1 (ix3 b h q) = (μ : EReal) := by
    rw [← hμ]
    unfold val_main_v96
    have hr : S16x8x2048x1024.Reduces [3] S16x8x2048 := by decide
    have : Std.Commutative (FloatOps.maximumf (F := Ideal) (φ := .f32)) := ⟨fun a b => max_comm (α := EReal) a b⟩
    have : Std.Associative (FloatOps.maximumf (F := Ideal) (φ := .f32)) := ⟨fun a b c => max_assoc (α := EReal) a b c⟩
    rw [Host.reduce_eq_fold_single _ _ _ _ hr]
    have h : (val_main_v95 (F := Ideal) a0 a1) ∘ hr.lift (ix3 b h q)
        = fun K : Fin 1024 => score (okR x y b.val h.val q.val K) (scoreR x b.val h.val q.val (keyR x y b.val h.val q.val K)) := by
      funext K
      refine Eq.trans (congrArg (val_main_v95 (F := Ideal) a0 a1) ?_) (v95_at hx hy b h q K)
      funext d
      refine Fin.ext ?_
      match d with
      | ⟨0, _⟩ => rfl
      | ⟨1, _⟩ => rfl
      | ⟨2, _⟩ => rfl
      | ⟨3, _⟩ => rfl
    rw [h]
    have hb : val_main_cst_17 (F := Ideal) (Shape.Idx.first Cert.ReferenceIdeal.Gen.h_S_) = (⊥ : EReal) := Cert.Proof.ofBits_bot
    rw [hb]
    rfl
  rw [val_main_v98_apply, e96, val_main_v97_apply]
  show max (Ideal.ofBits .f32 0xFF800000#32) _ = _
  rw [Cert.Proof.ofBits_bot]
  exact max_eq_right bot_le

/-- A row of normalised weights. -/
theorem v106_at (hx : ∀ R C, a0 (ix2 R C) = ((x R.val C.val : ℝ) : EReal)) (hy : ∀ R C, a1 (ix2 R C) = ((y R.val C.val : ℝ) : EReal)) (b h q) (K : Fin 1024) :
    val_main_v106 (F := Ideal) a0 a1 (ix4 b h q K)
      = ((weight (okR x y b.val h.val q.val K) (scoreR x b.val h.val q.val (keyR x y b.val h.val q.val K))
          / ∑ J : Fin 1024, weight (okR x y b.val h.val q.val J) (scoreR x b.val h.val q.val (keyR x y b.val h.val q.val J)) : ℝ) : EReal) := by
  obtain ⟨μ, hμ⟩ := v98_at hx hy b h q
  have e102 : ∀ J : Fin 1024, val_main_v102 (F := Ideal) a0 a1 (ix4 b h q J)
      = ((Real.exp (-μ) * weight (okR x y b.val h.val q.val J) (scoreR x b.val h.val q.val (keyR x y b.val h.val q.val J)) : ℝ) : EReal) := by
    intro J
    rw [val_main_v102_apply, val_main_v101_apply, v95_at hx hy, val_main_v100_apply, val_main_v99_apply]
    have e : val_main_v98 (F := Ideal) a0 a1 (idx_main_v99 (idx_main_v100 (ix4 b h q J))) = (μ : EReal) :=
      (congrArg _ (by funext a; match a with | ⟨0, _⟩ => rfl | ⟨1, _⟩ => rfl | ⟨2, _⟩ => rfl)).trans hμ
    rw [e]
    refine (Cert.Proof.exp_score _ _ μ).trans ?_
    rw [Cert.Proof.weight_sub]
  have e103 : val_main_v103 (F := Ideal) a0 a1 (ix3 b h q)
      = ((Real.exp (-μ) * ∑ J : Fin 1024, weight (okR x y b.val h.val q.val J) (scoreR x b.val h.val q.val (keyR x y b.val h.val q.val J)) : ℝ) : EReal) := by
    rw [val_main_v103_apply, Finset.mul_sum, ← Cert.Proof.coe_sum]
    have h0 : val_main_cst_19 (F := Ideal) (Shape.Idx.first Cert.ReferenceIdeal.Gen.h_S_) = (0 : EReal) := Ideal.ofBits_zero_f32
    rw [h0, zero_add]
    refine Finset.sum_congr rfl fun J _ => ?_
    exact (congrArg _ (by funext a; match a with | ⟨0, _⟩ => rfl | ⟨1, _⟩ => rfl | ⟨2, _⟩ => rfl | ⟨3, _⟩ => rfl)).trans (e102 J)
  have hp := Cert.Proof.sum_weight_pos (fun K => okR x y b.val h.val q.val K) (fun K => scoreR x b.val h.val q.val (keyR x y b.val h.val q.val K))
    ⟨⟨768, by decide⟩, by unfold okR; simp⟩
  rw [val_main_v106_apply, e102, val_main_v105_apply, val_main_v104_apply]
  have e : val_main_v103 (F := Ideal) a0 a1 (idx_main_v104 (idx_main_v105 (ix4 b h q K))) = _ :=
    (congrArg _ (by funext a; match a with | ⟨0, _⟩ => rfl | ⟨1, _⟩ => rfl | ⟨2, _⟩ => rfl)).trans e103
  rw [e]
  refine (Cert.Proof.div_coe _ _ (mul_ne_zero (Real.exp_pos _).ne' hp.ne')).trans ?_
  rw [mul_div_mul_left _ _ (Real.exp_pos _).ne']

/-- The weighted values of the selected blocks. -/
theorem v111_at (hx : ∀ R C, a0 (ix2 R C) = ((x R.val C.val : ℝ) : EReal)) (hy : ∀ R C, a1 (ix2 R C) = ((y R.val C.val : ℝ) : EReal)) (b h q) (d : Fin 128) (N : ℝ)
    (hN : N = ∑ J : Fin 1024, weight (okR x y b.val h.val q.val J) (scoreR x b.val h.val q.val (keyR x y b.val h.val q.val J))) :
    val_main_v111 (F := Ideal) a0 a1 (ix4 b h q d)
      = ((∑ s : Fin 3, ∑ k : Fin 256, weight ((sel x y b.val h.val q.val s).val < q.val / 256) (scoreR x b.val h.val q.val (256 * (sel x y b.val h.val q.val s).val + k.val)) / N
          * x (2048 * b.val + (256 * (sel x y b.val h.val q.val s).val + k.val)) (2048 + (128 * h.val + d.val)) : ℝ) : EReal) := by
  have e108 : ∀ (s : Fin 3) (k : Fin 256), val_main_v108 (F := Ideal) a0 a1 (ix5 b h q s k)
      = ((weight ((sel x y b.val h.val q.val s).val < q.val / 256) (scoreR x b.val h.val q.val (256 * (sel x y b.val h.val q.val s).val + k.val)) / N : ℝ) : EReal) := by
    intro s k
    have hK : 256 * s.val + k.val < 768 := by omega
    have hd : (⟨(256 * s.val + k.val) / 256, by omega⟩ : Fin 3) = s := Fin.ext (by show (256 * s.val + k.val) / 256 = s.val; omega)
    have hm : (256 * s.val + k.val) % 256 = k.val := by omega
    rw [val_main_v108_apply, val_main_v107_apply]
    refine (congrArg _ ?_).trans ((v106_at hx hy b h q ⟨256 * s.val + k.val, by omega⟩).trans ?_)
    · funext a
      refine Fin.ext ?_
      match a with
      | ⟨0, _⟩ => simp; omega
      | ⟨1, _⟩ => simp; omega
      | ⟨2, _⟩ => simp; omega
      | ⟨3, _⟩ => simp; omega
    · rw [← hN]
      refine congrArg (fun w : ℝ => ((w / N : ℝ) : EReal)) (weight_congr ?_ ?_)
      · unfold okR; rw [dif_pos hK, hd]
      · unfold keyR; rw [dif_pos hK, hd, hm]
  unfold val_main_v111
  simp only [Host.dotGeneral]
  rw [Ideal.dotGeneral_apply, ValueIdx.sum_contr2 dot_S16x8x2048x3x256_S16x8x2048x3x256x128_S16x8x2048x128_43_43_n_5_012_012 256 3 rfl rfl rfl, Finset.sum_comm]
  rw [← Cert.Proof.coe_sum]
  refine Finset.sum_congr rfl fun s _ => ?_
  rw [← Cert.Proof.coe_sum]
  refine Finset.sum_congr rfl fun k _ => ?_
  rw [EReal.coe_mul]
  have h0 := ValueIdx.contrEquiv2_symm_val0 dot_S16x8x2048x3x256_S16x8x2048x3x256x128_S16x8x2048x128_43_43_n_5_012_012 256 3 rfl rfl rfl (k, s)
  have h1 := ValueIdx.contrEquiv2_symm_val1 dot_S16x8x2048x3x256_S16x8x2048x3x256x128_S16x8x2048x128_43_43_n_5_012_012 256 3 rfl rfl rfl (k, s)
  refine congrArg₂ (· * ·) ((congrArg _ ?_).trans (e108 s k)) ((congrArg _ ?_).trans (v75_at hx hy b h q s k d))
  · funext a
    refine Fin.ext ?_
    match a with
    | ⟨0, _⟩ => rfl
    | ⟨1, _⟩ => rfl
    | ⟨2, _⟩ => rfl
    | ⟨3, _⟩ => exact h1
    | ⟨4, _⟩ => exact h0
  · funext a
    refine Fin.ext ?_
    match a with
    | ⟨0, _⟩ => rfl
    | ⟨1, _⟩ => rfl
    | ⟨2, _⟩ => rfl
    | ⟨3, _⟩ => exact h1
    | ⟨4, _⟩ => exact h0
    | ⟨5, _⟩ => rfl

/-- The weighted values of the query's own block. -/
theorem v113_at (hx : ∀ R C, a0 (ix2 R C) = ((x R.val C.val : ℝ) : EReal)) (hy : ∀ R C, a1 (ix2 R C) = ((y R.val C.val : ℝ) : EReal)) (b h q) (d : Fin 128) (N : ℝ)
    (hN : N = ∑ J : Fin 1024, weight (okR x y b.val h.val q.val J) (scoreR x b.val h.val q.val (keyR x y b.val h.val q.val J))) :
    val_main_v113 (F := Ideal) a0 a1 (ix4 b h q d)
      = ((∑ k : Fin 256, weight (k.val ≤ q.val % 256) (scoreR x b.val h.val q.val (256 * (q.val / 256) + k.val)) / N
          * x (2048 * b.val + (256 * (q.val / 256) + k.val)) (2048 + (128 * h.val + d.val)) : ℝ) : EReal) := by
  have e110 : ∀ k : Fin 256, val_main_v110 (F := Ideal) a0 a1 (ix5 b h ⟨q.val / 256, by omega⟩ ⟨q.val % 256, by omega⟩ k)
      = ((weight (k.val ≤ q.val % 256) (scoreR x b.val h.val q.val (256 * (q.val / 256) + k.val)) / N : ℝ) : EReal) := by
    intro k
    have hK : ¬ 768 + k.val < 768 := by omega
    have hm : 768 + k.val - 768 = k.val := by omega
    rw [val_main_v110_apply, val_main_v109_apply]
    refine (congrArg _ ?_).trans ((v106_at hx hy b h q ⟨768 + k.val, by omega⟩).trans ?_)
    · funext a
      refine Fin.ext ?_
      match a with
      | ⟨0, _⟩ => simp; omega
      | ⟨1, _⟩ => simp; omega
      | ⟨2, _⟩ => simp; omega
      | ⟨3, _⟩ => simp
    · rw [← hN]
      refine congrArg (fun w : ℝ => ((w / N : ℝ) : EReal)) (weight_congr ?_ ?_)
      · unfold okR; rw [dif_neg hK, hm]
      · unfold keyR; rw [dif_neg hK, hm]
  rw [val_main_v113_apply]
  refine Eq.trans (congrArg _ (a₂ := ix5 b h ⟨q.val / 256, by omega⟩ ⟨q.val % 256, by omega⟩ d) ?_) ?_
  · funext a
    refine Fin.ext ?_
    match a with
    | ⟨0, _⟩ => simp; omega
    | ⟨1, _⟩ => simp; omega
    | ⟨2, _⟩ => simp; omega
    | ⟨3, _⟩ => simp; omega
    | ⟨4, _⟩ => simp
  rw [val_main_v112_apply, ← Cert.Proof.coe_sum]
  refine Finset.sum_congr rfl fun k _ => ?_
  rw [EReal.coe_mul]
  refine congrArg₂ (· * ·) ((congrArg _ ?_).trans (e110 k)) ((congrArg _ ?_).trans (v12_at hx b h ⟨q.val / 256, by omega⟩ k d))
  · funext a; match a with | ⟨0, _⟩ => rfl | ⟨1, _⟩ => rfl | ⟨2, _⟩ => rfl | ⟨3, _⟩ => rfl | ⟨4, _⟩ => rfl
  · funext a; match a with | ⟨0, _⟩ => rfl | ⟨1, _⟩ => rfl | ⟨2, _⟩ => rfl | ⟨3, _⟩ => rfl | ⟨4, _⟩ => rfl

/-- The sum of a row of weights, its three selected blocks and its own block apart. -/
theorem sum_row (x y : ℕ → ℕ → ℝ) (b h q : ℕ) :
    ∑ J : Fin 1024, weight (okR x y b h q J) (scoreR x b h q (keyR x y b h q J))
      = (∑ s : Fin 3, ∑ k : Fin 256, weight ((sel x y b h q s).val < q / 256) (scoreR x b h q (256 * (sel x y b h q s).val + k.val)))
        + ∑ k : Fin 256, weight (k.val ≤ q % 256) (scoreR x b h q (256 * (q / 256) + k.val)) := by
  rw [Fin.sum_univ_add (a := 768) (b := 256)]
  refine congrArg₂ (· + ·) ?_ (Finset.sum_congr rfl fun k _ => ?_)
  · rw [← Fin.sum_mul_add_fin (L := 768) 3 256 _ rfl]
    refine Finset.sum_congr rfl fun s _ => Finset.sum_congr rfl fun k _ => ?_
    have hK : s.val * 256 + k.val < 768 := by omega
    have hd : (⟨(s.val * 256 + k.val) / 256, by omega⟩ : Fin 3) = s := Fin.ext (by show (s.val * 256 + k.val) / 256 = s.val; omega)
    have hm : (s.val * 256 + k.val) % 256 = k.val := by omega
    refine weight_congr ?_ (congrArg _ ?_)
    · unfold okR
      refine (iff_of_eq (dif_pos hK)).trans ?_
      show (sel x y b h q ⟨(s.val * 256 + k.val) / 256, _⟩).val < q / 256 ↔ _
      rw [hd]
    · unfold keyR
      refine (dif_pos hK).trans ?_
      show 256 * (sel x y b h q ⟨(s.val * 256 + k.val) / 256, _⟩).val + (s.val * 256 + k.val) % 256 = _
      rw [hd, hm]
  · have hK : ¬ 768 + k.val < 768 := by omega
    have hm : 768 + k.val - 768 = k.val := by omega
    refine weight_congr ?_ (congrArg _ ?_)
    · unfold okR
      refine (iff_of_eq (dif_neg hK)).trans ?_
      show 768 + k.val - 768 ≤ _ ↔ _
      rw [hm]
    · unfold keyR
      refine (dif_neg hK).trans ?_
      show _ + (768 + k.val - 768) = _
      rw [hm]

/-- What the reference computes for one query of one head: the average, over the attended keys, of their values. -/
theorem v114_at (hx : ∀ R C, a0 (ix2 R C) = ((x R.val C.val : ℝ) : EReal)) (hy : ∀ R C, a1 (ix2 R C) = ((y R.val C.val : ℝ) : EReal)) (b h q) (d : Fin 128) :
    val_main_v114 (F := Ideal) a0 a1 (ix4 b h q d)
      = ((Cert.Proof.attend (gateR x y b.val h.val q.val) (q.val / 256) (q.val % 256) (scoreR x b.val h.val q.val)
          (fun j => x (2048 * b.val + j) (2048 + (128 * h.val + d.val))) : ℝ) : EReal) := by
  rw [val_main_v114_apply, v111_at hx hy b h q d _ rfl, v113_at hx hy b h q d _ rfl]
  refine (EReal.coe_add _ _).symm.trans (congrArg _ ?_)
  have hs := Cert.Proof.sum_selected (gateR x y b.val h.val q.val) (q.val / 256) (q.val % 256) (by omega)
    (beforeR (Cert.Proof.masked (gateR x y b.val h.val q.val) (q.val / 256))) (fun a b => beforeR_iff _ a b) (scoreR x b.val h.val q.val)
  unfold Cert.Proof.attend
  rw [← hs, ← hs, sum_row]
  simp only [mul_one, div_mul_eq_mul_div, ← Finset.sum_div, ← add_div, Nat.mul_comm 256]
  rfl

/-- What the reference returns. -/
theorem v117_at (hx : ∀ R C, a0 (ix2 R C) = ((x R.val C.val : ℝ) : EReal)) (hy : ∀ R C, a1 (ix2 R C) = ((y R.val C.val : ℝ) : EReal)) (R : Fin 32768) (C : Fin 1024) :
    val_main_v117 (F := Ideal) a0 a1 (ix2 R C)
      = ((Cert.Proof.attend (gateR x y (R.val / 2048) (C.val / 128) (R.val % 2048)) (R.val % 2048 / 256) (R.val % 2048 % 256)
          (scoreR x (R.val / 2048) (C.val / 128) (R.val % 2048))
          (fun j => x (2048 * (R.val / 2048) + j) (2048 + (128 * (C.val / 128) + C.val % 128))) : ℝ) : EReal) := by
  rw [val_main_v117_apply, val_main_v116_apply, val_main_v115_apply]
  refine Eq.trans ?_ (v114_at hx hy ⟨R.val / 2048, by omega⟩ ⟨C.val / 128, by omega⟩ ⟨R.val % 2048, by omega⟩ ⟨C.val % 128, by omega⟩)
  refine congrArg (val_main_v114 (F := Ideal) a0 a1) ?_
  funext a
  refine Fin.ext ?_
  match a with
  | ⟨0, _⟩ => simp; omega
  | ⟨1, _⟩ => simp; omega
  | ⟨2, _⟩ => simp; omega
  | ⟨3, _⟩ => simp; omega

end Cert.ReferenceIdeal.Read

end
-- ==== Proof.Finite.lean ====
module

public import proofs.«01_k».proof.Proof.KernelValue
public import proofs.«01_k».proof.Proof.RefValue
public import proofs.«01_k».proof.Proof.Gen.Pre_finite
public import Idealize.ShloMosaic.Lib.ReduceAll

@[expose] public section

set_option maxRecDepth 16384

noncomputable section

namespace Cert.Proof

open Idealize.ShloMosaic

/-- An extended real whose absolute value is less than infinity is a real. -/
theorem real_of_lt (z : EReal) (h : FloatOps.cmpf (F := Ideal) (φ := .f32) .olt (FloatOps.hostAbsf (F := Ideal) (φ := .f32) z) (Ideal.ofBits .f32 0x7F800000#32) = 1#1) :
    ∃ r : ℝ, z = (r : EReal) := by
  have h' : (BitVec.ofBool (decide (max z (-z) < Ideal.ofBits .f32 0x7F800000#32)) : BitVec 1) = 1#1 := h
  rw [ofBits_top] at h'
  have h2 : max z (-z) < ⊤ := by
    by_contra hc
    rw [decide_eq_false hc] at h'
    exact absurd h' (by decide)
  rw [max_lt_iff] at h2
  induction z using EReal.rec with
  | bot => exact absurd h2.2 (by simp)
  | coe r => exact ⟨r, rfl⟩
  | top => exact absurd h2.1 (by simp)

/-- The precondition says that every element of both arguments is a real. -/
theorem real_args (a0 : FVec Ideal Cert.Pre_finite.S32768x3072 .bf16) (a1 : FVec Ideal Cert.Pre_finite.S128x1024 .f32)
    (h : Cert.Pre_finite.fn (F := Ideal) a0 a1 = fun _ => 1#1) :
    ∃ x y : ℕ → ℕ → ℝ, (∀ (R : Fin 32768) (C : Fin 3072), a0 (ix2 R C) = ((x R.val C.val : ℝ) : EReal))
      ∧ ∀ (R : Fin 128) (C : Fin 1024), a1 (ix2 R C) = ((y R.val C.val : ℝ) : EReal) := by
  have h0 := congrFun h (Shape.Idx.first Cert.Pre_finite.Gen.h_S_)
  obtain ⟨h1, h2⟩ := IntOp.andi_eq_one.1 h0
  have : Subsingleton Cert.Pre_finite.S_.Idx := ⟨fun a b => funext fun i => i.elim0⟩
  have e1 : ∀ (R : Fin 32768) (C : Fin 3072), ∃ r : ℝ, a0 (ix2 R C) = (r : EReal) := fun R C =>
    real_of_lt _ (Host.reduce_andi_all _ _ _ _ _ h1 (ix2 R C))
  have e2 : ∀ (R : Fin 128) (C : Fin 1024), ∃ r : ℝ, a1 (ix2 R C) = (r : EReal) := fun R C =>
    real_of_lt _ (Host.reduce_andi_all _ _ _ _ _ h2 (ix2 R C))
  choose x hx using e1
  choose y hy using e2
  refine ⟨fun R C => if h : R < 32768 ∧ C < 3072 then x ⟨R, h.1⟩ ⟨C, h.2⟩ else 0, fun R C => if h : R < 128 ∧ C < 1024 then y ⟨R, h.1⟩ ⟨C, h.2⟩ else 0, fun R C => ?_, fun R C => ?_⟩
  · simp only [R.isLt, C.isLt, and_self, dif_pos, Fin.eta]
    exact hx R C
  · simp only [R.isLt, C.isLt, and_self, dif_pos, Fin.eta]
    exact hy R C

/-- The kernel and the reference compute the same attention. -/
theorem attn_eq (x y : ℕ → ℕ → ℝ) (R : Fin 32768) (C : Fin 1024) :
    attend (Cert.ReferenceIdeal.Read.gateR x y (R.val / 2048) (C.val / 128) (R.val % 2048)) (R.val % 2048 / 256) (R.val % 2048 % 256)
        (Cert.ReferenceIdeal.Read.scoreR x (R.val / 2048) (C.val / 128) (R.val % 2048))
        (fun j => x (2048 * (R.val / 2048) + j) (2048 + (128 * (C.val / 128) + C.val % 128)))
      = Cert.KernelIdeal.Gen.attn x y R.val C.val := by
  have h1 : 2048 * (R.val / 2048) + R.val % 2048 = R.val := by omega
  have h2 : 128 * (C.val / 128) + C.val % 128 = C.val := by omega
  have h3 : R.val % 2048 % 256 = R.val % 256 := by omega
  unfold Cert.KernelIdeal.Gen.attn Cert.ReferenceIdeal.Read.gateR Cert.ReferenceIdeal.Read.scoreR
  simp only [h1, h2, h3, Nat.mul_comm 2048, Nat.mul_comm 8, Nat.mul_comm 128 (C.val / 128)]
  rw [Nat.mul_comm 2048] at h1
  rw [Nat.mul_comm 128] at h2
  simp only [h1, h2]

end Cert.Proof

end
-- ==== Proof.Ffn.lean ====
module

public import Idealize.ShloMosaic.Lib.Pipeline.ValueKit
public import Idealize.ShloMosaic.Lib.Pointwise
public import Idealize.ShloMosaic.Lib.Pointwise.IndexVar
public import Idealize.ShloMosaic.Lib.MatmulPlain
public import Idealize.ShloMosaic.Lib.Pipeline.Value

@[expose] public section

set_option maxRecDepth 16384

noncomputable section

namespace Cert.Ffn

open Idealize.ShloMosaic Idealize.ShloMosaic.TcCoe Finset

/-! ## The mathematics of a row -/

/-- A row over its root mean square, times the gains. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- One hidden unit: the first product times its logistic, times the second product. -/
def gated (h : Fin 1024 → EReal) (u v : Fin 1024 → EReal) : EReal :=
  (∑ k, h k * u k) * Ideal.logistic (∑ k, h k * u k) * ∑ k, h k * v k

/-- A row plus half of the feed-forward part of its normalised row. -/
def half (x g : Fin 1024 → EReal) (w1 w3 : Fin 1024 → Fin 2816 → EReal) (w2 : Fin 2816 → Fin 1024 → EReal) (d : Fin 1024) : EReal :=
  x d + Ideal.ofBits .f32 0x3F000000#32 * ∑ f : Fin 2816, gated (rms x g) (fun k => w1 k f) (fun k => w3 k f) * w2 f d

/-- It depends on the entries only. -/
theorem half_congr {x x' g g' : Fin 1024 → EReal} {w1 w1' w3 w3' : Fin 1024 → Fin 2816 → EReal} {w2 w2' : Fin 2816 → Fin 1024 → EReal} {d d' : Fin 1024}
    (hx : ∀ k, x k = x' k) (hg : ∀ k, g k = g' k) (h1 : ∀ k f, w1 k f = w1' k f) (h3 : ∀ k f, w3 k f = w3' k f) (h2 : ∀ f k, w2 f k = w2' f k)
    (hd : d = d') : half x g w1 w3 w2 d = half x' g' w1' w3' w2' d' := by
  obtain rfl : x = x' := funext hx
  obtain rfl : g = g' := funext hg
  obtain rfl : w1 = w1' := funext fun k => funext (h1 k)
  obtain rfl : w3 = w3' := funext fun k => funext (h3 k)
  obtain rfl : w2 = w2' := funext fun f => funext (h2 f)
  rw [hd]

/-- A normalised row depends on the entries only. -/
theorem rms_congr {x x' g g' : Fin 1024 → EReal} {d d' : Fin 1024} (hx : ∀ k, x k = x' k) (hg : ∀ k, g k = g' k) (hd : d = d') :
    rms x g d = rms x' g' d' := by
  obtain rfl : x = x' := funext hx
  obtain rfl : g = g' := funext hg
  rw [hd]

/-! ## What a tile of 512 rows computes -/

/-- A matrix shape. -/
abbrev Mat (a b : ℕ) : Shape := ⟨2, ![a, b]⟩

/-- The shape of a matrix with two leading axes of extent one. -/
abbrev Lead (a b : ℕ) : Shape := ⟨4, ![1, 1, a, b]⟩

/-- The shape of a tile's rows. -/
abbrev Rows : Shape := ⟨1, ![512]⟩

theorem cast_gain : (Mat 1 1024).ShapeCasts (Mat 1 1024) := by decide
theorem sums_rows : (Mat 512 1024).Reduces [1] Rows := by decide
theorem cast_rows : Rows.ShapeCasts (Mat 512 1) := by decide
theorem spread_rows : (Mat 512 1).Broadcasts (Mat 512 1024) := by decide
theorem spread_gain : (Mat 1 1024).Broadcasts (Mat 512 1024) := by decide
theorem cast_in : (Lead 1024 256).ShapeCasts (Mat 1024 256) := by decide
theorem cast_out : (Lead 256 1024).ShapeCasts (Mat 256 1024) := by decide
theorem fewer_bits : FTy.bits .bf16 < FTy.bits .f32 := by decide

/-- A matrix read whole. -/
theorem whole_apply {a b : ℕ} {φ : EltTy} (X : Vec Ideal (Mat a b) φ) (h) (r : Fin a) (k : Fin b) :
    View.ld X (Rect.unit (s := Mat a b) ![0, 0] (Mat a b).size h) (ix2 r k) = X (ix2 r k) := by
  refine congrArg X ?_
  funext d
  refine Fin.ext ?_
  match d with
  | ⟨0, _⟩ => show 0 + 1 * r.val = r.val; omega
  | ⟨1, _⟩ => show 0 + 1 * k.val = k.val; omega

/-- The rows of a tile, normalised. -/
def normRows (x : FVec Ideal (Mat 512 1024) .f32) (g : FVec Ideal (Mat 1 1024) .f32) : FVec Ideal (Mat 512 1024) .f32 :=
  mulf (mulf x (broadcastTo (Mat 512 1024) (rsqrt (addf (divf (shapeCast (Mat 512 1)
    (multiReduction .add [1] Rows (mulf x x) 0x00000000#32 sums_rows (.inl rfl) rfl) cast_rows)
      (broadcast (Mat 512 1) (Scalar.ofBits (F := Ideal) .f32 0x44800000#32)))
        (broadcast (Mat 512 1) (Scalar.ofBits (F := Ideal) .f32 0x358637BD#32)))) spread_rows))
    (broadcastTo (Mat 512 1024) (shapeCast (Mat 1 1024) g cast_gain) spread_gain)

/-- An entry of a normalised tile. -/
theorem normRows_apply (x g) (r : Fin 512) (d : Fin 1024) :
    normRows x g (ix2 r d) = rms (fun k => x (ix2 r k)) (fun k => g (ix2 0 k)) d := by
  unfold normRows rms
  pointwise

/-- A product of a tile and a matrix. -/
theorem product_apply {a b c : ℕ} {φ₁ φ₂ : FTy} (x : FVec Ideal (Mat a b) φ₁) (w : FVec Ideal (Mat b c) φ₂) (r : Fin a) (d : Fin c) :
    matmul (DotDims.plain a b c) none x w (constant (Mat a c) .f32 0x00000000#32) (ix2 r d) = ∑ k : Fin b, x (ix2 r k) * w (ix2 k d) := by
  have e {a b : ℕ} (i : Fin a) (j : Fin b) : (ValueIdx.ix2 i j : (Mat a b).Idx) = ix2 i j := by
    funext d
    match d with
    | ⟨0, _⟩ => rfl
    | ⟨1, _⟩ => rfl
  rw [← e]
  refine (Ideal.matmul_plain_apply none x w (constant (Mat a c) .f32 0x00000000#32) r d).trans ?_
  simp only [e, constant_apply]
  pointwise

theorem whole_cast (b c : ℕ) : (Mat b c).ShapeCasts (Mat b c) := rfl

/-- The product of a tile and a matrix loaded whole. -/
def times {a b c : ℕ} (x : FVec Ideal (Mat a b) .bf16) (w : FVec Ideal (Mat b c) .bf16) : FVec Ideal (Mat a c) .f32 :=
  matmul (DotDims.plain a b c) none x (shapeCast (Mat b c) w (whole_cast b c)) (constant (Mat a c) .f32 0x00000000#32)

theorem times_apply {a b c : ℕ} (x : FVec Ideal (Mat a b) .bf16) (w : FVec Ideal (Mat b c) .bf16) (r : Fin a) (d : Fin c) :
    times x w (ix2 r d) = ∑ k : Fin b, x (ix2 r k) * w (ix2 k d) := by
  unfold times
  rw [shapeCast_self]
  exact product_apply x w r d

/-- What 256 hidden units add. -/
def chunk (h : FVec Ideal (Mat 512 1024) .bf16) (u v : FVec Ideal (Lead 1024 256) .bf16) (w : FVec Ideal (Lead 256 1024) .bf16) :
    FVec Ideal (Mat 512 1024) .f32 :=
  matmul (DotDims.plain 512 256 1024) none
    (truncf .bf16 (mulf (mulf (matmul (DotDims.plain 512 1024 256) none h (shapeCast (Mat 1024 256) u cast_in) (constant (Mat 512 256) .f32 0x00000000#32))
        (logistic (matmul (DotDims.plain 512 1024 256) none h (shapeCast (Mat 1024 256) u cast_in) (constant (Mat 512 256) .f32 0x00000000#32))))
      (matmul (DotDims.plain 512 1024 256) none h (shapeCast (Mat 1024 256) v cast_in) (constant (Mat 512 256) .f32 0x00000000#32))) fewer_bits)
    (shapeCast (Mat 256 1024) w cast_out) (constant (Mat 512 1024) .f32 0x00000000#32)

/-- 256 columns without the leading axes. -/
theorem in_apply (X : FVec Ideal (Lead 1024 256) .bf16) (r : Fin 1024) (d : Fin 256) :
    shapeCast (Mat 1024 256) X cast_in (ix2 r d) = X (ix4 0 0 r d) := by
  pointwise

/-- 256 rows without the leading axes. -/
theorem out_apply (X : FVec Ideal (Lead 256 1024) .bf16) (r : Fin 256) (d : Fin 1024) :
    shapeCast (Mat 256 1024) X cast_out (ix2 r d) = X (ix4 0 0 r d) := by
  pointwise

/-- An entry of what 256 hidden units add. -/
theorem chunk_apply (h u v w) (r : Fin 512) (d : Fin 1024) :
    chunk h u v w (ix2 r d) = ∑ f : Fin 256, gated (fun k => h (ix2 r k)) (fun k => u (ix4 0 0 k f)) (fun k => v (ix4 0 0 k f)) * w (ix4 0 0 f d) := by
  unfold chunk
  rw [product_apply]
  refine sum_congr rfl fun f _ => ?_
  rw [truncf_apply, mulf_apply, mulf_apply, logistic_apply, product_apply, product_apply, out_apply]
  simp only [in_apply]
  rfl
/-- The columns of hidden units `o` to `o + 255`. -/
abbrev cols (o : ℕ) (h : o + 256 ≤ 2816) : Rect (Lead 1024 2816) :=
  Rect.unit (s := Lead 1024 2816) ![0, 0, 0, o] (Lead 1024 256).size (by
    intro a
    match a with
    | ⟨0, _⟩ => show 0 + 1 ≤ 1; omega
    | ⟨1, _⟩ => show 0 + 1 ≤ 1; omega
    | ⟨2, _⟩ => show 0 + 1024 ≤ 1024; omega
    | ⟨3, _⟩ => show o + 256 ≤ 2816; omega)

/-- The rows of hidden units `o` to `o + 255`. -/
abbrev rows (o : ℕ) (h : o + 256 ≤ 2816) : Rect (Lead 2816 1024) :=
  Rect.unit (s := Lead 2816 1024) ![0, 0, o, 0] (Lead 256 1024).size (by
    intro a
    match a with
    | ⟨0, _⟩ => show 0 + 1 ≤ 1; omega
    | ⟨1, _⟩ => show 0 + 1 ≤ 1; omega
    | ⟨2, _⟩ => show o + 256 ≤ 2816; omega
    | ⟨3, _⟩ => show 0 + 1024 ≤ 1024; omega)

/-- What the hidden units `o` to `o + 255` add. -/
def part (h : FVec Ideal (Mat 512 1024) .bf16) (w1 w3 : Vec Ideal (Lead 1024 2816) .bf16) (w2 : Vec Ideal (Lead 2816 1024) .bf16)
    (o : ℕ) (ho : o + 256 ≤ 2816) : FVec Ideal (Mat 512 1024) .f32 :=
  chunk h (View.ld w1 (cols o ho)) (View.ld w3 (cols o ho)) (View.ld w2 (rows o ho))

/-- A tile of rows plus half of the feed-forward part, in eleven parts. -/
def tile (x : FVec Ideal (Mat 512 1024) .f32) (g : FVec Ideal (Mat 1 1024) .f32) (w1 w3 : Vec Ideal (Lead 1024 2816) .bf16)
    (w2 : Vec Ideal (Lead 2816 1024) .bf16) : FVec Ideal (Mat 512 1024) .f32 :=
  let h := truncf .bf16 (normRows x g) fewer_bits
  addf x (mulf (broadcast (Mat 512 1024) (Scalar.ofBits (F := Ideal) .f32 0x3F000000#32))
    (addf (addf (addf (addf (addf (addf (addf (addf (addf (addf
      (part h w1 w3 w2 0 (by decide)) (part h w1 w3 w2 256 (by decide))) (part h w1 w3 w2 512 (by decide)))
      (part h w1 w3 w2 768 (by decide))) (part h w1 w3 w2 1024 (by decide))) (part h w1 w3 w2 1280 (by decide)))
      (part h w1 w3 w2 1536 (by decide))) (part h w1 w3 w2 1792 (by decide))) (part h w1 w3 w2 2048 (by decide)))
      (part h w1 w3 w2 2304 (by decide))) (part h w1 w3 w2 2560 (by decide))))

/-- An entry of what the hidden units `o` to `o + 255` add. -/
theorem part_apply (h w1 w3 w2) (o : ℕ) (ho : o + 256 ≤ 2816) (r : Fin 512) (d : Fin 1024) :
    part h w1 w3 w2 o ho (ix2 r d) = ∑ f : Fin 256, gated (fun k => h (ix2 r k)) (fun k => w1 (ix4 0 0 k ⟨o + f.val, by omega⟩))
      (fun k => w3 (ix4 0 0 k ⟨o + f.val, by omega⟩)) * w2 (ix4 0 0 ⟨o + f.val, by omega⟩ d) := by
  refine (chunk_apply h _ _ _ r d).trans ?_
  have hc (w : Vec Ideal (Lead 1024 2816) .bf16) (k : Fin 1024) (f : Fin 256) : View.ld w (cols o ho) (ix4 0 0 k f) = w (ix4 0 0 k ⟨o + f.val, by omega⟩) := by
    refine congrArg w ?_
    funext a
    refine Fin.ext ?_
    match a with
    | ⟨0, _⟩ => rfl
    | ⟨1, _⟩ => rfl
    | ⟨2, _⟩ => show 0 + 1 * k.val = k.val; omega
    | ⟨3, _⟩ => show o + 1 * f.val = o + f.val; omega
  have hr (f : Fin 256) : View.ld w2 (rows o ho) (ix4 0 0 f d) = w2 (ix4 0 0 ⟨o + f.val, by omega⟩ d) := by
    refine congrArg w2 ?_
    funext a
    refine Fin.ext ?_
    match a with
    | ⟨0, _⟩ => rfl
    | ⟨1, _⟩ => rfl
    | ⟨2, _⟩ => show o + 1 * f.val = o + f.val; omega
    | ⟨3, _⟩ => show 0 + 1 * d.val = d.val; omega
  refine sum_congr rfl fun f _ => congrArg₂ (· * ·) ?_ (hr f)
  exact congrArg₂ (gated _) (funext fun k => hc w1 k f) (funext fun k => hc w3 k f)

/-- A sum of eleven terms, written out. -/
theorem sum_eleven (f : Fin 11 → EReal) :
    ∑ n, f n = f 0 + f 1 + f 2 + f 3 + f 4 + f 5 + f 6 + f 7 + f 8 + f 9 + f 10 := by
  simp only [Fin.sum_univ_castSucc, Fin.sum_univ_zero, zero_add]
  rfl

/-- An entry of a tile. -/
theorem tile_apply (x g w1 w3 w2) (r : Fin 512) (d : Fin 1024) :
    tile x g w1 w3 w2 (ix2 r d) = half (fun k => x (ix2 r k)) (fun k => g (ix2 0 k)) (fun k f => w1 (ix4 0 0 k f))
      (fun k f => w3 (ix4 0 0 k f)) (fun f k => w2 (ix4 0 0 f k)) d := by
  unfold tile half
  have hs := Fin.sum_mul_add_fin (L := 2816) 11 256 (fun f : Fin 2816 => gated (rms (fun k => x (ix2 r k)) (fun k => g (ix2 0 k)))
    (fun k => w1 (ix4 0 0 k f)) (fun k => w3 (ix4 0 0 k f)) * w2 (ix4 0 0 f d)) rfl
  have hn (k : Fin 1024) : truncf .bf16 (normRows x g) fewer_bits (ix2 r k) = rms (fun k => x (ix2 r k)) (fun k => g (ix2 0 k)) k :=
    normRows_apply x g r k
  rw [← hs]
  simp only [addf_apply, mulf_apply, part_apply, hn]
  rw [sum_eleven]
  rfl

end Cert.Ffn

end
-- ==== Proof.Last.lean ====
module

public import proofs.«01_k».proof.Proof.Gen.Kernel2Ideal.Frame
public import Idealize.ShloMosaic.Lib.Pipeline.ValueKit
public import proofs.«01_k».proof.Proof.Ffn

@[expose] public section

set_option maxRecDepth 16384

noncomputable section

namespace Cert.Ffn

open Idealize.ShloMosaic Idealize.ShloMosaic.TcCoe Finset

/-- A row plus the product of another row and a matrix. -/
def withOut (x a : Fin 1024 → EReal) (w : Fin 1024 → Fin 1024 → EReal) (k : Fin 1024) : EReal := x k + ∑ j, a j * w j k

theorem withOut_congr {x x' a a' : Fin 1024 → EReal} {w w' : Fin 1024 → Fin 1024 → EReal} (hx : ∀ k, x k = x' k) (ha : ∀ k, a k = a' k)
    (hw : ∀ j k, w j k = w' j k) (k : Fin 1024) : withOut x a w k = withOut x' a' w' k := by
  obtain rfl : x = x' := funext hx
  obtain rfl : a = a' := funext ha
  obtain rfl : w = w' := funext fun j => funext (hw j)
  rfl

/-- A tile's rows plus the products of other rows and a matrix. -/
def tileOut (x : FVec Ideal (Mat 512 1024) .f32) (a : FVec Ideal (Mat 512 1024) .bf16) (w : FVec Ideal (Mat 1024 1024) .bf16) : FVec Ideal (Mat 512 1024) .f32 :=
  addf x (times a w)

theorem tileOut_apply (x a w) (r : Fin 512) (d : Fin 1024) :
    tileOut x a w (ix2 r d) = withOut (fun k => x (ix2 r k)) (fun k => a (ix2 r k)) (fun j k => w (ix2 j k)) d := by
  unfold tileOut withOut
  rw [addf_apply, times_apply]
  rfl

end Cert.Ffn

namespace Cert.Kernel2Ideal.Gen

open Idealize.ShloMosaic Idealize.SL.Sem Idealize.ShloMosaic.TcCoe
open Idealize.ShloMosaic.Pipeline (Dat Cfg Window cellOf)
open Idealize.SL Idealize.SL.RA Idealize.SL.BI

variable (m : (ℓ : Loc nD τ sig) → Buf (Elt Ideal) ℓ)

/-- Its rows with the attention's part. -/
theorem pay2_eq (v0 v1 v2) : k0_pay2 (F := Ideal) v0 v1 v2 = Cert.Ffn.tileOut v0 v1 v2 := rfl

/-- Those, normalised. -/
theorem pay3_eq (v0 v1 v2 v6) : k0_pay3 (F := Ideal) v0 v1 v2 v6 = truncf .bf16 (Cert.Ffn.normRows (Cert.Ffn.tileOut v0 v1 v2) v6) Cert.Ffn.fewer_bits := by
  rw [← pay2_eq]
  unfold k0_pay3
  generalize k0_pay2 (F := Ideal) v0 v1 v2 = x
  rfl

/-- The last normalisation. -/
theorem pay1_eq (x g) : k0_pay1 (F := Ideal) x (k0_pay12 g) = Cert.Ffn.normRows x g := rfl

/-- The block a point writes: its rows with the attention's part, the feed-forward part added, normalised. -/
theorem out_eq (x0 x1 x2 x3 x4 x5 x6 x7) : out0_8 (F := Ideal) x0 x1 x2 x3 x4 x5 x6 x7
    = View.canon [⟨r0_0, Cert.Ffn.normRows (Cert.Ffn.tile (Cert.Ffn.tileOut (View.ld x0 r0_0) (View.ld x5 r0_0) (View.ld x6 r0_1)) (View.ld x1 r0_2) x2 x3 x4) (View.ld x7 r0_2)⟩] := by
  unfold_out out0_8
  rw [pay1_eq]
  unfold k0_pay4
  simp only [pay3_eq, pay2_eq]
  generalize Cert.Ffn.tileOut _ _ _ = x
  rfl

/-- The feed-forward gains the call is entered with. -/
theorem V_gain (c : Dev nD) (k : Fin 1024) : (show S1x1024.Idx → EReal from V m c main_v6) (ix2 0 k)
    = (show S2x2x1024.Idx → EReal from m ((c : Thread nD τ).loc main_arg1)) (ix3 1 1 k) := by
  show StableHlo.after hostOps0 _ (Proc.devRef .tc main_v6) (ix2 0 k : S1x1024.Idx) = _
  after_results
  pointwise

/-- The first matrices the call is entered with. -/
theorem V_w1 (c : Dev nD) : (show S2x2x1024x2816.Idx → EReal from V m c main_v0) = m ((c : Thread nD τ).loc main_arg2) := by
  show StableHlo.after hostOps0 _ (Proc.devRef .tc main_v0) = _
  after_results
  rfl

/-- The second matrices the call is entered with. -/
theorem V_w3 (c : Dev nD) : (show S2x2x1024x2816.Idx → EReal from V m c main_v1) = m ((c : Thread nD τ).loc main_arg3) := by
  show StableHlo.after hostOps0 _ (Proc.devRef .tc main_v1) = _
  after_results
  rfl

/-- The third matrices the call is entered with. -/
theorem V_w2 (c : Dev nD) : (show S2x2x2816x1024.Idx → EReal from V m c main_v2) = m ((c : Thread nD τ).loc main_arg4) := by
  show StableHlo.after hostOps0 _ (Proc.devRef .tc main_v2) = _
  after_results
  rfl

/-- The attention's matrix the call is entered with. -/
theorem V_wo (c : Dev nD) (j k : Fin 1024) : (show S1024x1024.Idx → EReal from V m c main_v7) (ix2 j k)
    = (show S1x1024x1024.Idx → EReal from m ((c : Thread nD τ).loc main_arg6)) (ix3 0 j k) := by
  show StableHlo.after hostOps0 _ (Proc.devRef .tc main_v7) (ix2 j k : S1024x1024.Idx) = _
  after_results
  pointwise

/-- The last gains the call is entered with. -/
theorem V_last (c : Dev nD) (k : Fin 1024) : (show S1x1024.Idx → EReal from V m c main_v8) (ix2 0 k)
    = (show S1024.Idx → EReal from m ((c : Thread nD τ).loc main_arg7)) (ix1 k) := by
  show StableHlo.after hostOps0 _ (Proc.devRef .tc main_v8) (ix2 0 k : S1x1024.Idx) = _
  after_results
  pointwise

/-- Where each point's blocks lie. -/
theorem idx : ∀ t : Fin cfg0.N, win0_0.index t = ![t.val, 0] ∧ win0_1.index t = ![0, 0] ∧ win0_2.index t = ![1, 1, 0, 0]
    ∧ win0_3.index t = ![1, 1, 0, 0] ∧ win0_4.index t = ![1, 1, 0, 0] ∧ win0_5.index t = ![t.val, 0] ∧ win0_6.index t = ![0, 0]
    ∧ win0_7.index t = ![0, 0] ∧ win0_8.index t = ![t.val, 0] :=
  (by decide +kernel : ∀ t : Fin grid0.N, _)

/-- A point's rows. -/
theorem block0 (c : Dev nD) (t : Fin cfg0.N) (r : Fin 512) (k : Fin 1024) (h : 512 * t.val + r.val < 32768) :
    (show S512x1024.Idx → EReal from iblk m c 0 t) (ix2 r k) = (show S32768x1024.Idx → EReal from m ((c : Thread nD τ).loc main_arg0)) (ix2 ⟨512 * t.val + r.val, h⟩ k) := by
  refine Eq.trans ?_ (congrFun (V_main_arg0 m c) (ix2 ⟨512 * t.val + r.val, h⟩ k))
  blk_ext [iblk, idx t]

/-- A point's gains. -/
theorem block1 (c : Dev nD) (t : Fin cfg0.N) (k : Fin 1024) : (show S1x1024.Idx → EReal from iblk m c 1 t) (ix2 0 k)
    = (show S2x2x1024.Idx → EReal from m ((c : Thread nD τ).loc main_arg1)) (ix3 1 1 k) := by
  refine Eq.trans ?_ (V_gain m c k)
  blk_ext [iblk, idx t]

/-- A point's first matrix. -/
theorem block2 (c : Dev nD) (t : Fin cfg0.N) (k : Fin 1024) (f : Fin 2816) : (show S1x1x1024x2816.Idx → EReal from iblk m c 2 t) (ix4 0 0 k f)
    = (show S2x2x1024x2816.Idx → EReal from m ((c : Thread nD τ).loc main_arg2)) (ix4 1 1 k f) := by
  refine Eq.trans ?_ (congrFun (V_w1 m c) (ix4 1 1 k f))
  blk_ext [iblk, idx t]

/-- A point's second matrix. -/
theorem block3 (c : Dev nD) (t : Fin cfg0.N) (k : Fin 1024) (f : Fin 2816) : (show S1x1x1024x2816.Idx → EReal from iblk m c 3 t) (ix4 0 0 k f)
    = (show S2x2x1024x2816.Idx → EReal from m ((c : Thread nD τ).loc main_arg3)) (ix4 1 1 k f) := by
  refine Eq.trans ?_ (congrFun (V_w3 m c) (ix4 1 1 k f))
  blk_ext [iblk, idx t]

/-- A point's third matrix. -/
theorem block4 (c : Dev nD) (t : Fin cfg0.N) (f : Fin 2816) (k : Fin 1024) : (show S1x1x2816x1024.Idx → EReal from iblk m c 4 t) (ix4 0 0 f k)
    = (show S2x2x2816x1024.Idx → EReal from m ((c : Thread nD τ).loc main_arg4)) (ix4 1 1 f k) := by
  refine Eq.trans ?_ (congrFun (V_w2 m c) (ix4 1 1 f k))
  blk_ext [iblk, idx t]

/-- A point's rows of the attention's output. -/
theorem block5 (c : Dev nD) (t : Fin cfg0.N) (r : Fin 512) (k : Fin 1024) (h : 512 * t.val + r.val < 32768) :
    (show S512x1024.Idx → EReal from iblk m c 5 t) (ix2 r k) = (show S32768x1024.Idx → EReal from m ((c : Thread nD τ).loc main_arg5)) (ix2 ⟨512 * t.val + r.val, h⟩ k) := by
  refine Eq.trans ?_ (congrFun (V_main_arg5 m c) (ix2 ⟨512 * t.val + r.val, h⟩ k))
  blk_ext [iblk, idx t]

/-- A point's matrix for the attention's output. -/
theorem block6 (c : Dev nD) (t : Fin cfg0.N) (j k : Fin 1024) : (show S1024x1024.Idx → EReal from iblk m c 6 t) (ix2 j k)
    = (show S1x1024x1024.Idx → EReal from m ((c : Thread nD τ).loc main_arg6)) (ix3 0 j k) := by
  refine Eq.trans ?_ (V_wo m c j k)
  blk_ext [iblk, idx t]

/-- A point's last gains. -/
theorem block7 (c : Dev nD) (t : Fin cfg0.N) (k : Fin 1024) : (show S1x1024.Idx → EReal from iblk m c 7 t) (ix2 0 k)
    = (show S1024.Idx → EReal from m ((c : Thread nD τ).loc main_arg7)) (ix1 k) := by
  refine Eq.trans ?_ (V_last m c k)
  blk_ext [iblk, idx t]

/-- The array the kernel writes: each row with the attention's part and half of its feed-forward part, normalised. -/
theorem final (c : Dev nD) : (dats m 0 c).arrAt 8 (cfgs 0).N = fun j : S32768x1024.Idx =>
    Cert.Ffn.rms (Cert.Ffn.half (Cert.Ffn.withOut (fun k => (show S32768x1024.Idx → EReal from m ((c : Thread nD τ).loc main_arg0)) (ix2 (j 0) k))
        (fun k => (show S32768x1024.Idx → EReal from m ((c : Thread nD τ).loc main_arg5)) (ix2 (j 0) k))
        (fun i k => (show S1x1024x1024.Idx → EReal from m ((c : Thread nD τ).loc main_arg6)) (ix3 0 i k)))
      (fun k => (show S2x2x1024.Idx → EReal from m ((c : Thread nD τ).loc main_arg1)) (ix3 1 1 k))
      (fun k f => (show S2x2x1024x2816.Idx → EReal from m ((c : Thread nD τ).loc main_arg2)) (ix4 1 1 k f))
      (fun k f => (show S2x2x1024x2816.Idx → EReal from m ((c : Thread nD τ).loc main_arg3)) (ix4 1 1 k f))
      (fun f k => (show S2x2x2816x1024.Idx → EReal from m ((c : Thread nD τ).loc main_arg4)) (ix4 1 1 f k)))
      (fun k => (show S1024.Idx → EReal from m ((c : Thread nD τ).loc main_arg7)) (ix1 k)) (j 1) := by
  refine (dats m 0 c).arrAt_eq_of_covers 8 _ (by decide +kernel) fun t hf z => ?_
  have ht : t.val < 64 := t.isLt
  blk_simp
  rw [after0_8, out_eq]
  canon_tiles w h
  case piece0 =>
    obtain ⟨r, e, rfl⟩ : ∃ r e, w = ix2 r e := ⟨w 0, w 1, by funext a; match a with | ⟨0, _⟩ => rfl | ⟨1, _⟩ => rfl⟩
    refine (Cert.Ffn.normRows_apply _ _ r e).trans ?_
    have hR : (win0_8.blk t).view.emb z 0 = (⟨512 * t.val + r.val, by omega⟩ : Fin 32768) := by
      refine Fin.ext ?_
      show win0_8.index t 0 * 512 + 1 * (z 0).val = _
      rw [(idx t).2.2.2.2.2.2.2.2, h0]
      show t.val * 512 + 1 * r.val = 512 * t.val + r.val
      omega
    have hE : (win0_8.blk t).view.emb z 1 = e := by
      refine Fin.ext ?_
      show win0_8.index t 1 * 1024 + 1 * (z 1).val = _
      rw [(idx t).2.2.2.2.2.2.2.2, h1]
      show 0 * 1024 + 1 * e.val = e.val
      omega
    refine Cert.Ffn.rms_congr (fun k => ?_) (fun k => (Cert.Ffn.whole_apply _ _ 0 k).trans (block7 m c t k)) hE.symm
    refine (Cert.Ffn.tile_apply _ _ _ _ _ r k).trans ?_
    refine Cert.Ffn.half_congr (fun k => ?_) (fun k => (Cert.Ffn.whole_apply _ _ 0 k).trans (block1 m c t k)) (block2 m c t) (block3 m c t) (block4 m c t) rfl
    refine (Cert.Ffn.tileOut_apply _ _ _ r k).trans ?_
    rw [hR]
    exact Cert.Ffn.withOut_congr (fun k => (Cert.Ffn.whole_apply _ _ r k).trans (block0 m c t r k _))
      (fun k => (Cert.Ffn.whole_apply _ _ r k).trans (block5 m c t r k _)) (fun i k => (Cert.Ffn.whole_apply _ _ i k).trans (block6 m c t i k)) k

end Cert.Kernel2Ideal.Gen

end
-- ==== Proof.HostFfn.lean ====
module

public import Idealize.ShloMosaic.Lib.StackMember
public import Idealize.ShloMosaic.Lib.IdealHost
public import Idealize.ShloMosaic.PureOps.Ideal.Laws
public import proofs.«01_k».proof.Proof.Ffn

@[expose] public section

set_option maxRecDepth 16384

noncomputable section

namespace Cert.Ffn

open Idealize.ShloMosaic Idealize.ShloMosaic.TcCoe Finset

/-! ## The same over the whole array of rows, as the references write it -/

/-- The shape of a number. -/
abbrev Unit0 : Shape := ⟨0, ![]⟩

/-- The shape of a vector. -/
abbrev Line (a : ℕ) : Shape := ⟨1, ![a]⟩

theorem all_sums : (Mat 32768 1024).ReducesTo [1] (Line 32768) := by decide
theorem unit_first : 0 < Unit0.numel := by decide
theorem bc_col : (Line 32768).BroadcastsInDim (Mat 32768 1) (![0] : Fin 1 → Fin (Mat 32768 1).rank) := by decide
theorem bc_num (s : Shape) : Unit0.BroadcastsInDim s (![] : Fin 0 → Fin s.rank) := ⟨fun a => a.elim0, fun a => a.elim0⟩
theorem bc_rows : (Mat 32768 1).BroadcastsInDim (Mat 32768 1024) (![0, 1] : Fin 2 → Fin (Mat 32768 1024).rank) := by decide
theorem bc_gain : (Line 1024).BroadcastsInDim (Mat 1 1024) (![1] : Fin 1 → Fin (Mat 1 1024).rank) := by decide
theorem bc_gains : (Mat 1 1024).BroadcastsInDim (Mat 32768 1024) (![0, 1] : Fin 2 → Fin (Mat 32768 1024).rank) := by decide

/-- A number in every entry. -/
def fill (s : Shape) (b : BitVec 32) : FVec Ideal s .f32 := broadcastInDim s ![] (bc_num s) (constant Unit0 .f32 b)

theorem fill_apply (s : Shape) (b : BitVec 32) (i : s.Idx) : fill s b i = Ideal.ofBits .f32 b :=
  (broadcastInDim_apply _ (bc_num s) _ i (fun a => a.elim0) (fun a => a.elim0)).trans rfl

/-- All rows, normalised. -/
def hostRows (x : FVec Ideal (Mat 32768 1024) .f32) (g : FVec Ideal (Line 1024) .f32) : FVec Ideal (Mat 32768 1024) .f32 :=
  mulf (mulf x (broadcastInDim (Mat 32768 1024) ![0, 1] bc_rows (Host.rsqrt (addf (Host.divf
    (broadcastInDim (Mat 32768 1) ![0] bc_col (Host.reduceAdd (mulf x x) (constant Unit0 .f32 0x00000000#32) all_sums unit_first))
      (fill (Mat 32768 1) 0x44800000#32)) (fill (Mat 32768 1) 0x358637BD#32)))))
    (broadcastInDim (Mat 32768 1024) ![0, 1] bc_gains (broadcastInDim (Mat 1 1024) ![1] bc_gain g))

/-- The sum of a row. -/
theorem sums_apply (y : FVec Ideal (Mat 32768 1024) .f32) (r : Fin 32768) :
    Host.reduceAdd y (constant Unit0 .f32 0x00000000#32) all_sums unit_first (ix1 r) = ∑ k : Fin 1024, y (ix2 r k) := by
  simp only [Host.reduceAdd, Ideal.hostReduceAdd_def]
  rw [Ideal.hostReduceAdd_single all_sums (by decide)]
  refine (congrArg₂ (· + ·) (Ideal.ofBits_zero_f32) (Finset.sum_congr rfl fun k _ => ?_)).trans (zero_add _)
  exact congrArg y (funext fun a => Fin.ext (by match a with | ⟨0, _⟩ => rfl | ⟨1, _⟩ => rfl))

/-- An entry of the normalised rows. -/
theorem hostRows_apply (x g) (r : Fin 32768) (d : Fin 1024) :
    hostRows x g (ix2 r d) = rms (fun k => x (ix2 r k)) (fun k => g (ix1 k)) d := by
  unfold hostRows
  have e1 := broadcastInDim_apply _ bc_col (Host.reduceAdd (mulf x x) (constant Unit0 .f32 0x00000000#32) all_sums unit_first) (ix2 r 0) (ix1 r)
    (fun a => by match a with | ⟨0, _⟩ => rfl)
  rw [sums_apply] at e1
  have e2 (y : FVec Ideal (Mat 32768 1) .f32) := broadcastInDim_apply _ bc_rows y (ix2 r d) (ix2 r 0) (fun a => by match a with | ⟨0, _⟩ => rfl | ⟨1, _⟩ => rfl)
  have e3 (y : FVec Ideal (Mat 1 1024) .f32) := broadcastInDim_apply _ bc_gains y (ix2 r d) (ix2 0 d) (fun a => by match a with | ⟨0, _⟩ => rfl | ⟨1, _⟩ => rfl)
  have e4 := broadcastInDim_apply _ bc_gain g (ix2 0 d) (ix1 d) (fun a => by match a with | ⟨0, _⟩ => rfl)
  rw [mulf_apply, mulf_apply, e2, e3, e4, Host.rsqrt_apply, addf_apply, Host.divf_apply, e1, fill_apply, fill_apply]
  rfl

/-- The logistic as the references write it. -/
def hostLogistic {s : Shape} (y : FVec Ideal s .f32) : FVec Ideal s .f32 :=
  Host.divf (fill s 0x3F800000#32) (addf (fill s 0x3F800000#32) (Host.exp (Host.negf y)))

theorem hostLogistic_apply {s : Shape} (y : FVec Ideal s .f32) (i : s.Idx) : hostLogistic y i = Ideal.logistic (y i) := by
  unfold hostLogistic Ideal.logistic
  rw [Host.divf_apply, addf_apply, fill_apply, Ideal.ofBits_one_f32]
  rfl

/-- A product of all the rows. -/
theorem hostProduct_apply {a b c : ℕ} {φ₁ φ₂ : FTy} (x : FVec Ideal (Mat a b) φ₁) (w : FVec Ideal (Mat b c) φ₂) (r : Fin a) (d : Fin c) :
    Host.dotGeneral (DotDims.plain a b c) none x w (ix2 r d) = ∑ k : Fin b, x (ix2 r k) * w (ix2 k d) := by
  have e {a b : ℕ} (i : Fin a) (j : Fin b) : (ValueIdx.ix2 i j : (Mat a b).Idx) = ix2 i j := by
    funext d
    match d with
    | ⟨0, _⟩ => rfl
    | ⟨1, _⟩ => rfl
  rw [← e]
  refine (StackMember.dotGeneral_plain_apply none x w r d).trans ?_
  simp only [e]

/-- All rows plus half of their feed-forward part. -/
def hostHalf (x : FVec Ideal (Mat 32768 1024) .f32) (g : FVec Ideal (Line 1024) .f32) (w1 w3 : FVec Ideal (Mat 1024 2816) .f32)
    (w2 : FVec Ideal (Mat 2816 1024) .f32) : FVec Ideal (Mat 32768 1024) .f32 :=
  addf x (mulf (fill (Mat 32768 1024) 0x3F000000#32) (Host.dotGeneral (DotDims.plain 32768 2816 1024) none
    (mulf (mulf (Host.dotGeneral (DotDims.plain 32768 1024 2816) none (hostRows x g) w1)
        (hostLogistic (Host.dotGeneral (DotDims.plain 32768 1024 2816) none (hostRows x g) w1)))
      (Host.dotGeneral (DotDims.plain 32768 1024 2816) none (hostRows x g) w3)) w2))

theorem hostHalf_apply (x g w1 w3 w2) (r : Fin 32768) (d : Fin 1024) :
    hostHalf x g w1 w3 w2 (ix2 r d) = half (fun k => x (ix2 r k)) (fun k => g (ix1 k)) (fun k f => w1 (ix2 k f)) (fun k f => w3 (ix2 k f))
      (fun f k => w2 (ix2 f k)) d := by
  unfold hostHalf half
  rw [addf_apply, mulf_apply, fill_apply, hostProduct_apply]
  refine congrArg (fun z : EReal => x (ix2 r d) + Ideal.ofBits .f32 0x3F000000#32 * z) (sum_congr rfl fun f _ => ?_)
  rw [mulf_apply, mulf_apply, hostLogistic_apply, hostProduct_apply, hostProduct_apply]
  simp only [hostRows_apply]
  rfl

end Cert.Ffn

end
-- ==== Proof.LastRef.lean ====
module

public import proofs.«01_k».proof.Proof.Gen.Reference2Ideal.Read
public import proofs.«01_k».proof.Proof.HostFfn
public import proofs.«01_k».proof.Proof.Last

@[expose] public section

set_option maxRecDepth 16384

noncomputable section

namespace Cert.Reference2Ideal.Read

open Idealize.ShloMosaic Idealize.ShloMosaic.TcCoe Cert.Reference2Ideal

/-- The rows with the attention's part, plus half of their feed-forward part. -/
theorem v32_eq (x0 x1 x2 x3 x4 x5 x6) : val_main_v32 (F := Ideal) x0 x1 x2 x3 x4 x5 x6
    = Cert.Ffn.hostHalf (val_main_v3 (F := Ideal) x0 x5 x6) (val_main_v5 (F := Ideal) x1) (val_main_v20 (F := Ideal) x2) (val_main_v22 (F := Ideal) x3) (val_main_v24 (F := Ideal) x4) := rfl

/-- The result is those, normalised. -/
theorem v45_eq (x0 x1 x2 x3 x4 x5 x6 x7) : val_main_v45 (F := Ideal) x0 x1 x2 x3 x4 x5 x6 x7
    = Cert.Ffn.hostRows (val_main_v32 (F := Ideal) x0 x1 x2 x3 x4 x5 x6) x7 := rfl

theorem v1_at (x6) (j k : Fin 1024) : val_main_v1 (F := Ideal) x6 (ix2 j k) = x6 (ix3 0 j k) := by
  unfold val_main_v1
  pointwise

theorem v3_at (x0 x5 x6) (r : Fin 32768) (d : Fin 1024) : val_main_v3 (F := Ideal) x0 x5 x6 (ix2 r d)
    = Cert.Ffn.withOut (fun k => x0 (ix2 r k)) (fun k => x5 (ix2 r k)) (fun j k => x6 (ix3 0 j k)) d := by
  refine congrArg (fun z : EReal => x0 (ix2 r d) + z) ((Cert.Ffn.hostProduct_apply _ _ r d).trans ?_)
  exact Finset.sum_congr rfl fun j _ => congrArg (fun z : EReal => x5 (ix2 r j) * z) (v1_at x6 j d)

theorem v5_at (x1) (k : Fin 1024) : val_main_v5 (F := Ideal) x1 (ix1 k) = x1 (ix3 1 1 k) := by
  unfold val_main_v5 val_main_v4
  pointwise

theorem v20_at (x2) (k : Fin 1024) (f : Fin 2816) : val_main_v20 (F := Ideal) x2 (ix2 k f) = x2 (ix4 1 1 k f) := by
  unfold val_main_v20 val_main_v19
  pointwise

theorem v22_at (x3) (k : Fin 1024) (f : Fin 2816) : val_main_v22 (F := Ideal) x3 (ix2 k f) = x3 (ix4 1 1 k f) := by
  unfold val_main_v22 val_main_v21
  pointwise

theorem v24_at (x4) (f : Fin 2816) (k : Fin 1024) : val_main_v24 (F := Ideal) x4 (ix2 f k) = x4 (ix4 1 1 f k) := by
  unfold val_main_v24 val_main_v23
  pointwise

/-- An entry of the result. -/
theorem v45_at (x0 x1 x2 x3 x4 x5 x6 x7) (r : Fin 32768) (d : Fin 1024) : val_main_v45 (F := Ideal) x0 x1 x2 x3 x4 x5 x6 x7 (ix2 r d)
    = Cert.Ffn.rms (Cert.Ffn.half (Cert.Ffn.withOut (fun k => x0 (ix2 r k)) (fun k => x5 (ix2 r k)) (fun j k => x6 (ix3 0 j k)))
      (fun k => x1 (ix3 1 1 k)) (fun k f => x2 (ix4 1 1 k f)) (fun k f => x3 (ix4 1 1 k f)) (fun f k => x4 (ix4 1 1 f k))) (fun k => x7 (ix1 k)) d := by
  rw [v45_eq]
  refine (Cert.Ffn.hostRows_apply _ _ r d).trans (Cert.Ffn.rms_congr (fun k => ?_) (fun _ => rfl) rfl)
  rw [v32_eq]
  exact (Cert.Ffn.hostHalf_apply _ _ _ _ _ r k).trans (Cert.Ffn.half_congr (v3_at x0 x5 x6 r) (v5_at x1) (v20_at x2) (v22_at x3) (v24_at x4) rfl)

end Cert.Reference2Ideal.Read

end
-- ==== Proof.Qkv.lean ====
module

public import proofs.«01_k».proof.Proof.Gen.Kernel3Ideal.Frame
public import Idealize.ShloMosaic.Lib.Pipeline.ValueKit
public import proofs.«01_k».proof.Proof.Ffn

@[expose] public section

set_option maxRecDepth 16384

noncomputable section

namespace Cert.Ffn

open Idealize.ShloMosaic Idealize.ShloMosaic.TcCoe Finset

/-! ## The rows, their queries, keys and values, and the means of the keys -/

/-- The array of rows after the feed-forward part. -/
def newRow (x : (Mat 32768 1024).Idx → EReal) (g : (⟨3, ![2, 2, 1024]⟩ : Shape).Idx → EReal) (w1 w3 : (⟨4, ![2, 2, 1024, 2816]⟩ : Shape).Idx → EReal)
    (w2 : (⟨4, ![2, 2, 2816, 1024]⟩ : Shape).Idx → EReal) (r : Fin 32768) : Fin 1024 → EReal :=
  half (fun k => x (ix2 r k)) (fun k => g (ix3 1 0 k)) (fun k f => w1 (ix4 1 0 k f)) (fun k f => w3 (ix4 1 0 k f)) (fun f k => w2 (ix4 1 0 f k))

/-- A row's queries, keys and values. -/
def qkvRow (x : (Mat 32768 1024).Idx → EReal) (g : (⟨3, ![2, 2, 1024]⟩ : Shape).Idx → EReal) (w1 w3 : (⟨4, ![2, 2, 1024, 2816]⟩ : Shape).Idx → EReal)
    (w2 : (⟨4, ![2, 2, 2816, 1024]⟩ : Shape).Idx → EReal) (mix : (Mat 2 1024).Idx → EReal) (w : (⟨3, ![1, 1024, 3072]⟩ : Shape).Idx → EReal)
    (r : Fin 32768) (j : Fin 3072) : EReal :=
  ∑ k, rms (newRow x g w1 w3 w2 r) (fun k => mix (ix2 1 k)) k * w (ix3 0 k j)

/-- The mean of the keys of 256 rows. -/
def keyMean (qkv : Fin 32768 → Fin 3072 → EReal) (b : Fin 128) (d : Fin 1024) : EReal :=
  Ideal.div (∑ k : Fin 256, qkv ⟨256 * b.val + k.val, by omega⟩ ⟨1024 + d.val, by omega⟩) (Ideal.ofBits .f32 0x43800000#32)

theorem mean_slice (o : ℕ) (h : o ≤ 256) : (Mat 512 3072).Slices ![o, 1024] (Mat 256 1024) := ⟨rfl, fun a => by
  match a with
  | ⟨0, _⟩ => show o + 256 ≤ 512; omega
  | ⟨1, _⟩ => show 1024 + 1024 ≤ 3072; omega⟩
theorem sums_cols : (Mat 256 1024).Reduces [0] ⟨1, ![1024]⟩ := by decide
theorem cast_sums : (⟨1, ![1024]⟩ : Shape).ShapeCasts (Mat 1 1024) := by decide
theorem cast_mean : (Mat 1 1024).ShapeCasts ⟨3, ![1, 1, 1024]⟩ := by decide

/-- The means of the keys of 256 of a tile's rows. -/
def tileMean (o : ℕ) (h : o ≤ 256) (y : FVec Ideal (Mat 512 3072) .f32) : FVec Ideal ⟨3, ![1, 1, 1024]⟩ .f32 :=
  shapeCast _ (divf (shapeCast (Mat 1 1024) (multiReduction .add [0] ⟨1, ![1024]⟩ (extractStridedSlice (Mat 256 1024) ![o, 1024] y (mean_slice o h))
    0x00000000#32 sums_cols (.inl rfl) rfl) cast_sums) (broadcast (Mat 1 1024) (Scalar.ofBits (F := Ideal) .f32 0x43800000#32))) cast_mean

theorem tileMean_apply (o : ℕ) (h : o ≤ 256) (y) (d : Fin 1024) : tileMean o h y (ix3 0 0 d)
    = Ideal.div (∑ k : Fin 256, y (ix2 ⟨o + k.val, by omega⟩ ⟨1024 + d.val, by omega⟩)) (Ideal.ofBits .f32 0x43800000#32) := by
  unfold tileMean
  have e (k : Fin 256) : extractStridedSlice (Mat 256 1024) ![o, 1024] y (mean_slice o h) (ix2 k d) = y (ix2 ⟨o + k.val, by omega⟩ ⟨1024 + d.val, by omega⟩) :=
    extractStridedSlice_apply ![o, 1024] y (mean_slice o h) (ix2 k d) _ (fun a => by match a with | ⟨0, _⟩ => rfl | ⟨1, _⟩ => rfl)
  generalize extractStridedSlice (Mat 256 1024) ![o, 1024] y (mean_slice o h) = s at e
  simp only [← e]
  pointwise

theorem mean_index (w : (⟨3, ![1, 1, 1024]⟩ : Shape).Idx) : w = ix3 0 0 (w 2) := by
  have h0 : (w 0).val < 1 := (w 0).isLt
  have h1 : (w 1).val < 1 := (w 1).isLt
  funext a
  match a with
  | ⟨0, _⟩ => exact Fin.ext (show (w 0).val = 0 by omega)
  | ⟨1, _⟩ => exact Fin.ext (show (w 1).val = 0 by omega)
  | ⟨2, _⟩ => rfl

/-- A tile's queries, keys and values. -/
def tileQkv (x : FVec Ideal (Mat 512 1024) .f32) (g : FVec Ideal (Mat 1 1024) .f32) (w : FVec Ideal (Mat 1024 3072) .bf16) : FVec Ideal (Mat 512 3072) .f32 :=
  times (truncf .bf16 (normRows x g) fewer_bits) w

theorem tileQkv_apply (x g w) (r : Fin 512) (j : Fin 3072) : tileQkv x g w (ix2 r j)
    = ∑ k, rms (fun k => x (ix2 r k)) (fun k => g (ix2 0 k)) k * w (ix2 k j) := by
  unfold tileQkv
  rw [times_apply]
  exact sum_congr rfl fun k _ => congrArg (fun z : EReal => z * w (ix2 k j)) (normRows_apply x g r k)

end Cert.Ffn

namespace Cert.Kernel3Ideal.Gen

open Idealize.ShloMosaic Idealize.SL.Sem Idealize.ShloMosaic.TcCoe
open Idealize.ShloMosaic.Pipeline (Dat Cfg Window cellOf)
open Idealize.SL Idealize.SL.RA Idealize.SL.BI

variable (m : (ℓ : Loc nD τ sig) → Buf (Elt Ideal) ℓ)

/-! ## The blocks a point writes -/

/-- A point's rows after the feed-forward part. -/
theorem rows_eq (x0 x1 x2 x3 x4 x5 x6) : k0_pay26 (F := Ideal) x0 x1 x2 x3 x4 x5 x6 = Cert.Ffn.tile (View.ld x0 r0_0) (View.ld x1 r0_1) x2 x3 x4 := by
  unfold k0_pay26 k0_pay25 k0_pay24 k0_pay23 k0_pay22
  rfl

/-- A point's queries, keys and values. -/
theorem qkv_eq (x0 x1 x2 x3 x4 x5 x6) (w) : k0_pay1 (F := Ideal) (k0_pay26 x0 x1 x2 x3 x4 x5 x6) (k0_pay27 x0 x1 x2 x3 x4 x5 x6) (k0_pay28 x0 x1 x2 x3 x4 x5 x6)
    (k0_pay29 x0 x1 x2 x3 x4 x5 x6) w = Cert.Ffn.tileQkv (Cert.Ffn.tile (View.ld x0 r0_0) (View.ld x1 r0_1) x2 x3 x4) (View.ld x5 r0_1) w := by
  rw [← rows_eq x0 x1 x2 x3 x4 x5 x6]
  unfold k0_pay27 k0_pay28 k0_pay29 k0_pay20 k0_pay26
  generalize k0_pay18 (F := Ideal) _ _ _ _ _ _ _ _ _ = x
  rfl

theorem out7_eq (x0 x1 x2 x3 x4 x5 x6) : out0_7 (F := Ideal) x0 x1 x2 x3 x4 x5 x6
    = View.canon [⟨r0_0, Cert.Ffn.tile (View.ld x0 r0_0) (View.ld x1 r0_1) x2 x3 x4⟩] := by
  rw [← rows_eq x0 x1 x2 x3 x4 x5 x6]
  rfl

theorem out8_eq (x0 x1 x2 x3 x4 x5 x6) : out0_8 (F := Ideal) x0 x1 x2 x3 x4 x5 x6
    = View.canon [⟨r0_25, truncf .bf16 (Cert.Ffn.tileQkv (Cert.Ffn.tile (View.ld x0 r0_0) (View.ld x1 r0_1) x2 x3 x4) (View.ld x5 r0_1) (View.ld x6 r0_24)) Cert.Ffn.fewer_bits⟩] := by
  rw [← qkv_eq x0 x1 x2 x3 x4 x5 x6]
  rfl

theorem out9_eq (x0 x1 x2 x3 x4 x5 x6) : out0_9 (F := Ideal) x0 x1 x2 x3 x4 x5 x6
    = View.canon [⟨r0_27, Cert.Ffn.tileMean 256 (by decide) (Cert.Ffn.tileQkv (Cert.Ffn.tile (View.ld x0 r0_0) (View.ld x1 r0_1) x2 x3 x4) (View.ld x5 r0_1) (View.ld x6 r0_24))⟩,
      ⟨r0_26, Cert.Ffn.tileMean 0 (by decide) (Cert.Ffn.tileQkv (Cert.Ffn.tile (View.ld x0 r0_0) (View.ld x1 r0_1) x2 x3 x4) (View.ld x5 r0_1) (View.ld x6 r0_24))⟩] := by
  rw [← qkv_eq x0 x1 x2 x3 x4 x5 x6]
  rfl

/-! ## What the call is entered with -/

/-- The feed-forward gains the call is entered with. -/
theorem V_gain (c : Dev nD) (k : Fin 1024) : (show S1x1024.Idx → EReal from V m c main_v8) (ix2 0 k)
    = (show S2x2x1024.Idx → EReal from m ((c : Thread nD τ).loc main_arg1)) (ix3 1 0 k) := by
  show StableHlo.after hostOps0 _ (Proc.devRef .tc main_v8) (ix2 0 k : S1x1024.Idx) = _
  after_results
  pointwise

/-- The first matrices the call is entered with. -/
theorem V_w1 (c : Dev nD) : (show S2x2x1024x2816.Idx → EReal from V m c main_v0) = m ((c : Thread nD τ).loc main_arg2) := by
  show StableHlo.after hostOps0 _ (Proc.devRef .tc main_v0) = _
  after_results
  rfl

/-- The second matrices the call is entered with. -/
theorem V_w3 (c : Dev nD) : (show S2x2x1024x2816.Idx → EReal from V m c main_v1) = m ((c : Thread nD τ).loc main_arg3) := by
  show StableHlo.after hostOps0 _ (Proc.devRef .tc main_v1) = _
  after_results
  rfl

/-- The third matrices the call is entered with. -/
theorem V_w2 (c : Dev nD) : (show S2x2x2816x1024.Idx → EReal from V m c main_v2) = m ((c : Thread nD τ).loc main_arg4) := by
  show StableHlo.after hostOps0 _ (Proc.devRef .tc main_v2) = _
  after_results
  rfl

/-- The attention's gains the call is entered with. -/
theorem V_mix (c : Dev nD) (k : Fin 1024) : (show S1x1024.Idx → EReal from V m c main_v9) (ix2 0 k)
    = (show S2x1024.Idx → EReal from m ((c : Thread nD τ).loc main_arg5)) (ix2 1 k) := by
  show StableHlo.after hostOps0 _ (Proc.devRef .tc main_v9) (ix2 0 k : S1x1024.Idx) = _
  after_results
  pointwise

/-- The attention's matrix the call is entered with. -/
theorem V_wqkv (c : Dev nD) (k : Fin 1024) (j : Fin 3072) : (show S1024x3072.Idx → EReal from V m c main_v10) (ix2 k j)
    = (show S1x1024x3072.Idx → EReal from m ((c : Thread nD τ).loc main_arg6)) (ix3 0 k j) := by
  show StableHlo.after hostOps0 _ (Proc.devRef .tc main_v10) (ix2 k j : S1024x3072.Idx) = _
  after_results
  pointwise

/-! ## A point's blocks -/

/-- Where each point's blocks lie. -/
theorem idx : ∀ t : Fin cfg0.N, win0_0.index t = ![t.val, 0] ∧ win0_1.index t = ![0, 0] ∧ win0_2.index t = ![1, 0, 0, 0]
    ∧ win0_3.index t = ![1, 0, 0, 0] ∧ win0_4.index t = ![1, 0, 0, 0] ∧ win0_5.index t = ![0, 0] ∧ win0_6.index t = ![0, 0]
    ∧ win0_7.index t = ![t.val, 0] ∧ win0_8.index t = ![t.val, 0] ∧ win0_9.index t = ![t.val, 0, 0] :=
  (by decide +kernel : ∀ t : Fin grid0.N, _)

/-- A point's rows. -/
theorem block0 (c : Dev nD) (t : Fin cfg0.N) (r : Fin 512) (k : Fin 1024) (h : 512 * t.val + r.val < 32768) :
    (show S512x1024.Idx → EReal from iblk m c 0 t) (ix2 r k) = (show S32768x1024.Idx → EReal from m ((c : Thread nD τ).loc main_arg0)) (ix2 ⟨512 * t.val + r.val, h⟩ k) := by
  refine Eq.trans ?_ (congrFun (V_main_arg0 m c) (ix2 ⟨512 * t.val + r.val, h⟩ k))
  blk_ext [iblk, idx t]

/-- A point's gains. -/
theorem block1 (c : Dev nD) (t : Fin cfg0.N) (k : Fin 1024) : (show S1x1024.Idx → EReal from iblk m c 1 t) (ix2 0 k)
    = (show S2x2x1024.Idx → EReal from m ((c : Thread nD τ).loc main_arg1)) (ix3 1 0 k) := by
  refine Eq.trans ?_ (V_gain m c k)
  blk_ext [iblk, idx t]

/-- A point's first matrix. -/
theorem block2 (c : Dev nD) (t : Fin cfg0.N) (k : Fin 1024) (f : Fin 2816) : (show S1x1x1024x2816.Idx → EReal from iblk m c 2 t) (ix4 0 0 k f)
    = (show S2x2x1024x2816.Idx → EReal from m ((c : Thread nD τ).loc main_arg2)) (ix4 1 0 k f) := by
  refine Eq.trans ?_ (congrFun (V_w1 m c) (ix4 1 0 k f))
  blk_ext [iblk, idx t]

/-- A point's second matrix. -/
theorem block3 (c : Dev nD) (t : Fin cfg0.N) (k : Fin 1024) (f : Fin 2816) : (show S1x1x1024x2816.Idx → EReal from iblk m c 3 t) (ix4 0 0 k f)
    = (show S2x2x1024x2816.Idx → EReal from m ((c : Thread nD τ).loc main_arg3)) (ix4 1 0 k f) := by
  refine Eq.trans ?_ (congrFun (V_w3 m c) (ix4 1 0 k f))
  blk_ext [iblk, idx t]

/-- A point's third matrix. -/
theorem block4 (c : Dev nD) (t : Fin cfg0.N) (f : Fin 2816) (k : Fin 1024) : (show S1x1x2816x1024.Idx → EReal from iblk m c 4 t) (ix4 0 0 f k)
    = (show S2x2x2816x1024.Idx → EReal from m ((c : Thread nD τ).loc main_arg4)) (ix4 1 0 f k) := by
  refine Eq.trans ?_ (congrFun (V_w2 m c) (ix4 1 0 f k))
  blk_ext [iblk, idx t]

/-- A point's gains for the attention. -/
theorem block5 (c : Dev nD) (t : Fin cfg0.N) (k : Fin 1024) : (show S1x1024.Idx → EReal from iblk m c 5 t) (ix2 0 k)
    = (show S2x1024.Idx → EReal from m ((c : Thread nD τ).loc main_arg5)) (ix2 1 k) := by
  refine Eq.trans ?_ (V_mix m c k)
  blk_ext [iblk, idx t]

/-- A point's matrix for the attention. -/
theorem block6 (c : Dev nD) (t : Fin cfg0.N) (k : Fin 1024) (j : Fin 3072) : (show S1024x3072.Idx → EReal from iblk m c 6 t) (ix2 k j)
    = (show S1x1024x3072.Idx → EReal from m ((c : Thread nD τ).loc main_arg6)) (ix3 0 k j) := by
  refine Eq.trans ?_ (V_wqkv m c k j)
  blk_ext [iblk, idx t]

/-- The rows after the feed-forward part, of the arguments. -/
abbrev rowOf (c : Dev nD) : Fin 32768 → Fin 1024 → EReal :=
  Cert.Ffn.newRow (m ((c : Thread nD τ).loc main_arg0)) (m ((c : Thread nD τ).loc main_arg1)) (m ((c : Thread nD τ).loc main_arg2))
    (m ((c : Thread nD τ).loc main_arg3)) (m ((c : Thread nD τ).loc main_arg4))

/-- The queries, keys and values, of the arguments. -/
abbrev qkvOf (c : Dev nD) : Fin 32768 → Fin 3072 → EReal :=
  Cert.Ffn.qkvRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- A point's tile holds the rows after the feed-forward part. -/
theorem tile_at (c : Dev nD) (t : Fin cfg0.N) (r : Fin 512) (k : Fin 1024) (h : 512 * t.val + r.val < 32768) :
    Cert.Ffn.tile (View.ld (iblk m c 0 t) r0_0) (View.ld (iblk m c 1 t) r0_1) (iblk m c 2 t) (iblk m c 3 t) (iblk m c 4 t) (ix2 r k)
      = rowOf m c ⟨512 * t.val + r.val, h⟩ k := by
  refine (Cert.Ffn.tile_apply _ _ _ _ _ r k).trans ?_
  exact Cert.Ffn.half_congr (fun k => (Cert.Ffn.whole_apply _ _ r k).trans (block0 m c t r k h)) (fun k => (Cert.Ffn.whole_apply _ _ 0 k).trans (block1 m c t k))
    (block2 m c t) (block3 m c t) (block4 m c t) rfl

/-- Its product holds the queries, keys and values. -/
theorem product_at (c : Dev nD) (t : Fin cfg0.N) (r : Fin 512) (j : Fin 3072) (h : 512 * t.val + r.val < 32768) :
    Cert.Ffn.tileQkv (Cert.Ffn.tile (View.ld (iblk m c 0 t) r0_0) (View.ld (iblk m c 1 t) r0_1) (iblk m c 2 t) (iblk m c 3 t) (iblk m c 4 t))
        (View.ld (iblk m c 5 t) r0_1) (View.ld (iblk m c 6 t) r0_24) (ix2 r j)
      = qkvOf m c ⟨512 * t.val + r.val, h⟩ j := by
  refine (Cert.Ffn.tileQkv_apply _ _ _ r j).trans (Finset.sum_congr rfl fun k _ => ?_)
  refine congrArg₂ (fun a b : EReal => a * b) ?_ ((Cert.Ffn.whole_apply _ _ k j).trans (block6 m c t k j))
  exact Cert.Ffn.rms_congr (fun k => tile_at m c t r k h) (fun k => (Cert.Ffn.whole_apply _ _ 0 k).trans (block5 m c t k)) rfl

/-! ## The arrays the kernel writes -/

/-- The rows after the feed-forward part. -/
theorem final7 (c : Dev nD) : (dats m 0 c).arrAt 7 (cfgs 0).N = fun j : S32768x1024.Idx => rowOf m c (j 0) (j 1) := by
  refine (dats m 0 c).arrAt_eq_of_covers 7 _ (by decide +kernel) fun t hf z => ?_
  have ht : t.val < 64 := t.isLt
  blk_simp
  rw [after0_7, out7_eq]
  canon_tiles w h
  case piece0 =>
    obtain ⟨r, e, rfl⟩ : ∃ r e, w = ix2 r e := ⟨w 0, w 1, by funext a; match a with | ⟨0, _⟩ => rfl | ⟨1, _⟩ => rfl⟩
    have hR : (win0_7.blk t).view.emb z 0 = (⟨512 * t.val + r.val, by omega⟩ : Fin 32768) := by
      refine Fin.ext ?_
      show win0_7.index t 0 * 512 + 1 * (z 0).val = _
      rw [(idx t).2.2.2.2.2.2.2.1, h0]
      show t.val * 512 + 1 * r.val = 512 * t.val + r.val
      omega
    have hE : (win0_7.blk t).view.emb z 1 = e := by
      refine Fin.ext ?_
      show win0_7.index t 1 * 1024 + 1 * (z 1).val = _
      rw [(idx t).2.2.2.2.2.2.2.1, h1]
      show 0 * 1024 + 1 * e.val = e.val
      omega
    exact (tile_at m c t r e _).trans (congrArg₂ (rowOf m c) hR.symm hE.symm)

/-- The queries, keys and values. -/
theorem final8 (c : Dev nD) : (dats m 0 c).arrAt 8 (cfgs 0).N = fun j : S32768x3072.Idx => qkvOf m c (j 0) (j 1) := by
  refine (dats m 0 c).arrAt_eq_of_covers 8 _ (by decide +kernel) fun t hf z => ?_
  have ht : t.val < 64 := t.isLt
  blk_simp
  rw [after0_8, out8_eq]
  canon_tiles w h
  case piece0 =>
    obtain ⟨r, e, rfl⟩ : ∃ r e, w = ix2 r e := ⟨w 0, w 1, by funext a; match a with | ⟨0, _⟩ => rfl | ⟨1, _⟩ => rfl⟩
    have hR : (win0_8.blk t).view.emb z 0 = (⟨512 * t.val + r.val, by omega⟩ : Fin 32768) := by
      refine Fin.ext ?_
      show win0_8.index t 0 * 512 + 1 * (z 0).val = _
      rw [(idx t).2.2.2.2.2.2.2.2.1, h0]
      show t.val * 512 + 1 * r.val = 512 * t.val + r.val
      omega
    have hE : (win0_8.blk t).view.emb z 1 = e := by
      refine Fin.ext ?_
      show win0_8.index t 1 * 3072 + 1 * (z 1).val = _
      rw [(idx t).2.2.2.2.2.2.2.2.1, h1]
      show 0 * 3072 + 1 * e.val = e.val
      omega
    exact (product_at m c t r e _).trans (congrArg₂ (qkvOf m c) hR.symm hE.symm)

/-- A point's means are those of its rows' keys. -/
theorem mean_at (c : Dev nD) (t : Fin cfg0.N) (o : ℕ) (ho : o ≤ 256) (b : Fin 128) (d : Fin 1024) (h : 512 * t.val + o = 256 * b.val) :
    Cert.Ffn.tileMean o ho (Cert.Ffn.tileQkv (Cert.Ffn.tile (View.ld (iblk m c 0 t) r0_0) (View.ld (iblk m c 1 t) r0_1) (iblk m c 2 t) (iblk m c 3 t) (iblk m c 4 t))
        (View.ld (iblk m c 5 t) r0_1) (View.ld (iblk m c 6 t) r0_24)) (ix3 0 0 d)
      = Cert.Ffn.keyMean (qkvOf m c) b d := by
  refine (Cert.Ffn.tileMean_apply o ho _ d).trans ?_
  refine congrArg (fun z => Ideal.div z _) (Finset.sum_congr rfl fun k _ => ?_)
  refine (product_at m c t _ _ (by show 512 * t.val + (o + k.val) < 32768; omega)).trans (congrArg (fun R => qkvOf m c R _) (Fin.ext ?_))
  show 512 * t.val + (o + k.val) = 256 * b.val + k.val
  omega

/-- They are written where the means of the keys have them. -/
theorem mean_in_place (c : Dev nD) (t : Fin cfg0.N) (o : ℕ) (ho : o ≤ 256) (z : ((cfg0.win 9).xblock (cfg0.grid.coords t)).Idx) (d : Fin 1024)
    (h0 : 256 * (z 0).val = o) (h2 : (z 2).val = d.val) :
    Cert.Ffn.tileMean o ho (Cert.Ffn.tileQkv (Cert.Ffn.tile (View.ld (iblk m c 0 t) r0_0) (View.ld (iblk m c 1 t) r0_1) (iblk m c 2 t) (iblk m c 3 t) (iblk m c 4 t))
        (View.ld (iblk m c 5 t) r0_1) (View.ld (iblk m c 6 t) r0_24)) (ix3 0 0 d)
      = Cert.Ffn.keyMean (qkvOf m c) ((win0_9.blk t).view.emb z 0) ((win0_9.blk t).view.emb z 2) := by
  have hB : ((win0_9.blk t).view.emb z 0).val = 2 * t.val + (z 0).val := by
    show win0_9.index t 0 * 2 + 1 * (z 0).val = _
    rw [(idx t).2.2.2.2.2.2.2.2.2]
    show t.val * 2 + 1 * (z 0).val = _
    omega
  have hE : (win0_9.blk t).view.emb z 2 = d := by
    refine Fin.ext ?_
    show win0_9.index t 2 * 1024 + 1 * (z 2).val = _
    rw [(idx t).2.2.2.2.2.2.2.2.2, h2]
    show 0 * 1024 + 1 * d.val = d.val
    omega
  exact (mean_at m c t o ho ((win0_9.blk t).view.emb z 0) d (by rw [hB]; omega)).trans (congrArg (Cert.Ffn.keyMean (qkvOf m c) _) hE.symm)

/-- The means of the keys. -/
theorem final9 (c : Dev nD) : (dats m 0 c).arrAt 9 (cfgs 0).N = fun j : S128x1x1024.Idx => Cert.Ffn.keyMean (qkvOf m c) (j 0) (j 2) := by
  refine (dats m 0 c).arrAt_eq_of_covers 9 _ (by decide +kernel) fun t hf z => ?_
  have ht : t.val < 64 := t.isLt
  blk_simp
  rw [after0_9, out9_eq]
  canon_tiles w h
  case piece0 =>
    obtain ⟨d, rfl⟩ : ∃ d, w = ix3 0 0 d := ⟨w 2, Cert.Ffn.mean_index w⟩
    exact mean_in_place m c t 256 (by decide) z d (by omega) h2
  case piece1 =>
    obtain ⟨d, rfl⟩ : ∃ d, w = ix3 0 0 d := ⟨w 2, Cert.Ffn.mean_index w⟩
    exact mean_in_place m c t 0 (by decide) z d (by omega) h2

end Cert.Kernel3Ideal.Gen

end
-- ==== Proof.QkvRef.lean ====
module

public import proofs.«01_k».proof.Proof.Gen.Reference3Ideal.Read
public import proofs.«01_k».proof.Proof.HostFfn
public import proofs.«01_k».proof.Proof.Qkv

@[expose] public section

set_option maxRecDepth 16384

noncomputable section

namespace Cert.Reference3Ideal.Read

open Idealize.ShloMosaic Idealize.ShloMosaic.TcCoe Cert.Reference3Ideal

/-- The rows after the feed-forward part. -/
theorem v28_eq (x0 x1 x2 x3 x4) : val_main_v28 (F := Ideal) x0 x1 x2 x3 x4
    = Cert.Ffn.hostHalf x0 (val_main_v1 (F := Ideal) x1) (val_main_v16 (F := Ideal) x2) (val_main_v18 (F := Ideal) x3) (val_main_v20 (F := Ideal) x4) := rfl

/-- Those, normalised. -/
theorem v43_eq (x0 x1 x2 x3 x4 x5) : val_main_v43 (F := Ideal) x0 x1 x2 x3 x4 x5
    = Cert.Ffn.hostRows (val_main_v28 (F := Ideal) x0 x1 x2 x3 x4) (val_main_v30 (F := Ideal) x5) := rfl

theorem v1_at (x1) (k : Fin 1024) : val_main_v1 (F := Ideal) x1 (ix1 k) = x1 (ix3 1 0 k) := by
  unfold val_main_v1 val_main_v0
  pointwise

theorem v16_at (x2) (k : Fin 1024) (f : Fin 2816) : val_main_v16 (F := Ideal) x2 (ix2 k f) = x2 (ix4 1 0 k f) := by
  unfold val_main_v16 val_main_v15
  pointwise

theorem v18_at (x3) (k : Fin 1024) (f : Fin 2816) : val_main_v18 (F := Ideal) x3 (ix2 k f) = x3 (ix4 1 0 k f) := by
  unfold val_main_v18 val_main_v17
  pointwise

theorem v20_at (x4) (f : Fin 2816) (k : Fin 1024) : val_main_v20 (F := Ideal) x4 (ix2 f k) = x4 (ix4 1 0 f k) := by
  unfold val_main_v20 val_main_v19
  pointwise

theorem v30_at (x5) (k : Fin 1024) : val_main_v30 (F := Ideal) x5 (ix1 k) = x5 (ix2 1 k) := by
  unfold val_main_v30 val_main_v29
  pointwise

theorem v44_at (x6) (k : Fin 1024) (j : Fin 3072) : val_main_v44 (F := Ideal) x6 (ix2 k j) = x6 (ix3 0 k j) := by
  unfold val_main_v44
  pointwise

/-- An entry of the rows after the feed-forward part. -/
theorem v28_at (x0 x1 x2 x3 x4) (r : Fin 32768) (d : Fin 1024) : val_main_v28 (F := Ideal) x0 x1 x2 x3 x4 (ix2 r d) = Cert.Ffn.newRow x0 x1 x2 x3 x4 r d := by
  rw [v28_eq]
  exact (Cert.Ffn.hostHalf_apply _ _ _ _ _ r d).trans (Cert.Ffn.half_congr (fun _ => rfl) (v1_at x1) (v16_at x2) (v18_at x3) (v20_at x4) rfl)

/-- An entry of the queries, keys and values. -/
theorem v45_at (x0 x1 x2 x3 x4 x5 x6) (r : Fin 32768) (j : Fin 3072) : val_main_v45 (F := Ideal) x0 x1 x2 x3 x4 x5 x6 (ix2 r j)
    = Cert.Ffn.qkvRow x0 x1 x2 x3 x4 x5 x6 r j := by
  refine (Cert.Ffn.hostProduct_apply (val_main_v43 (F := Ideal) x0 x1 x2 x3 x4 x5) (val_main_v44 (F := Ideal) x6) r j).trans (Finset.sum_congr rfl fun k _ => ?_)
  refine congrArg₂ (fun a b : EReal => a * b) ?_ (v44_at x6 k j)
  rw [v43_eq]
  exact (Cert.Ffn.hostRows_apply _ _ r k).trans (Cert.Ffn.rms_congr (v28_at x0 x1 x2 x3 x4 r) (v30_at x5) rfl)

/-- An entry of the queries, keys and values rounded. -/
theorem v48_at (x0 x1 x2 x3 x4 x5 x6) (r : Fin 32768) (j : Fin 3072) : val_main_v48 (F := Ideal) x0 x1 x2 x3 x4 x5 x6 (ix2 r j)
    = Cert.Ffn.qkvRow x0 x1 x2 x3 x4 x5 x6 r j := v45_at x0 x1 x2 x3 x4 x5 x6 r j

/-- An entry of the means of the keys. -/
theorem v52_at (x0 x1 x2 x3 x4 x5 x6) (b : Fin 128) (d : Fin 1024) : val_main_v52 (F := Ideal) x0 x1 x2 x3 x4 x5 x6 (ix3 b 0 d)
    = Cert.Ffn.keyMean (Cert.Ffn.qkvRow x0 x1 x2 x3 x4 x5 x6) b d := by
  rw [val_main_v52_apply, val_main_v50_apply, val_main_v49_apply, val_main_v51_apply]
  refine congrArg₂ Ideal.div ((congrArg₂ (fun a b : EReal => a + b) (Ideal.ofBits_zero_f32) (Finset.sum_congr rfl fun k _ => ?_)).trans (zero_add _)) rfl
  rw [val_main_v47_apply, val_main_v46_apply]
  refine (congrArg _ ?_).trans (v45_at x0 x1 x2 x3 x4 x5 x6 ⟨256 * b.val + k.val, by omega⟩ ⟨1024 + d.val, by omega⟩)
  funext a
  refine Fin.ext ?_
  have hb := b.isLt
  have hk := k.isLt
  have hd := d.isLt
  match a with
  | ⟨0, _⟩ => show _ = 256 * b.val + k.val; simp [idx_main_v46, idx_main_v47, idx_main_v49, idx_main_v50, ix3]; omega
  | ⟨1, _⟩ => show _ = 1024 + d.val; simp [idx_main_v46, idx_main_v47, idx_main_v49, idx_main_v50, ix3] <;> omega

end Cert.Reference3Ideal.Read

end
-- ==== Proof.Plain.lean ====
module

public import proofs.«01_k».proof.Proof.Gen.Kernel4Ideal.Frame
public import Idealize.ShloMosaic.Lib.Pipeline.ValueKit
public import proofs.«01_k».proof.Proof.Ffn

@[expose] public section

set_option maxRecDepth 16384

noncomputable section

namespace Cert.Kernel4Ideal.Gen

open Idealize.ShloMosaic Idealize.SL.Sem Idealize.ShloMosaic.TcCoe
open Idealize.ShloMosaic.Pipeline (Dat Cfg Window cellOf)
open Idealize.SL Idealize.SL.RA Idealize.SL.BI

variable (m : (ℓ : Loc nD τ sig) → Buf (Elt Ideal) ℓ)

/-- The block a point writes is the tile of its rows. -/
theorem out_eq (x0 x1 x2 x3 x4) : out0_5 (F := Ideal) x0 x1 x2 x3 x4
    = View.canon [⟨r0_0, Cert.Ffn.tile (View.ld x0 r0_0) (View.ld x1 r0_1) x2 x3 x4⟩] := by
  unfold_out out0_5
  rfl

/-- The gains the call is entered with. -/
theorem V_gain (c : Dev nD) (k : Fin 1024) : (show S1x1024.Idx → EReal from V m c main_v5) (ix2 0 k)
    = (show S2x2x1024.Idx → EReal from m ((c : Thread nD τ).loc main_arg1)) (ix3 0 0 k) := by
  show StableHlo.after hostOps0 _ (Proc.devRef .tc main_v5) (ix2 0 k : S1x1024.Idx) = _
  after_results
  pointwise

/-- The first matrices the call is entered with. -/
theorem V_w1 (c : Dev nD) : (show S2x2x1024x2816.Idx → EReal from V m c main_v0) = m ((c : Thread nD τ).loc main_arg2) := by
  show StableHlo.after hostOps0 _ (Proc.devRef .tc main_v0) = _
  after_results
  rfl

/-- The second matrices the call is entered with. -/
theorem V_w3 (c : Dev nD) : (show S2x2x1024x2816.Idx → EReal from V m c main_v1) = m ((c : Thread nD τ).loc main_arg3) := by
  show StableHlo.after hostOps0 _ (Proc.devRef .tc main_v1) = _
  after_results
  rfl

/-- The third matrices the call is entered with. -/
theorem V_w2 (c : Dev nD) : (show S2x2x2816x1024.Idx → EReal from V m c main_v2) = m ((c : Thread nD τ).loc main_arg4) := by
  show StableHlo.after hostOps0 _ (Proc.devRef .tc main_v2) = _
  after_results
  rfl

/-- Where each point's blocks lie. -/
theorem idx : ∀ t : Fin cfg0.N, win0_0.index t = ![t.val, 0] ∧ win0_1.index t = ![0, 0] ∧ win0_2.index t = ![0, 0, 0, 0]
    ∧ win0_3.index t = ![0, 0, 0, 0] ∧ win0_4.index t = ![0, 0, 0, 0] ∧ win0_5.index t = ![t.val, 0] :=
  (by decide +kernel : ∀ t : Fin grid0.N, _)

/-- A point's rows. -/
theorem block0 (c : Dev nD) (t : Fin cfg0.N) (r : Fin 512) (k : Fin 1024) (h : 512 * t.val + r.val < 32768) :
    (show S512x1024.Idx → EReal from iblk m c 0 t) (ix2 r k) = (show S32768x1024.Idx → EReal from m ((c : Thread nD τ).loc main_arg0)) (ix2 ⟨512 * t.val + r.val, h⟩ k) := by
  refine Eq.trans ?_ (congrFun (V_main_arg0 m c) (ix2 ⟨512 * t.val + r.val, h⟩ k))
  blk_ext [iblk, idx t]

/-- A point's gains. -/
theorem block1 (c : Dev nD) (t : Fin cfg0.N) (k : Fin 1024) : (show S1x1024.Idx → EReal from iblk m c 1 t) (ix2 0 k)
    = (show S2x2x1024.Idx → EReal from m ((c : Thread nD τ).loc main_arg1)) (ix3 0 0 k) := by
  refine Eq.trans ?_ (V_gain m c k)
  blk_ext [iblk, idx t]

/-- A point's first matrix. -/
theorem block2 (c : Dev nD) (t : Fin cfg0.N) (k : Fin 1024) (f : Fin 2816) : (show S1x1x1024x2816.Idx → EReal from iblk m c 2 t) (ix4 0 0 k f)
    = (show S2x2x1024x2816.Idx → EReal from m ((c : Thread nD τ).loc main_arg2)) (ix4 0 0 k f) := by
  refine Eq.trans ?_ (congrFun (V_w1 m c) (ix4 0 0 k f))
  blk_ext [iblk, idx t]

/-- A point's second matrix. -/
theorem block3 (c : Dev nD) (t : Fin cfg0.N) (k : Fin 1024) (f : Fin 2816) : (show S1x1x1024x2816.Idx → EReal from iblk m c 3 t) (ix4 0 0 k f)
    = (show S2x2x1024x2816.Idx → EReal from m ((c : Thread nD τ).loc main_arg3)) (ix4 0 0 k f) := by
  refine Eq.trans ?_ (congrFun (V_w3 m c) (ix4 0 0 k f))
  blk_ext [iblk, idx t]

/-- A point's third matrix. -/
theorem block4 (c : Dev nD) (t : Fin cfg0.N) (f : Fin 2816) (k : Fin 1024) : (show S1x1x2816x1024.Idx → EReal from iblk m c 4 t) (ix4 0 0 f k)
    = (show S2x2x2816x1024.Idx → EReal from m ((c : Thread nD τ).loc main_arg4)) (ix4 0 0 f k) := by
  refine Eq.trans ?_ (congrFun (V_w2 m c) (ix4 0 0 f k))
  blk_ext [iblk, idx t]

/-- The array the kernel writes: each row plus half of its feed-forward part. -/
theorem final (c : Dev nD) : (dats m 0 c).arrAt 5 (cfgs 0).N = fun j : S32768x1024.Idx =>
    Cert.Ffn.half (fun k => (show S32768x1024.Idx → EReal from m ((c : Thread nD τ).loc main_arg0)) (ix2 (j 0) k))
      (fun k => (show S2x2x1024.Idx → EReal from m ((c : Thread nD τ).loc main_arg1)) (ix3 0 0 k))
      (fun k f => (show S2x2x1024x2816.Idx → EReal from m ((c : Thread nD τ).loc main_arg2)) (ix4 0 0 k f))
      (fun k f => (show S2x2x1024x2816.Idx → EReal from m ((c : Thread nD τ).loc main_arg3)) (ix4 0 0 k f))
      (fun f k => (show S2x2x2816x1024.Idx → EReal from m ((c : Thread nD τ).loc main_arg4)) (ix4 0 0 f k)) (j 1) := by
  refine (dats m 0 c).arrAt_eq_of_covers 5 _ (by decide +kernel) fun t hf z => ?_
  have ht : t.val < 64 := t.isLt
  blk_simp
  rw [after0_5, out_eq]
  canon_tiles w h
  case piece0 =>
    obtain ⟨r, e, rfl⟩ : ∃ r e, w = ix2 r e := ⟨w 0, w 1, by funext a; match a with | ⟨0, _⟩ => rfl | ⟨1, _⟩ => rfl⟩
    refine (Cert.Ffn.tile_apply _ _ _ _ _ r e).trans ?_
    have hR : (win0_5.blk t).view.emb z 0 = (⟨512 * t.val + r.val, by omega⟩ : Fin 32768) := by
      refine Fin.ext ?_
      show win0_5.index t 0 * 512 + 1 * (z 0).val = _
      rw [(idx t).2.2.2.2.2, h0]
      show t.val * 512 + 1 * r.val = 512 * t.val + r.val
      omega
    have hE : (win0_5.blk t).view.emb z 1 = e := by
      refine Fin.ext ?_
      show win0_5.index t 1 * 1024 + 1 * (z 1).val = _
      rw [(idx t).2.2.2.2.2, h1]
      show 0 * 1024 + 1 * e.val = e.val
      omega
    refine Cert.Ffn.half_congr (fun k => ?_) (fun k => ?_) (block2 m c t) (block3 m c t) (block4 m c t) hE.symm
    · rw [hR]
      exact (Cert.Ffn.whole_apply _ _ r k).trans (block0 m c t r k _)
    · exact (Cert.Ffn.whole_apply _ _ 0 k).trans (block1 m c t k)

end Cert.Kernel4Ideal.Gen

end
-- ==== Proof.PlainRef.lean ====
module

public import proofs.«01_k».proof.Proof.Gen.Reference4Ideal.Read
public import proofs.«01_k».proof.Proof.HostFfn

@[expose] public section

set_option maxRecDepth 16384

noncomputable section

namespace Cert.Reference4Ideal.Read

open Idealize.ShloMosaic Idealize.ShloMosaic.TcCoe Cert.Reference4Ideal

/-- The result is all rows plus half of their feed-forward part. -/
theorem v28_eq (x0 x1 x2 x3 x4) : val_main_v28 (F := Ideal) x0 x1 x2 x3 x4
    = Cert.Ffn.hostHalf x0 (val_main_v1 (F := Ideal) x1) (val_main_v16 (F := Ideal) x2) (val_main_v18 (F := Ideal) x3) (val_main_v20 (F := Ideal) x4) := rfl

theorem v1_at (x1) (k : Fin 1024) : val_main_v1 (F := Ideal) x1 (ix1 k) = x1 (ix3 0 0 k) := by
  unfold val_main_v1 val_main_v0
  pointwise

theorem v16_at (x2) (k : Fin 1024) (f : Fin 2816) : val_main_v16 (F := Ideal) x2 (ix2 k f) = x2 (ix4 0 0 k f) := by
  unfold val_main_v16 val_main_v15
  pointwise

theorem v18_at (x3) (k : Fin 1024) (f : Fin 2816) : val_main_v18 (F := Ideal) x3 (ix2 k f) = x3 (ix4 0 0 k f) := by
  unfold val_main_v18 val_main_v17
  pointwise

theorem v20_at (x4) (f : Fin 2816) (k : Fin 1024) : val_main_v20 (F := Ideal) x4 (ix2 f k) = x4 (ix4 0 0 f k) := by
  unfold val_main_v20 val_main_v19
  pointwise

/-- An entry of the result. -/
theorem v28_at (x0 x1 x2 x3 x4) (r : Fin 32768) (d : Fin 1024) : val_main_v28 (F := Ideal) x0 x1 x2 x3 x4 (ix2 r d)
    = Cert.Ffn.half (fun k => x0 (ix2 r k)) (fun k => x1 (ix3 0 0 k)) (fun k f => x2 (ix4 0 0 k f)) (fun k f => x3 (ix4 0 0 k f)) (fun f k => x4 (ix4 0 0 f k)) d := by
  rw [v28_eq]
  exact (Cert.Ffn.hostHalf_apply _ _ _ _ _ r d).trans (Cert.Ffn.half_congr (fun _ => rfl) (v1_at x1) (v16_at x2) (v18_at x3) (v20_at x4) rfl)

end Cert.Reference4Ideal.Read

end
-- ==== Proof.Mix.lean ====
module

public import Idealize.ShloMosaic.Lib.Pipeline.ValueKit
public import Idealize.ShloMosaic.Lib.Pipeline.ReadBack
public import proofs.«01_k».proof.Proof.Ffn

@[expose] public section

set_option maxRecDepth 16384

noncomputable section

namespace Cert.Mix

open Idealize.ShloMosaic Idealize.ShloMosaic.TcCoe Finset
open Cert.Ffn

/-! ## The numbers -/

/-- The activation of the S5 output, with the hyperbolic tangent. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- A row times the logistic of its product and a bias. -/
def gate (y : Fin 512 → EReal) (w : Fin 512 → Fin 512 → EReal) (b : Fin 512 → EReal) (j : Fin 512) : EReal :=
  y j * Ideal.logistic ((∑ k, y k * w k j) + b j)

/-- A row of the S5 output plus the skip term, activated. -/
def state (s d u : Fin 512 → EReal) (j : Fin 512) : EReal := gelu (s j + d j * u j)

/-- Where row `R`, entry `j` of the S5 output is packed: block of lanes, chunk, place and lane. -/
def packedAt (X : (⟨3, ![4, 128, 32768]⟩ : Shape).Idx → EReal) (R : Fin 32768) (j : Fin 512) : EReal :=
  X (ix3 (⟨j.val / 128, by omega⟩ : Fin 4) (⟨R.val % 2048 / 16, by omega⟩ : Fin 128)
    (⟨2048 * (R.val / 2048) + 128 * (R.val % 16) + j.val % 128, by omega⟩ : Fin 32768))

/-- A row plus the products of the convolution's output and of the gated S5 output. -/
def mixed (x : Fin 1024 → EReal) (yc s d u : Fin 512 → EReal) (gw : Fin 512 → Fin 512 → EReal) (gb : Fin 512 → EReal)
    (wc ws : Fin 512 → Fin 1024 → EReal) (k : Fin 1024) : EReal :=
  x k + (∑ i, yc i * wc i k) + ∑ i, gate (state s d u) gw gb i * ws i k

/-- It depends on the entries only. -/
theorem mixed_congr {x x' : Fin 1024 → EReal} {yc yc' s s' d d' u u' gb gb' : Fin 512 → EReal} {gw gw' : Fin 512 → Fin 512 → EReal}
    {wc wc' ws ws' : Fin 512 → Fin 1024 → EReal} (hx : ∀ k, x k = x' k) (hyc : ∀ i, yc i = yc' i) (hs : ∀ i, s i = s' i) (hd : ∀ i, d i = d' i)
    (hu : ∀ i, u i = u' i) (hgw : ∀ i j, gw i j = gw' i j) (hgb : ∀ i, gb i = gb' i) (hwc : ∀ i k, wc i k = wc' i k) (hws : ∀ i k, ws i k = ws' i k)
    (k : Fin 1024) : mixed x yc s d u gw gb wc ws k = mixed x' yc' s' d' u' gw' gb' wc' ws' k := by
  obtain rfl : x = x' := funext hx
  obtain rfl : yc = yc' := funext hyc
  obtain rfl : s = s' := funext hs
  obtain rfl : d = d' := funext hd
  obtain rfl : u = u' := funext hu
  obtain rfl : gw = gw' := funext fun i => funext (hgw i)
  obtain rfl : gb = gb' := funext hgb
  obtain rfl : wc = wc' := funext fun i => funext (hwc i)
  obtain rfl : ws = ws' := funext fun i => funext (hws i)
  rfl

/-! ## The S5 output, unpacked through the scratch buffer -/

/-- A point's block of the S5 output: four blocks of lanes, 32 chunks, 16 times 128 lanes. -/
abbrev Packed : Shape := ⟨3, ![4, 32, 2048]⟩
/-- The scratch buffer: four blocks of lanes, 512 rows. -/
abbrev Plane : Shape := ⟨3, ![4, 512, 128]⟩
/-- What one store writes: every sixteenth row. -/
abbrev Few : Shape := ⟨3, ![1, 32, 128]⟩
/-- What one load takes: one block of lanes. -/
abbrev Strip : Shape := ⟨3, ![1, 512, 128]⟩

/-- What the scratch buffer holds: row `r` is place `r % 16` of chunk `r / 16`. -/
def unpacked (X : Vec Ideal Packed .f32) : Vec Ideal Plane .f32 := fun y =>
  X (ix3 (y 0) (⟨(y 1).val / 16, by have : (y 1).val < 512 := (y 1).isLt; omega⟩ : Fin 32)
    (⟨128 * ((y 1).val % 16) + (y 2).val, by have : (y 2).val < 128 := (y 2).isLt; omega⟩ : Fin 2048))

/-- One block of lanes of it. -/
def strip (X : Vec Ideal Packed .f32) (g : Fin 4) : Vec Ideal Strip .f32 := fun x =>
  unpacked X (ix3 g (⟨(x 1).val, (x 1).isLt⟩ : Fin 512) (⟨(x 2).val, (x 2).isLt⟩ : Fin 128))

/-- The rows store `n` writes. -/
abbrev spread (n : ℕ) : Rect Plane where
  off := ![n / 16 % 4, n % 16, 0]
  size := ![1, 32, 128]
  stride := ![1, 16, 1]
  inb a := by
    match a with
    | ⟨0, _⟩ => exact .inr (show n / 16 % 4 + 1 * (1 - 1) < 4 by omega)
    | ⟨1, _⟩ => exact .inr (show n % 16 + 16 * (32 - 1) < 512 by omega)
    | ⟨2, _⟩ => exact .inr (show 0 + 1 * (128 - 1) < 128 by omega)
  stride_pos a := by
    match a with
    | ⟨0, _⟩ => show 0 < 1; omega
    | ⟨1, _⟩ => show 0 < 16; omega
    | ⟨2, _⟩ => show 0 < 1; omega

/-- What store `n` loads. -/
abbrev place (n : ℕ) : Rect Packed := Rect.unit (s := Packed) ![n / 16 % 4, 0, 128 * (n % 16)] Few.size (by
  intro a
  match a with
  | ⟨0, _⟩ => show n / 16 % 4 + 1 ≤ 4; omega
  | ⟨1, _⟩ => show 0 + 32 ≤ 32; omega
  | ⟨2, _⟩ => show 128 * (n % 16) + 128 ≤ 2048; omega)

theorem drop_one : Few.ShapeCasts (Mat 32 128) := by decide
theorem add_one : (Mat 32 128).ShapeCasts Few := by decide

/-- Store `n`. -/
def stored (X : Vec Ideal Packed .f32) (n : ℕ) : View.Piece (Elt Ideal) Plane .f32 :=
  ⟨spread n, shapeCast Few (shapeCast (Mat 32 128) (View.ld X (place n)) drop_one) add_one⟩

/-- The first stores, last first. -/
def stores (X : Vec Ideal Packed .f32) : ℕ → List (View.Piece (Elt Ideal) Plane .f32)
  | 0 => []
  | n + 1 => stored X n :: stores X n

theorem mem_stores (X : Vec Ideal Packed .f32) : ∀ {n k : ℕ}, k < n → stored X k ∈ stores X n
  | n + 1, k, h => by
    rcases Nat.lt_succ_iff_lt_or_eq.mp h with h | rfl
    · exact List.mem_cons_of_mem _ (mem_stores X h)
    · exact List.mem_cons_self

theorem of_mem_stores (X : Vec Ideal Packed .f32) {p : View.Piece (Elt Ideal) Plane .f32} : ∀ {n : ℕ}, p ∈ stores X n → ∃ k, p = stored X k
  | n + 1, h => by
    rcases List.mem_cons.mp h with h | h
    · exact ⟨n, h⟩
    · exact of_mem_stores X h

/-- Each store writes what the buffer is to hold. -/
theorem stored_eq (X : Vec Ideal Packed .f32) (n : ℕ) (x : Few.Idx) : (stored X n).2 x = unpacked X ((spread n).emb x) := by
  unfold stored
  rw [shapeCast_shapeCast]
  refine congrArg X ?_
  have h0 : (x 0).val < 1 := (x 0).isLt
  have h1 : (x 1).val < 32 := (x 1).isLt
  have h2 : (x 2).val < 128 := (x 2).isLt
  have e0 : ((spread n).emb x 0).val = n / 16 % 4 + 1 * (x 0).val := rfl
  have e1 : ((spread n).emb x 1).val = n % 16 + 16 * (x 1).val := rfl
  have e2 : ((spread n).emb x 2).val = 0 + 1 * (x 2).val := rfl
  funext a
  refine Fin.ext ?_
  match a with
  | ⟨0, _⟩ => exact e0.symm
  | ⟨1, _⟩ =>
    show 0 + 1 * (x 1).val = ((spread n).emb x 1).val / 16
    rw [e1]; omega
  | ⟨2, _⟩ =>
    show 128 * (n % 16) + 1 * (x 2).val = 128 * (((spread n).emb x 1).val % 16) + ((spread n).emb x 2).val
    rw [e1, e2]; omega

/-- A load after all the stores takes a block of lanes of what the buffer is to hold. -/
theorem read_strip {sig : RefSig} {κ : Kind} {sp : Space} (v : View sig κ sp Plane .f32) (X : Vec Ideal Packed .f32) (g : Fin 4)
    (h : ∀ a, (![g.val, 0, 0] : Fin 3 → ℕ) a + Strip.size a ≤ Plane.size a) :
    v.readCov (stores X 64) (Rect.unit (s := Plane) ![g.val, 0, 0] Strip.size h).toLoadRect = strip X g := by
  rw [View.readCov_eq_canon']
  funext x
  have h0 : (x 0).val < 1 := (x 0).isLt
  have h1 : (x 1).val < 512 := (x 1).isLt
  have h2 : (x 2).val < 128 := (x 2).isLt
  have hg : g.val < 4 := g.isLt
  have hn : 16 * g.val + (x 1).val % 16 < 64 := by omega
  refine (View.canon_apply_of_pieces (unpacked X) (stores X 64) (fun p hp y => ?_) _ ⟨stored X (16 * g.val + (x 1).val % 16), mem_stores X hn, ?_⟩).trans ?_
  · obtain ⟨k, rfl⟩ := of_mem_stores X hp
    exact stored_eq X k y
  · rw [LoadRect.mem_set]
    intro a
    match a with
    | ⟨0, _⟩ =>
      refine ⟨0, Nat.one_pos, ?_⟩
      show g.val + 1 * (x 0).val = (16 * g.val + (x 1).val % 16) / 16 % 4 + 1 * 0
      omega
    | ⟨1, _⟩ =>
      refine ⟨(x 1).val / 16, show (x 1).val / 16 < 32 by omega, ?_⟩
      show 0 + 1 * (x 1).val = (16 * g.val + (x 1).val % 16) % 16 + 16 * ((x 1).val / 16)
      omega
    | ⟨2, _⟩ =>
      refine ⟨(x 2).val, h2, ?_⟩
      show 0 + 1 * (x 2).val = 0 + 1 * (x 2).val
      rfl
  · refine congrArg (unpacked X) ?_
    funext a
    refine Fin.ext ?_
    match a with
    | ⟨0, _⟩ => show g.val + 1 * (x 0).val = g.val; omega
    | ⟨1, _⟩ => show 0 + 1 * (x 1).val = (x 1).val; omega
    | ⟨2, _⟩ => show 0 + 1 * (x 2).val = (x 2).val; omega

/-! ## What a tile of 512 rows computes -/

theorem cast_strip : Strip.ShapeCasts (Mat 512 128) := by decide
theorem joined : Shape.Concatenates [Mat 512 128, Mat 512 128, Mat 512 128, Mat 512 128] (Mat 512 512) 1 := by decide
theorem cast_line : (Mat 1 512).ShapeCasts (Mat 1 512) := by decide
theorem spread_line : (Mat 1 512).Broadcasts (Mat 512 512) := by decide

/-- The four blocks of lanes side by side. -/
def sides (a0 a1 a2 a3 : FVec Ideal Strip .f32) : FVec Ideal (Mat 512 512) .f32 :=
  concatenate (Mat 512 512) 1 [⟨Mat 512 128, shapeCast (Mat 512 128) a0 cast_strip⟩, ⟨Mat 512 128, shapeCast (Mat 512 128) a1 cast_strip⟩,
    ⟨Mat 512 128, shapeCast (Mat 512 128) a2 cast_strip⟩, ⟨Mat 512 128, shapeCast (Mat 512 128) a3 cast_strip⟩] joined

theorem cast_strip_apply (a : FVec Ideal Strip .f32) (r : Fin 512) (l : Fin 128) : shapeCast (Mat 512 128) a cast_strip (ix2 r l) = a (ix3 0 r l) := by
  pointwise

theorem sides_apply (a : Fin 4 → FVec Ideal Strip .f32) (r j : Fin 512) :
    sides (a 0) (a 1) (a 2) (a 3) (ix2 r j) = a ⟨j.val / 128, by omega⟩ (ix3 0 r ⟨j.val % 128, by omega⟩) := by
  refine (concatenate_ofFn_apply (t := Mat 512 512) (s₁ := Mat 512 128) 1 (fun n : Fin 4 => shapeCast (Mat 512 128) (a n) cast_strip) joined rfl 128 rfl
    (ix2 r j) ⟨j.val / 128, by omega⟩ rfl (ix2 r ⟨j.val % 128, by omega⟩) rfl ?_).trans (cast_strip_apply _ r _)
  intro b hb
  match b with
  | ⟨0, _⟩ => rfl
  | ⟨1, _⟩ => exact absurd rfl hb

/-- The S5 output plus the skip term. -/
def skipped (s : FVec Ideal (Mat 512 512) .f32) (d : FVec Ideal (Mat 1 512) .f32) (u : FVec Ideal (Mat 512 512) .f32) : FVec Ideal (Mat 512 512) .f32 :=
  addf s (mulf (broadcastTo (Mat 512 512) (shapeCast (Mat 1 512) d cast_line) spread_line) u)

/-- The activation of a tile. -/
def gelus (y : FVec Ideal (Mat 512 512) .f32) : FVec Ideal (Mat 512 512) .f32 :=
  mulf (mulf (broadcast (Mat 512 512) (Scalar.ofBits (F := Ideal) .f32 0x3F000000#32)) y)
    (addf (broadcast (Mat 512 512) (Scalar.ofBits (F := Ideal) .f32 0x3F800000#32))
      (tanh (mulf (broadcast (Mat 512 512) (Scalar.ofBits (F := Ideal) .f32 0x3F4C422A#32))
        (addf y (mulf (broadcast (Mat 512 512) (Scalar.ofBits (F := Ideal) .f32 0x3D372713#32)) (mulf (mulf y y) y))))))

/-- The gate of a tile. -/
def gates (y : FVec Ideal (Mat 512 512) .f32) (w : FVec Ideal (Mat 512 512) .bf16) (b : FVec Ideal (Mat 1 512) .f32) : FVec Ideal (Mat 512 512) .f32 :=
  mulf y (logistic (addf (times (truncf .bf16 y fewer_bits) w) (broadcastTo (Mat 512 512) (shapeCast (Mat 1 512) b cast_line) spread_line)))

/-- A tile's rows plus the two products. -/
def products (x : FVec Ideal (Mat 512 1024) .f32) (yc : FVec Ideal (Mat 512 512) .bf16) (y : FVec Ideal (Mat 512 512) .f32)
    (wc ws : FVec Ideal (Mat 512 1024) .bf16) : FVec Ideal (Mat 512 1024) .f32 :=
  addf (addf x (times yc wc)) (times (truncf .bf16 y fewer_bits) ws)

theorem line_apply (b : FVec Ideal (Mat 1 512) .f32) (r j : Fin 512) :
    broadcastTo (Mat 512 512) (shapeCast (Mat 1 512) b cast_line) spread_line (ix2 r j) = b (ix2 0 j) := by
  rw [shapeCast_self]
  pointwise

theorem skipped_apply (s d u) (r j : Fin 512) : skipped s d u (ix2 r j) = s (ix2 r j) + d (ix2 0 j) * u (ix2 r j) := by
  unfold skipped
  rw [addf_apply, mulf_apply, line_apply]
  rfl

theorem gelus_apply (y) (i : (Mat 512 512).Idx) : gelus y i = gelu (y i) := rfl

theorem gates_apply (y w b) (r j : Fin 512) : gates y w b (ix2 r j) = gate (fun k => y (ix2 r k)) (fun k j => w (ix2 k j)) (fun j => b (ix2 0 j)) j := by
  unfold gates gate
  rw [mulf_apply, logistic_apply, addf_apply, times_apply, line_apply]
  rfl

theorem products_apply (x yc y wc ws) (r : Fin 512) (k : Fin 1024) : products x yc y wc ws (ix2 r k)
    = x (ix2 r k) + (∑ i : Fin 512, yc (ix2 r i) * wc (ix2 i k)) + ∑ i : Fin 512, y (ix2 r i) * ws (ix2 i k) := by
  unfold products
  rw [addf_apply, addf_apply, times_apply, times_apply]
  rfl

/-- A tile's rows with the convolution's and the S5 part. -/
def mixes (a0 a1 a2 a3 : FVec Ideal Strip .f32) (d : FVec Ideal (Mat 1 512) .f32) (u : FVec Ideal (Mat 512 512) .f32)
    (gw : FVec Ideal (Mat 512 512) .bf16) (gb : FVec Ideal (Mat 1 512) .f32) (x : FVec Ideal (Mat 512 1024) .f32) (yc : FVec Ideal (Mat 512 512) .bf16)
    (wc ws : FVec Ideal (Mat 512 1024) .bf16) : FVec Ideal (Mat 512 1024) .f32 :=
  products x yc (gates (gelus (skipped (sides a0 a1 a2 a3) d u)) gw gb) wc ws

/-- An entry of it. -/
theorem mixes_apply (a : Fin 4 → FVec Ideal Strip .f32) (d u gw gb x yc wc ws) (r : Fin 512) (k : Fin 1024) :
    mixes (a 0) (a 1) (a 2) (a 3) d u gw gb x yc wc ws (ix2 r k)
      = mixed (fun k => x (ix2 r k)) (fun i => yc (ix2 r i)) (fun j => a ⟨j.val / 128, by omega⟩ (ix3 0 r ⟨j.val % 128, by omega⟩)) (fun j => d (ix2 0 j))
        (fun j => u (ix2 r j)) (fun k j => gw (ix2 k j)) (fun j => gb (ix2 0 j)) (fun i k => wc (ix2 i k)) (fun i k => ws (ix2 i k)) k := by
  unfold mixes
  rw [products_apply]
  refine congrArg _ (Finset.sum_congr rfl fun i _ => ?_)
  rw [gates_apply]
  have e : (fun k => gelus (skipped (sides (a 0) (a 1) (a 2) (a 3)) d u) (ix2 r k))
      = state (fun j => a ⟨j.val / 128, by omega⟩ (ix3 0 r ⟨j.val % 128, by omega⟩)) (fun j => d (ix2 0 j)) (fun j => u (ix2 r j)) := by
    funext j
    rw [gelus_apply, skipped_apply, sides_apply]
    rfl
  rw [e]

end Cert.Mix

end
-- ==== Proof.MixIn.lean ====
module

public import Idealize.ShloMosaic.Lib.Pipeline.ValueKit
public import Idealize.ShloMosaic.Lib.Pipeline.ReadBack
public import proofs.«01_k».proof.Proof.Ffn

@[expose] public section

set_option maxRecDepth 16384

noncomputable section

namespace Cert.MixIn

open Idealize.ShloMosaic Idealize.ShloMosaic.TcCoe Finset
open Cert.Ffn

/-! ## The numbers -/

/-- The input projection of a normalised row. -/
def proj (x g : Fin 1024 → EReal) (w : Fin 1024 → Fin 1536 → EReal) (e : Fin 1536) : EReal := ∑ k, rms x g k * w k e

/-- The gated part of a projected row, what the convolution reads. -/
def gatedIn (p : Fin 1536 → EReal) (c : Fin 512) : EReal := p ⟨c.val, by omega⟩ * Ideal.logistic (p ⟨512 + c.val, by omega⟩)

/-- The first terms of a sum, added in order. -/
def taps (f : ℕ → EReal) : ℕ → EReal
  | 0 => Ideal.ofBits .f32 0x00000000#32
  | n + 1 => taps f n + f n

theorem taps_congr {f g : ℕ → EReal} : ∀ n, (∀ j, j < n → f j = g j) → taps f n = taps g n
  | 0, _ => rfl
  | n + 1, h => congrArg₂ (· + ·) (taps_congr n fun j hj => h j (by omega)) (h n (by omega))

/-- A row over its standard deviation, about its mean, with gains and biases, times its logistic. -/
def layer (y g b : Fin 512 → EReal) (c : Fin 512) : EReal :=
  let mu := Ideal.div (∑ k, y k) (Ideal.ofBits .f32 0x44000000#32)
  let z := (y c - mu) * Ideal.rsqrt (Ideal.div (∑ k, (y k - mu) * (y k - mu)) (Ideal.ofBits .f32 0x44000000#32) + Ideal.ofBits .f32 0x3727C5AC#32) * g c + b c
  z * Ideal.logistic z

/-- The gated rows before a row of its sequence, zero before the first. -/
def past (V : ℕ → Fin 512 → EReal) (R j : ℕ) (c : Fin 512) : EReal :=
  if 30 ≤ R % 2048 + j then V (R + j - 30) c else Ideal.ofBits .f32 0x00000000#32

/-- The convolution at a row, with its bias. -/
def conv (w : ℕ → Fin 512 → EReal) (b : Fin 512 → EReal) (v : ℕ → Fin 512 → EReal) (c : Fin 512) : EReal :=
  taps (fun j => w j c * v j c) 31 + b c

/-! ## The convolution of a tile, through the scratch buffers -/

/-- The eight shifted copies of the padded tile. -/
abbrev Shifts : Shape := ⟨3, ![8, 536, 512]⟩
/-- What one load takes of them. -/
abbrev Cut : Shape := ⟨3, ![1, 128, 128]⟩

theorem cast_line : (Mat 1 128).ShapeCasts (Mat 1 128) := by decide
theorem cast_cut : Cut.ShapeCasts (Mat 128 128) := by decide
theorem cast_square : (Mat 128 128).ShapeCasts (Mat 128 128) := by decide
theorem spread_line : (Mat 1 128).Broadcasts (Mat 128 128) := by decide

/-- What a tap loads: copy `n % 8`, rows from a multiple of eight. -/
abbrev cut (k n : ℕ) : Rect Shifts := Rect.unit (s := Shifts) ![n % 8, 128 * (k % 4) + 8 * (n % 31 / 8), 128 * (k / 4 % 4)] Cut.size (by
  intro a
  match a with
  | ⟨0, _⟩ => show n % 8 + 1 ≤ 8; omega
  | ⟨1, _⟩ => show 128 * (k % 4) + 8 * (n % 31 / 8) + 128 ≤ 536; omega
  | ⟨2, _⟩ => show 128 * (k / 4 % 4) + 128 ≤ 512; omega)

/-- A tap's weights. -/
abbrev weight (k n : ℕ) : Rect (Mat 31 512) := Rect.unit (s := Mat 31 512) ![n % 31, 128 * (k / 4 % 4)] (Mat 1 128).size (by
  intro a
  match a with
  | ⟨0, _⟩ => show n % 31 + 1 ≤ 31; omega
  | ⟨1, _⟩ => show 128 * (k / 4 % 4) + 128 ≤ 512; omega)

/-- The biases. -/
abbrev bias (k : ℕ) : Rect (Mat 1 512) := Rect.unit (s := Mat 1 512) ![0, 128 * (k / 4 % 4)] (Mat 1 128).size (by
  intro a
  match a with
  | ⟨0, _⟩ => show 0 + 1 ≤ 1; omega
  | ⟨1, _⟩ => show 128 * (k / 4 % 4) + 128 ≤ 512; omega)

/-- Where a part of the convolution is stored. -/
abbrev square (k : ℕ) : Rect (Mat 512 512) := Rect.unit (s := Mat 512 512) ![128 * (k % 4), 128 * (k / 4 % 4)] (Mat 128 128).size (by
  intro a
  match a with
  | ⟨0, _⟩ => show 128 * (k % 4) + 128 ≤ 512; omega
  | ⟨1, _⟩ => show 128 * (k / 4 % 4) + 128 ≤ 512; omega)

/-- One tap's products. -/
def tap (w : FVec Ideal (Mat 1 128) .f32) (s : FVec Ideal Cut .f32) : FVec Ideal (Mat 128 128) .f32 :=
  mulf (broadcastTo (Mat 128 128) (shapeCast (Mat 1 128) w cast_line) spread_line) (shapeCast (Mat 128 128) s cast_cut)

/-- The first taps of part `k`, from what the loads take. -/
def chain (W : Vec Ideal (Mat 31 512) .f32) (S : (r : Rect Shifts) → r.shape.Idx → Elt Ideal .f32) (k : ℕ) : ℕ → FVec Ideal (Mat 128 128) .f32
  | 0 => broadcast (Mat 128 128) (Scalar.ofBits (F := Ideal) .f32 0x00000000#32)
  | n + 1 => addf (chain W S k n) (tap (View.ld W (weight k n)) (S (cut k n)))

theorem tap_apply (w s) (r l : Fin 128) : tap w s (ix2 r l) = w (ix2 0 l) * s (ix3 0 r l) := by
  unfold tap
  rw [shapeCast_self]
  pointwise

/-- Part `k` of the convolution. -/
def part (W : Vec Ideal (Mat 31 512) .f32) (B : Vec Ideal (Mat 1 512) .f32) (S : (r : Rect Shifts) → r.shape.Idx → Elt Ideal .f32) (k : ℕ) : FVec Ideal (Mat 128 128) .f32 :=
  shapeCast (Mat 128 128) (addf (chain W S k 31) (broadcastTo (Mat 128 128) (shapeCast (Mat 1 128) (View.ld B (bias k)) cast_line) spread_line)) cast_square

theorem chain_apply (W S) (k : ℕ) (r l : Fin 128) : ∀ n, chain W S k n (ix2 r l)
    = taps (fun j => View.ld W (weight k j) (ix2 0 l) * S (cut k j) (ix3 0 r l)) n
  | 0 => rfl
  | n + 1 => by
    show FloatOps.addf _ _ = _
    rw [chain_apply W S k r l n, tap_apply]
    rfl

theorem line_apply (b : FVec Ideal (Mat 1 128) .f32) (r l : Fin 128) :
    broadcastTo (Mat 128 128) (shapeCast (Mat 1 128) b cast_line) spread_line (ix2 r l) = b (ix2 0 l) := by
  rw [shapeCast_self]
  pointwise

theorem part_apply (W B S) (k : ℕ) (r l : Fin 128) : part W B S k (ix2 r l)
    = taps (fun j => View.ld W (weight k j) (ix2 0 l) * S (cut k j) (ix3 0 r l)) 31 + View.ld B (bias k) (ix2 0 l) := by
  unfold part
  rw [shapeCast_self, addf_apply, chain_apply, line_apply]
  rfl

/-- The first parts, last first. -/
def parts (W : Vec Ideal (Mat 31 512) .f32) (B : Vec Ideal (Mat 1 512) .f32) (S : (r : Rect Shifts) → r.shape.Idx → Elt Ideal .f32) : ℕ → List (View.Piece (Elt Ideal) (Mat 512 512) .f32)
  | 0 => []
  | n + 1 => ⟨square n, part W B S n⟩ :: parts W B S n

theorem mem_parts (W B S) : ∀ {n k : ℕ}, k < n → (⟨square k, part W B S k⟩ : View.Piece (Elt Ideal) (Mat 512 512) .f32) ∈ parts W B S n
  | n + 1, k, h => by
    rcases Nat.lt_succ_iff_lt_or_eq.mp h with h | rfl
    · exact List.mem_cons_of_mem _ (mem_parts W B S h)
    · exact List.mem_cons_self

theorem of_mem_parts (W B S) {p : View.Piece (Elt Ideal) (Mat 512 512) .f32} : ∀ {n : ℕ}, p ∈ parts W B S n → ∃ k, p = ⟨square k, part W B S k⟩
  | n + 1, h => by
    rcases List.mem_cons.mp h with h | h
    · exact ⟨n, h⟩
    · exact of_mem_parts W B S h

/-- The shifted copies of a padded tile. -/
def shifted (P : Vec Ideal (Mat 544 512) .f32) : Vec Ideal Shifts .f32 := fun y =>
  P (ix2 (⟨(2 + (y 0).val + (y 1).val) % 544, by omega⟩ : Fin 544) (⟨(y 2).val, (y 2).isLt⟩ : Fin 512))

/-- The convolution of a padded tile. -/
def convTile (W : Vec Ideal (Mat 31 512) .f32) (B : Vec Ideal (Mat 1 512) .f32) (P : Vec Ideal (Mat 544 512) .f32) : Vec Ideal (Mat 512 512) .f32 := fun y =>
  conv (fun j c => W (ix2 (⟨j % 31, by omega⟩ : Fin 31) c)) (fun c => B (ix2 0 c)) (fun j c => P (ix2 (⟨(2 + j + (y 0).val) % 544, by omega⟩ : Fin 544) c))
    (⟨(y 1).val, (y 1).isLt⟩ : Fin 512)

/-- A part holds the convolution where it is stored. -/
theorem part_eq (W B S) (P : Vec Ideal (Mat 544 512) .f32) (k : ℕ) (hS : ∀ n, n < 31 → ∀ x, S (cut k n) x = shifted P ((cut k n).emb x)) (x : (Mat 128 128).Idx) :
    part W B S k x = convTile W B P ((square k).emb x) := by
  obtain ⟨r, l, rfl⟩ : ∃ (r l : Fin 128), x = ix2 r l := ⟨x 0, x 1, by funext a; match a with | ⟨0, _⟩ => rfl | ⟨1, _⟩ => rfl⟩
  rw [part_apply]
  unfold convTile conv
  refine congrArg₂ (fun a b : EReal => a + b) (taps_congr 31 fun j hj => ?_) ?_
  · refine congrArg₂ (fun a b : EReal => a * b) ?_ ((hS j hj _).trans ?_)
    · refine congrArg W ?_
      funext a
      refine Fin.ext ?_
      match a with
      | ⟨0, _⟩ => show j % 31 + 1 * 0 = j % 31; omega
      | ⟨1, _⟩ => rfl
    · refine congrArg P ?_
      funext a
      refine Fin.ext ?_
      match a with
      | ⟨0, _⟩ =>
        show (2 + (j % 8 + 1 * 0) + (128 * (k % 4) + 8 * (j % 31 / 8) + 1 * r.val)) % 544 = (2 + j + (128 * (k % 4) + 1 * r.val)) % 544
        omega
      | ⟨1, _⟩ => rfl
  · refine congrArg B ?_
    funext a
    refine Fin.ext ?_
    match a with
    | ⟨0, _⟩ => rfl
    | ⟨1, _⟩ => rfl

/-- A load after all the parts takes the convolution. -/
theorem read_parts {sig : RefSig} {κ : Kind} {sp : Space} (v : View sig κ sp (Mat 512 512) .f32) (W B S) (P : Vec Ideal (Mat 544 512) .f32)
    (hS : ∀ k n, n < 31 → ∀ x, S (cut k n) x = shifted P ((cut k n).emb x))
    (h : ∀ a, (![0, 0] : Fin 2 → ℕ) a + (Mat 512 512).size a ≤ (Mat 512 512).size a) :
    v.readCov (parts W B S 16) (Rect.unit (s := Mat 512 512) ![0, 0] (Mat 512 512).size h).toLoadRect = convTile W B P := by
  rw [View.readCov_eq_canon']
  funext x
  have h0 : (x 0).val < 512 := (x 0).isLt
  have h1 : (x 1).val < 512 := (x 1).isLt
  have hk : (x 0).val / 128 + 4 * ((x 1).val / 128) < 16 := by omega
  refine (View.canon_apply_of_pieces (convTile W B P) (parts W B S 16) (fun p hp y => ?_) _ ⟨_, mem_parts W B S hk, ?_⟩).trans ?_
  · obtain ⟨k, rfl⟩ := of_mem_parts W B S hp
    exact part_eq W B S P k (hS k) y
  · rw [LoadRect.mem_set]
    intro a
    match a with
    | ⟨0, _⟩ =>
      refine ⟨(x 0).val % 128, show (x 0).val % 128 < 128 by omega, ?_⟩
      show 0 + 1 * (x 0).val = 128 * (((x 0).val / 128 + 4 * ((x 1).val / 128)) % 4) + 1 * ((x 0).val % 128)
      omega
    | ⟨1, _⟩ =>
      refine ⟨(x 1).val % 128, show (x 1).val % 128 < 128 by omega, ?_⟩
      show 0 + 1 * (x 1).val = 128 * (((x 0).val / 128 + 4 * ((x 1).val / 128)) / 4 % 4) + 1 * ((x 1).val % 128)
      omega
  · refine congrArg (convTile W B P) ?_
    funext a
    refine Fin.ext ?_
    match a with
    | ⟨0, _⟩ => show 0 + 1 * (x 0).val = (x 0).val; omega
    | ⟨1, _⟩ => show 0 + 1 * (x 1).val = (x 1).val; omega

/-! ## The shifted copies -/

/-- One copy, and the last, which is shorter. -/
abbrev Long : Shape := ⟨3, ![1, 536, 512]⟩
abbrev Short : Shape := ⟨3, ![1, 528, 512]⟩

theorem cast_long : (Mat 536 512).ShapeCasts Long := by decide
theorem cast_short : (Mat 528 512).ShapeCasts Short := by decide

/-- Where the copies are taken from. -/
abbrev from_ (s : ℕ) : Rect (Mat 544 512) := Rect.unit (s := Mat 544 512) ![2 + s % 7, 0] (Mat 536 512).size (by
  intro a
  match a with
  | ⟨0, _⟩ => show 2 + s % 7 + 536 ≤ 544; omega
  | ⟨1, _⟩ => show 0 + 512 ≤ 512; omega)
abbrev from7 : Rect (Mat 544 512) := Rect.unit (s := Mat 544 512) ![9, 0] (Mat 528 512).size (by decide)

/-- Where they are stored. -/
abbrev to_ (s : ℕ) : Rect Shifts := Rect.unit (s := Shifts) ![s % 7, 0, 0] Long.size (by
  intro a
  match a with
  | ⟨0, _⟩ => show s % 7 + 1 ≤ 8; omega
  | ⟨1, _⟩ => show 0 + 536 ≤ 536; omega
  | ⟨2, _⟩ => show 0 + 512 ≤ 512; omega)
abbrev to7 : Rect Shifts := Rect.unit (s := Shifts) ![7, 0, 0] Short.size (by decide)

/-- The copies. -/
def copy (P : Vec Ideal (Mat 544 512) .f32) (s : ℕ) : View.Piece (Elt Ideal) Shifts .f32 := ⟨to_ s, shapeCast Long (View.ld P (from_ s)) cast_long⟩
def copy7 (P : Vec Ideal (Mat 544 512) .f32) : View.Piece (Elt Ideal) Shifts .f32 := ⟨to7, shapeCast Short (View.ld P from7) cast_short⟩

/-- All of them, last first. -/
def copies (P : Vec Ideal (Mat 544 512) .f32) : List (View.Piece (Elt Ideal) Shifts .f32) :=
  [copy7 P, copy P 6, copy P 5, copy P 4, copy P 3, copy P 2, copy P 1, copy P 0]

/-- All of them, from what the loads of the padded tile take. -/
def copiesOf (T : (r : Rect (Mat 544 512)) → r.shape.Idx → Elt Ideal .f32) : List (View.Piece (Elt Ideal) Shifts .f32) :=
  [⟨to7, shapeCast Short (T from7 : FVec Ideal (Mat 528 512) .f32) cast_short⟩, ⟨to_ 6, shapeCast Long (T (from_ 6) : FVec Ideal (Mat 536 512) .f32) cast_long⟩,
    ⟨to_ 5, shapeCast Long (T (from_ 5) : FVec Ideal (Mat 536 512) .f32) cast_long⟩, ⟨to_ 4, shapeCast Long (T (from_ 4) : FVec Ideal (Mat 536 512) .f32) cast_long⟩,
    ⟨to_ 3, shapeCast Long (T (from_ 3) : FVec Ideal (Mat 536 512) .f32) cast_long⟩, ⟨to_ 2, shapeCast Long (T (from_ 2) : FVec Ideal (Mat 536 512) .f32) cast_long⟩,
    ⟨to_ 1, shapeCast Long (T (from_ 1) : FVec Ideal (Mat 536 512) .f32) cast_long⟩, ⟨to_ 0, shapeCast Long (T (from_ 0) : FVec Ideal (Mat 536 512) .f32) cast_long⟩]

theorem copiesOf_ld (P : Vec Ideal (Mat 544 512) .f32) : copiesOf (View.ld P) = copies P := rfl

theorem long_apply (X : Vec Ideal (Mat 536 512) .f32) (r : Fin 536) (l : Fin 512) : shapeCast Long X cast_long (ix3 0 r l) = X (ix2 r l) := by
  pointwise

theorem short_apply (X : Vec Ideal (Mat 528 512) .f32) (r : Fin 528) (l : Fin 512) : shapeCast Short X cast_short (ix3 0 r l) = X (ix2 r l) := by
  pointwise

theorem copy_eq (P) (s : ℕ) (x : Long.Idx) : (copy P s).2 x = shifted P ((to_ s).emb x) := by
  obtain ⟨r, l, rfl⟩ : ∃ (r : Fin 536) (l : Fin 512), x = ix3 0 r l := ⟨x 1, x 2, by
    funext a
    match a with
    | ⟨0, _⟩ => exact Subsingleton.elim (α := Fin 1) _ _
    | ⟨1, _⟩ => rfl
    | ⟨2, _⟩ => rfl⟩
  refine (long_apply (View.ld P (from_ s)) r l).trans (congrArg P ?_)
  have hr : r.val < 536 := r.isLt
  funext a
  refine Fin.ext ?_
  match a with
  | ⟨0, _⟩ =>
    show 2 + s % 7 + 1 * r.val = (2 + (s % 7 + 1 * 0) + (0 + 1 * r.val)) % 544
    omega
  | ⟨1, _⟩ => rfl

theorem copy7_eq (P) (x : Short.Idx) : (copy7 P).2 x = shifted P (to7.emb x) := by
  obtain ⟨r, l, rfl⟩ : ∃ (r : Fin 528) (l : Fin 512), x = ix3 0 r l := ⟨x 1, x 2, by
    funext a
    match a with
    | ⟨0, _⟩ => exact Subsingleton.elim (α := Fin 1) _ _
    | ⟨1, _⟩ => rfl
    | ⟨2, _⟩ => rfl⟩
  refine (short_apply (View.ld P from7) r l).trans (congrArg P ?_)
  have hr : r.val < 528 := r.isLt
  funext a
  refine Fin.ext ?_
  match a with
  | ⟨0, _⟩ =>
    show 9 + 1 * r.val = (2 + (7 + 1 * 0) + (0 + 1 * r.val)) % 544
    omega
  | ⟨1, _⟩ => rfl

theorem copies_eq (P) (p : View.Piece (Elt Ideal) Shifts .f32) (hp : p ∈ copies P) (y : p.1.shape.Idx) : p.2 y = shifted P (p.1.emb y) := by
  unfold copies at hp
  simp only [List.mem_cons, List.not_mem_nil, or_false] at hp
  rcases hp with rfl | rfl | rfl | rfl | rfl | rfl | rfl | rfl
  · exact copy7_eq P y
  · exact copy_eq P 6 y
  · exact copy_eq P 5 y
  · exact copy_eq P 4 y
  · exact copy_eq P 3 y
  · exact copy_eq P 2 y
  · exact copy_eq P 1 y
  · exact copy_eq P 0 y

theorem mem_copies (P) (s : ℕ) (hs : s < 7) : copy P s ∈ copies P := by
  unfold copies
  obtain rfl | rfl | rfl | rfl | rfl | rfl | rfl : s = 0 ∨ s = 1 ∨ s = 2 ∨ s = 3 ∨ s = 4 ∨ s = 5 ∨ s = 6 := by omega
  all_goals simp only [List.mem_cons, true_or, or_true]

/-- A tap's load after all the copies. -/
theorem read_copies {sig : RefSig} {κ : Kind} {sp : Space} (v : View sig κ sp Shifts .f32) (P) (k n : ℕ) (hn : n < 31) (x : Cut.Idx) :
    v.readCov (copies P) (cut k n).toLoadRect x = shifted P ((cut k n).emb x) := by
  rw [View.readCov_eq_canon']
  have h0 : (x 0).val < 1 := (x 0).isLt
  have h1 : (x 1).val < 128 := (x 1).isLt
  have h2 : (x 2).val < 128 := (x 2).isLt
  have hm : n % 31 = n := Nat.mod_eq_of_lt hn
  by_cases h7 : n % 8 = 7
  · refine View.canon_apply_of_pieces (shifted P) (copies P) (copies_eq P) _ ⟨copy7 P, by unfold copies; exact List.mem_cons_self, ?_⟩
    rw [LoadRect.mem_set]
    intro a
    match a with
    | ⟨0, _⟩ =>
      refine ⟨0, Nat.one_pos, ?_⟩
      show n % 8 + 1 * (x 0).val = 7 + 1 * 0
      omega
    | ⟨1, _⟩ =>
      refine ⟨128 * (k % 4) + 8 * (n % 31 / 8) + (x 1).val, show 128 * (k % 4) + 8 * (n % 31 / 8) + (x 1).val < 528 by omega, ?_⟩
      show 128 * (k % 4) + 8 * (n % 31 / 8) + 1 * (x 1).val = 0 + 1 * (128 * (k % 4) + 8 * (n % 31 / 8) + (x 1).val)
      omega
    | ⟨2, _⟩ =>
      refine ⟨128 * (k / 4 % 4) + (x 2).val, show 128 * (k / 4 % 4) + (x 2).val < 512 by omega, ?_⟩
      show 128 * (k / 4 % 4) + 1 * (x 2).val = 0 + 1 * (128 * (k / 4 % 4) + (x 2).val)
      omega
  · refine View.canon_apply_of_pieces (shifted P) (copies P) (copies_eq P) _ ⟨copy P (n % 8), mem_copies P _ (by omega), ?_⟩
    rw [LoadRect.mem_set]
    intro a
    match a with
    | ⟨0, _⟩ =>
      refine ⟨0, Nat.one_pos, ?_⟩
      show n % 8 + 1 * (x 0).val = n % 8 % 7 + 1 * 0
      omega
    | ⟨1, _⟩ =>
      refine ⟨128 * (k % 4) + 8 * (n % 31 / 8) + (x 1).val, show 128 * (k % 4) + 8 * (n % 31 / 8) + (x 1).val < 536 by omega, ?_⟩
      show 128 * (k % 4) + 8 * (n % 31 / 8) + 1 * (x 1).val = 0 + 1 * (128 * (k % 4) + 8 * (n % 31 / 8) + (x 1).val)
      omega
    | ⟨2, _⟩ =>
      refine ⟨128 * (k / 4 % 4) + (x 2).val, show 128 * (k / 4 % 4) + (x 2).val < 512 by omega, ?_⟩
      show 128 * (k / 4 % 4) + 1 * (x 2).val = 0 + 1 * (128 * (k / 4 % 4) + (x 2).val)
      omega

/-! ## The layer norm of a tile -/

theorem sums_tile : (Mat 512 512).Reduces [1] Rows := by decide
theorem spread_tile : (Mat 512 1).Broadcasts (Mat 512 512) := by decide
theorem cast_gains : (Mat 1 512).ShapeCasts (Mat 1 512) := by decide
theorem spread_gains : (Mat 1 512).Broadcasts (Mat 512 512) := by decide

/-- The means of the rows, in a column. -/
def means (y : FVec Ideal (Mat 512 512) .f32) : FVec Ideal (Mat 512 1) .f32 :=
  divf (shapeCast (Mat 512 1) (multiReduction .add [1] Rows y 0x00000000#32 sums_tile (.inl rfl) rfl) cast_rows)
    (broadcast (Mat 512 1) (Scalar.ofBits (F := Ideal) .f32 0x44000000#32))

/-- The rows about their means. -/
def about (y : FVec Ideal (Mat 512 512) .f32) : FVec Ideal (Mat 512 512) .f32 := subf y (broadcastTo (Mat 512 512) (means y) spread_tile)

/-- The rows about their means, scaled, with gains and biases. -/
def scaled (y : FVec Ideal (Mat 512 512) .f32) (g b : FVec Ideal (Mat 1 512) .f32) : FVec Ideal (Mat 512 512) .f32 :=
  addf (mulf (mulf (about y) (broadcastTo (Mat 512 512) (rsqrt (addf (means (mulf (about y) (about y)))
    (broadcast (Mat 512 1) (Scalar.ofBits (F := Ideal) .f32 0x3727C5AC#32)))) spread_tile))
      (broadcastTo (Mat 512 512) (shapeCast (Mat 1 512) g cast_gains) spread_gains))
    (broadcastTo (Mat 512 512) (shapeCast (Mat 1 512) b cast_gains) spread_gains)

/-- Those times their logistic. -/
def layers (y : FVec Ideal (Mat 512 512) .f32) (g b : FVec Ideal (Mat 1 512) .f32) : FVec Ideal (Mat 512 512) .bf16 :=
  truncf .bf16 (mulf (scaled y g b) (logistic (scaled y g b))) fewer_bits

theorem means_apply (y) (r : Fin 512) : means y (ix2 r 0) = Ideal.div (∑ k : Fin 512, y (ix2 r k)) (Ideal.ofBits .f32 0x44000000#32) := by
  unfold means
  pointwise

theorem column_apply (m : FVec Ideal (Mat 512 1) .f32) (r c : Fin 512) : broadcastTo (Mat 512 512) m spread_tile (ix2 r c) = m (ix2 r 0) := by
  pointwise

theorem gains_apply (b : FVec Ideal (Mat 1 512) .f32) (r j : Fin 512) :
    broadcastTo (Mat 512 512) (shapeCast (Mat 1 512) b cast_gains) spread_gains (ix2 r j) = b (ix2 0 j) := by
  rw [shapeCast_self]
  pointwise

theorem about_apply (y) (r c : Fin 512) : about y (ix2 r c) = y (ix2 r c) - Ideal.div (∑ k : Fin 512, y (ix2 r k)) (Ideal.ofBits .f32 0x44000000#32) := by
  unfold about
  rw [subf_apply, column_apply, means_apply]
  rfl

theorem deviation_apply (m : FVec Ideal (Mat 512 1) .f32) (r c : Fin 512) :
    broadcastTo (Mat 512 512) (rsqrt (addf m (broadcast (Mat 512 1) (Scalar.ofBits (F := Ideal) .f32 0x3727C5AC#32)))) spread_tile (ix2 r c)
      = Ideal.rsqrt (m (ix2 r 0) + Ideal.ofBits .f32 0x3727C5AC#32) := (column_apply _ r c).trans rfl

theorem scaled_apply (y g b) (r c : Fin 512) : scaled y g b (ix2 r c)
    = about y (ix2 r c) * Ideal.rsqrt (means (mulf (about y) (about y)) (ix2 r 0) + Ideal.ofBits .f32 0x3727C5AC#32) * g (ix2 0 c) + b (ix2 0 c) := by
  unfold scaled
  rw [addf_apply, mulf_apply, mulf_apply, gains_apply, gains_apply, deviation_apply]
  rfl

theorem squares_apply (y) (r : Fin 512) : means (mulf (about y) (about y)) (ix2 r 0)
    = Ideal.div (∑ k : Fin 512, about y (ix2 r k) * about y (ix2 r k)) (Ideal.ofBits .f32 0x44000000#32) := means_apply _ r

theorem layers_apply (y g b) (r c : Fin 512) : layers y g b (ix2 r c) = layer (fun k => y (ix2 r k)) (fun k => g (ix2 0 k)) (fun k => b (ix2 0 k)) c := by
  have e := scaled_apply y g b r c
  rw [squares_apply] at e
  simp only [about_apply] at e
  have e' : layers y g b (ix2 r c) = scaled y g b (ix2 r c) * Ideal.logistic (scaled y g b (ix2 r c)) := by
    unfold layers
    generalize scaled y g b = z
    rfl
  rw [e', e]
  rfl

end Cert.MixIn

end
-- ==== Proof.MixPack.lean ====
module

public import proofs.«01_k».proof.Proof.MixIn
public import proofs.«01_k».proof.Proof.Mix

@[expose] public section

set_option maxRecDepth 16384

noncomputable section

namespace Cert.MixIn

open Idealize.ShloMosaic Idealize.ShloMosaic.TcCoe Finset
open Cert.Ffn
open Cert.Mix (Packed Plane Few Strip spread place)

/-! ## The S5 input, packed through the scratch buffer -/

theorem slice_strip (g : ℕ) : (Mat 512 1536).Slices ![0, 1024 + 128 * (g % 4)] (Mat 512 128) :=
  ⟨rfl, fun a => match a with
    | ⟨0, _⟩ => by show 0 + 512 ≤ 512; omega
    | ⟨1, _⟩ => by show 1024 + 128 * (g % 4) + 128 ≤ 1536; omega⟩

theorem cast_strip : (Mat 512 128).ShapeCasts Strip := by decide
theorem drop_one : Few.ShapeCasts (Mat 32 128) := by decide
theorem add_one : (Mat 32 128).ShapeCasts Few := by decide

/-- Where a block of lanes is stored. -/
abbrev lanes (g : ℕ) : Rect Plane := Rect.unit (s := Plane) ![g % 4, 0, 0] Strip.size (by
  intro a
  match a with
  | ⟨0, _⟩ => show g % 4 + 1 ≤ 4; omega
  | ⟨1, _⟩ => show 0 + 512 ≤ 512; omega
  | ⟨2, _⟩ => show 0 + 128 ≤ 128; omega)

/-- A block of lanes of the projection. -/
def plane (p : FVec Ideal (Mat 512 1536) .f32) (g : ℕ) : View.Piece (Elt Ideal) Plane .f32 :=
  ⟨lanes g, shapeCast Strip (extractStridedSlice (Mat 512 128) ![0, 1024 + 128 * (g % 4)] p (slice_strip g)) cast_strip⟩

/-- The first blocks, last first. -/
def planes (p : FVec Ideal (Mat 512 1536) .f32) : ℕ → List (View.Piece (Elt Ideal) Plane .f32)
  | 0 => []
  | n + 1 => plane p n :: planes p n

theorem mem_planes (p) : ∀ {n k : ℕ}, k < n → plane p k ∈ planes p n
  | n + 1, k, h => by
    rcases Nat.lt_succ_iff_lt_or_eq.mp h with h | rfl
    · exact List.mem_cons_of_mem _ (mem_planes p h)
    · exact List.mem_cons_self

theorem of_mem_planes (p) {q : View.Piece (Elt Ideal) Plane .f32} : ∀ {n : ℕ}, q ∈ planes p n → ∃ k, q = plane p k
  | n + 1, h => by
    rcases List.mem_cons.mp h with h | h
    · exact ⟨n, h⟩
    · exact of_mem_planes p h

/-- What the scratch buffer holds. -/
def held (p : FVec Ideal (Mat 512 1536) .f32) : Vec Ideal Plane .f32 := fun y =>
  p (ix2 (⟨(y 1).val, (y 1).isLt⟩ : Fin 512) (⟨1024 + 128 * (y 0).val + (y 2).val, by
    have : (y 0).val < 4 := (y 0).isLt
    have : (y 2).val < 128 := (y 2).isLt
    omega⟩ : Fin 1536))

theorem strip_apply (X : FVec Ideal (Mat 512 128) .f32) (r : Fin 512) (l : Fin 128) : shapeCast Strip X cast_strip (ix3 0 r l) = X (ix2 r l) := by
  pointwise

theorem plane_eq (p) (g : ℕ) (x : Strip.Idx) : (plane p g).2 x = held p ((lanes g).emb x) := by
  obtain ⟨r, l, rfl⟩ : ∃ (r : Fin 512) (l : Fin 128), x = ix3 0 r l := ⟨x 1, x 2, by
    funext a
    match a with
    | ⟨0, _⟩ => exact Subsingleton.elim (α := Fin 1) _ _
    | ⟨1, _⟩ => rfl
    | ⟨2, _⟩ => rfl⟩
  refine (strip_apply _ r l).trans (extractStridedSlice_apply _ p (slice_strip g) _ _ fun a => ?_)
  match a with
  | ⟨0, _⟩ => show 0 + 1 * r.val = 0 + r.val; omega
  | ⟨1, _⟩ => show 1024 + 128 * (g % 4 + 1 * 0) + (0 + 1 * l.val) = 1024 + 128 * (g % 4) + l.val; omega

/-- A load after enough of the stores. -/
theorem read_planes {sig : RefSig} {κ : Kind} {sp : Space} (v : View sig κ sp Plane .f32) (p) (n k : ℕ) (hn : k / 16 % 4 < n) (x : Few.Idx) :
    v.readCov (planes p n) (spread k).toLoadRect x = held p ((spread k).emb x) := by
  rw [View.readCov_eq_canon']
  have h0 : (x 0).val < 1 := (x 0).isLt
  have h1 : (x 1).val < 32 := (x 1).isLt
  have h2 : (x 2).val < 128 := (x 2).isLt
  refine View.canon_apply_of_pieces (held p) (planes p n) (fun q hq y => ?_) _ ⟨plane p (k / 16 % 4), mem_planes p hn, ?_⟩
  · obtain ⟨g, rfl⟩ := of_mem_planes p hq
    exact plane_eq p g y
  · rw [LoadRect.mem_set]
    intro a
    match a with
    | ⟨0, _⟩ =>
      refine ⟨0, Nat.one_pos, ?_⟩
      show k / 16 % 4 + 1 * (x 0).val = k / 16 % 4 % 4 + 1 * 0
      omega
    | ⟨1, _⟩ =>
      refine ⟨k % 16 + 16 * (x 1).val, show k % 16 + 16 * (x 1).val < 512 by omega, ?_⟩
      show k % 16 + 16 * (x 1).val = 0 + 1 * (k % 16 + 16 * (x 1).val)
      omega
    | ⟨2, _⟩ =>
      refine ⟨(x 2).val, h2, ?_⟩
      show 0 + 1 * (x 2).val = 0 + 1 * (x 2).val
      omega

/-- One store of the packed array. -/
def pack {sig : RefSig} {κ : Kind} {sp : Space} (v : View sig κ sp Plane .f32) (p : FVec Ideal (Mat 512 1536) .f32) (k : ℕ) : View.Piece (Elt Ideal) Packed .bf16 :=
  ⟨place k, shapeCast Few (truncf .bf16 (shapeCast (Mat 32 128) (v.readCov (planes p (k / 16 % 4 + 1)) (spread k).toLoadRect : FVec Ideal Few .f32) drop_one : FVec Ideal (Mat 32 128) .f32) fewer_bits) add_one⟩

/-- The first stores, last first. -/
def packs {sig : RefSig} {κ : Kind} {sp : Space} (v : View sig κ sp Plane .f32) (p : FVec Ideal (Mat 512 1536) .f32) : ℕ → List (View.Piece (Elt Ideal) Packed .bf16)
  | 0 => []
  | n + 1 => pack v p n :: packs v p n

section
variable {sig : RefSig} {κ : Kind} {sp : Space} (v : View sig κ sp Plane .f32)

theorem mem_packs (p) : ∀ {n k : ℕ}, k < n → pack v p k ∈ packs v p n
  | n + 1, k, h => by
    rcases Nat.lt_succ_iff_lt_or_eq.mp h with h | rfl
    · exact List.mem_cons_of_mem _ (mem_packs p h)
    · exact List.mem_cons_self

theorem of_mem_packs (p) {q : View.Piece (Elt Ideal) Packed .bf16} : ∀ {n : ℕ}, q ∈ packs v p n → ∃ k, q = pack v p k
  | n + 1, h => by
    rcases List.mem_cons.mp h with h | h
    · exact ⟨n, h⟩
    · exact of_mem_packs p h

/-- The packed projection of a tile. -/
def packed (p : FVec Ideal (Mat 512 1536) .f32) : Vec Ideal Packed .bf16 := fun y =>
  p (ix2 (⟨16 * (y 1).val + (y 2).val / 128, by
      have : (y 1).val < 32 := (y 1).isLt
      have : (y 2).val < 2048 := (y 2).isLt
      omega⟩ : Fin 512)
    (⟨1024 + 128 * (y 0).val + (y 2).val % 128, by
      have : (y 0).val < 4 := (y 0).isLt
      omega⟩ : Fin 1536))

theorem few_apply (X : FVec Ideal Few .f32) (x : Few.Idx) :
    (shapeCast Few (truncf .bf16 (shapeCast (Mat 32 128) X drop_one) fewer_bits) add_one : FVec Ideal Few .bf16) x = X x := by
  have e : (shapeCast Few (truncf .bf16 (shapeCast (Mat 32 128) X drop_one) fewer_bits) add_one : FVec Ideal Few .bf16)
      = shapeCast Few (shapeCast (Mat 32 128) X drop_one) add_one := rfl
  rw [e, shapeCast_shapeCast]

theorem pack_eq (p) (k : ℕ) (x : Few.Idx) : (pack v p k).2 x = packed p ((place k).emb x) := by
  unfold pack
  generalize hX : (v.readCov (planes p (k / 16 % 4 + 1)) (spread k).toLoadRect : FVec Ideal Few .f32) = X
  refine (few_apply X x).trans ?_
  rw [← hX, read_planes v p _ k (Nat.lt_succ_self _) x]
  refine congrArg p ?_
  have h0 : (x 0).val < 1 := (x 0).isLt
  have h1 : (x 1).val < 32 := (x 1).isLt
  have h2 : (x 2).val < 128 := (x 2).isLt
  funext a
  refine Fin.ext ?_
  match a with
  | ⟨0, _⟩ =>
    show k % 16 + 16 * (x 1).val = 16 * (0 + 1 * (x 1).val) + (128 * (k % 16) + 1 * (x 2).val) / 128
    omega
  | ⟨1, _⟩ =>
    show 1024 + 128 * (k / 16 % 4 + 1 * (x 0).val) + (0 + 1 * (x 2).val) = 1024 + 128 * (k / 16 % 4 + 1 * (x 0).val) + (128 * (k % 16) + 1 * (x 2).val) % 128
    omega

/-- What the stores leave. -/
theorem canon_packs (p) : View.canon (packs v p 64) = packed p := by
  funext y
  have h0 : (y 0).val < 4 := (y 0).isLt
  have h1 : (y 1).val < 32 := (y 1).isLt
  have h2 : (y 2).val < 2048 := (y 2).isLt
  have hk : 16 * (y 0).val + (y 2).val / 128 < 64 := by omega
  refine View.canon_apply_of_pieces (packed p) (packs v p 64) (fun q hq z => ?_) _ ⟨_, mem_packs v p hk, ?_⟩
  · obtain ⟨k, rfl⟩ := of_mem_packs v p hq
    exact pack_eq v p k z
  · rw [LoadRect.mem_set]
    intro a
    match a with
    | ⟨0, _⟩ =>
      refine ⟨0, Nat.one_pos, ?_⟩
      show (y 0).val = (16 * (y 0).val + (y 2).val / 128) / 16 % 4 + 1 * 0
      omega
    | ⟨1, _⟩ =>
      refine ⟨(y 1).val, h1, ?_⟩
      show (y 1).val = 0 + 1 * (y 1).val
      omega
    | ⟨2, _⟩ =>
      refine ⟨(y 2).val % 128, show (y 2).val % 128 < 128 by omega, ?_⟩
      show (y 2).val = 128 * ((16 * (y 0).val + (y 2).val / 128) % 16) + 1 * ((y 2).val % 128)
      omega

end

end Cert.MixIn

end
-- ==== Proof.MixInPieces.lean ====
module

public import proofs.«01_k».proof.Proof.Gen.Kernel6Ideal.Frame
public import proofs.«01_k».proof.Proof.MixIn
public import proofs.«01_k».proof.Proof.MixPack
public import Idealize.ShloMosaic.Lib.Pipeline.ValueKit
public import Idealize.ShloMosaic.Lib.Pipeline.ReadBack

@[expose] public section

set_option maxRecDepth 16384

noncomputable section

namespace Cert.Kernel6Ideal.Gen

open Idealize.ShloMosaic Idealize.ShloMosaic.TcCoe Idealize.SL.Sem
open Idealize.SL Idealize.SL.RA Idealize.SL.BI

/-- The rows a point writes below the first thirty-two of its padded tile. -/
def below (v : Vec Ideal S512x512 .f32) : View.Piece (Elt Ideal) S544x512 .f32 := ⟨Rect.unit (s := S544x512) ![32, 0] ![512, 512] inb_S544x512_S512x512_32_0, v⟩

/-- The rows a point writes as the first thirty-two of its padded tile. -/
def above (v : Vec Ideal S32x512 .f32) : View.Piece (Elt Ideal) S544x512 .f32 := ⟨Rect.unit (s := S544x512) ![0, 0] ![32, 512] inb_S544x512_S32x512_0_0, v⟩

/-- The first packed rows are a slice of the projection. -/
theorem pay6_eq (x g w) : k0_pay6 (F := Ideal) x g w
    = shapeCast Cert.Mix.Strip (extractStridedSlice (Cert.Ffn.Mat 512 128) ![0, 1024 + 128 * (0 % 4)] (k0_pay3 (F := Ideal) x g w) (Cert.MixIn.slice_strip 0)) Cert.MixIn.cast_strip := rfl

set_option maxHeartbeats 400000 in
/-- The convolution's rows at a first point of a sequence. -/
theorem conv_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S4x32x2048 .bf16) (harg11 : arg11.IsWhole) (arg12 : Memref sig .tc .vmem S544x512 .f32) (harg12 : arg12.IsWhole) (arg13 : Memref sig .tc .vmem S8x536x512 .f32) (harg13 : arg13.IsWhole) (arg14 : Memref sig .tc .vmem S512x512 .f32) (harg14 : arg14.IsWhole) (arg15 : Memref sig .tc .vmem S4x512x128 .f32) (harg15 : arg15.IsWhole) (hc0 : cond0_0 i)
    (x0 : Vec Ideal S512x1024 .f32) (x1 : Vec Ideal S1x1024 .f32) (x2 : Vec Ideal S1024x1536 .bf16) (x3 : Vec Ideal S31x512 .f32) (x4 : Vec Ideal S1x512 .f32) (x5 : Vec Ideal S1x512 .f32) (x6 : Vec Ideal S1x512 .f32) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1
    = [⟨Rect.unit (s := S512x512) ![0, 0] ![512, 512] inb_S512x512_S512x512_0_0, Cert.MixIn.layers (arg14.view.readCov (Cert.MixIn.parts x3 x4 (fun r => arg13.view.readCov (Cert.MixIn.copiesOf (fun r => arg12.view.readCov [below (k0_pay5 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0))), above (k0_pay2 (F := Ideal))] r.toLoadRect)) r.toLoadRect) 16) (Rect.unit (s := S512x512) ![0, 0] ![512, 512] inb_S512x512_S512x512_0_0).toLoadRect) (View.ld x5 (Rect.unit (s := S1x512) ![0, 0] ![1, 512] inb_S1x512_S1x512_0_0)) (View.ld x6 (Rect.unit (s := S1x512) ![0, 0] ![1, 512] inb_S1x512_S1x512_0_0))⟩] := by
  frame_open
  simp only [View.readAt_eq_ld, Memref.IsWhole.read_unread]
  exact rfl

/-- The state's rows at a first point of a sequence. -/
theorem state_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S4x32x2048 .bf16) (harg11 : arg11.IsWhole) (arg12 : Memref sig .tc .vmem S544x512 .f32) (harg12 : arg12.IsWhole) (arg13 : Memref sig .tc .vmem S8x536x512 .f32) (harg13 : arg13.IsWhole) (arg14 : Memref sig .tc .vmem S512x512 .f32) (harg14 : arg14.IsWhole) (arg15 : Memref sig .tc .vmem S4x512x128 .f32) (harg15 : arg15.IsWhole) (hc0 : cond0_0 i)
    (x0 : Vec Ideal S512x1024 .f32) (x1 : Vec Ideal S1x1024 .f32) (x2 : Vec Ideal S1024x1536 .bf16) (x3 : Vec Ideal S31x512 .f32) (x4 : Vec Ideal S1x512 .f32) (x5 : Vec Ideal S1x512 .f32) (x6 : Vec Ideal S1x512 .f32) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1
    = [⟨Rect.unit (s := S512x512) ![0, 0] ![512, 512] inb_S512x512_S512x512_0_0, k0_pay4 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0))⟩] := by
  frame_open
  simp only [View.readAt_eq_ld, Memref.IsWhole.read_unread]

/-- The packed rows at a first point of a sequence. -/
theorem packs_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S4x32x2048 .bf16) (harg11 : arg11.IsWhole) (arg12 : Memref sig .tc .vmem S544x512 .f32) (harg12 : arg12.IsWhole) (arg13 : Memref sig .tc .vmem S8x536x512 .f32) (harg13 : arg13.IsWhole) (arg14 : Memref sig .tc .vmem S512x512 .f32) (harg14 : arg14.IsWhole) (arg15 : Memref sig .tc .vmem S4x512x128 .f32) (harg15 : arg15.IsWhole) (hc0 : cond0_0 i)
    (x0 : Vec Ideal S512x1024 .f32) (x1 : Vec Ideal S1x1024 .f32) (x2 : Vec Ideal S1024x1536 .bf16) (x3 : Vec Ideal S31x512 .f32) (x4 : Vec Ideal S1x512 .f32) (x5 : Vec Ideal S1x512 .f32) (x6 : Vec Ideal S1x512 .f32) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1
    = Cert.MixIn.packs arg15.view (k0_pay3 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0))) 64 := by
  frame_open
  simp only [View.readAt_eq_ld, Memref.IsWhole.read_unread]
  simp only [pay6_eq]
  generalize k0_pay3 (F := Ideal) _ _ _ = p
  exact rfl

/-- The padded tile a first point of a sequence leaves. -/
theorem held_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S4x32x2048 .bf16) (harg11 : arg11.IsWhole) (arg12 : Memref sig .tc .vmem S544x512 .f32) (harg12 : arg12.IsWhole) (arg13 : Memref sig .tc .vmem S8x536x512 .f32) (harg13 : arg13.IsWhole) (arg14 : Memref sig .tc .vmem S512x512 .f32) (harg14 : arg14.IsWhole) (arg15 : Memref sig .tc .vmem S4x512x128 .f32) (harg15 : arg15.IsWhole) (hc0 : cond0_0 i)
    (x0 : Vec Ideal S512x1024 .f32) (x1 : Vec Ideal S1x1024 .f32) (x2 : Vec Ideal S1024x1536 .bf16) (x3 : Vec Ideal S31x512 .f32) (x4 : Vec Ideal S1x512 .f32) (x5 : Vec Ideal S1x512 .f32) (x6 : Vec Ideal S1x512 .f32) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1
    = (above (k0_pay90 (F := Ideal) (arg12.view.readCov [below (k0_pay5 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0))), above (k0_pay2 (F := Ideal))] (Rect.unit (s := S544x512) ![512, 0] ![32, 512] inb_S544x512_S32x512_512_0).toLoadRect))) :: [below (k0_pay5 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0))), above (k0_pay2 (F := Ideal))] := by
  frame_open
  simp only [View.readAt_eq_ld, Memref.IsWhole.read_unread]
  exact rfl

set_option maxHeartbeats 400000 in
/-- The convolution's rows at a later point of a sequence. -/
theorem conv_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S4x32x2048 .bf16) (harg11 : arg11.IsWhole) (arg12 : Memref sig .tc .vmem S544x512 .f32) (harg12 : arg12.IsWhole) (arg13 : Memref sig .tc .vmem S8x536x512 .f32) (harg13 : arg13.IsWhole) (arg14 : Memref sig .tc .vmem S512x512 .f32) (harg14 : arg14.IsWhole) (arg15 : Memref sig .tc .vmem S4x512x128 .f32) (harg15 : arg15.IsWhole) (hc0 : ¬cond0_0 i)
    (x0 : Vec Ideal S512x1024 .f32) (x1 : Vec Ideal S1x1024 .f32) (x2 : Vec Ideal S1024x1536 .bf16) (x3 : Vec Ideal S31x512 .f32) (x4 : Vec Ideal S1x512 .f32) (x5 : Vec Ideal S1x512 .f32) (x6 : Vec Ideal S1x512 .f32) (xs0 : Vec Ideal S544x512 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0).1
    = [⟨Rect.unit (s := S512x512) ![0, 0] ![512, 512] inb_S512x512_S512x512_0_0, Cert.MixIn.layers (arg14.view.readCov (Cert.MixIn.parts x3 x4 (fun r => arg13.view.readCov (Cert.MixIn.copiesOf (View.ld (arg12.view.read (Elt Ideal) (arg12.view.writes (Elt Ideal) (harg12.unread xs0) [below (k0_pay5 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0)))])))) r.toLoadRect) 16) (Rect.unit (s := S512x512) ![0, 0] ![512, 512] inb_S512x512_S512x512_0_0).toLoadRect) (View.ld x5 (Rect.unit (s := S1x512) ![0, 0] ![1, 512] inb_S1x512_S1x512_0_0)) (View.ld x6 (Rect.unit (s := S1x512) ![0, 0] ![1, 512] inb_S1x512_S1x512_0_0))⟩] := by
  frame_open
  simp only [View.readAt_eq_ld, Memref.IsWhole.read_unread]
  exact rfl

/-- The state's rows at a later point of a sequence. -/
theorem state_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S4x32x2048 .bf16) (harg11 : arg11.IsWhole) (arg12 : Memref sig .tc .vmem S544x512 .f32) (harg12 : arg12.IsWhole) (arg13 : Memref sig .tc .vmem S8x536x512 .f32) (harg13 : arg13.IsWhole) (arg14 : Memref sig .tc .vmem S512x512 .f32) (harg14 : arg14.IsWhole) (arg15 : Memref sig .tc .vmem S4x512x128 .f32) (harg15 : arg15.IsWhole) (hc0 : ¬cond0_0 i)
    (x0 : Vec Ideal S512x1024 .f32) (x1 : Vec Ideal S1x1024 .f32) (x2 : Vec Ideal S1024x1536 .bf16) (x3 : Vec Ideal S31x512 .f32) (x4 : Vec Ideal S1x512 .f32) (x5 : Vec Ideal S1x512 .f32) (x6 : Vec Ideal S1x512 .f32) (xs0 : Vec Ideal S544x512 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0).2.1
    = [⟨Rect.unit (s := S512x512) ![0, 0] ![512, 512] inb_S512x512_S512x512_0_0, k0_pay4 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0))⟩] := by
  frame_open
  simp only [View.readAt_eq_ld, Memref.IsWhole.read_unread]

/-- The packed rows at a later point of a sequence. -/
theorem packs_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S4x32x2048 .bf16) (harg11 : arg11.IsWhole) (arg12 : Memref sig .tc .vmem S544x512 .f32) (harg12 : arg12.IsWhole) (arg13 : Memref sig .tc .vmem S8x536x512 .f32) (harg13 : arg13.IsWhole) (arg14 : Memref sig .tc .vmem S512x512 .f32) (harg14 : arg14.IsWhole) (arg15 : Memref sig .tc .vmem S4x512x128 .f32) (harg15 : arg15.IsWhole) (hc0 : ¬cond0_0 i)
    (x0 : Vec Ideal S512x1024 .f32) (x1 : Vec Ideal S1x1024 .f32) (x2 : Vec Ideal S1024x1536 .bf16) (x3 : Vec Ideal S31x512 .f32) (x4 : Vec Ideal S1x512 .f32) (x5 : Vec Ideal S1x512 .f32) (x6 : Vec Ideal S1x512 .f32) (xs0 : Vec Ideal S544x512 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0).2.2.1
    = Cert.MixIn.packs arg15.view (k0_pay3 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0))) 64 := by
  frame_open
  simp only [View.readAt_eq_ld, Memref.IsWhole.read_unread]
  simp only [pay6_eq]
  generalize k0_pay3 (F := Ideal) _ _ _ = p
  exact rfl

/-- The padded tile a later point of a sequence leaves. -/
theorem held_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S4x32x2048 .bf16) (harg11 : arg11.IsWhole) (arg12 : Memref sig .tc .vmem S544x512 .f32) (harg12 : arg12.IsWhole) (arg13 : Memref sig .tc .vmem S8x536x512 .f32) (harg13 : arg13.IsWhole) (arg14 : Memref sig .tc .vmem S512x512 .f32) (harg14 : arg14.IsWhole) (arg15 : Memref sig .tc .vmem S4x512x128 .f32) (harg15 : arg15.IsWhole) (hc0 : ¬cond0_0 i)
    (x0 : Vec Ideal S512x1024 .f32) (x1 : Vec Ideal S1x1024 .f32) (x2 : Vec Ideal S1024x1536 .bf16) (x3 : Vec Ideal S31x512 .f32) (x4 : Vec Ideal S1x512 .f32) (x5 : Vec Ideal S1x512 .f32) (x6 : Vec Ideal S1x512 .f32) (xs0 : Vec Ideal S544x512 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0).2.2.2.1
    = (above (k0_pay90 (F := Ideal) (arg12.view.readCov [below (k0_pay5 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0)))] (Rect.unit (s := S544x512) ![512, 0] ![32, 512] inb_S544x512_S32x512_512_0).toLoadRect))) :: [below (k0_pay5 (F := Ideal) (View.ld x0 (Rect.unit (s := S512x1024) ![0, 0] ![512, 1024] inb_S512x1024_S512x1024_0_0)) (View.ld x1 (Rect.unit (s := S1x1024) ![0, 0] ![1, 1024] inb_S1x1024_S1x1024_0_0)) (View.ld x2 (Rect.unit (s := S1024x1536) ![0, 0] ![1024, 1536] inb_S1024x1536_S1024x1536_0_0)))] := by
  frame_open
  simp only [View.readAt_eq_ld, Memref.IsWhole.read_unread]
  exact rfl

end Cert.Kernel6Ideal.Gen

end
-- ==== Proof.MixInBlocks.lean ====
module

public import proofs.«01_k».proof.Proof.Gen.Kernel6Ideal.Frame
public import Idealize.ShloMosaic.Lib.Pipeline.ValueKit
public import Idealize.ShloMosaic.Lib.Pipeline.ReadBack
public import proofs.«01_k».proof.Proof.MixIn

@[expose] public section

set_option maxRecDepth 16384

noncomputable section

namespace Cert.Kernel6Ideal.Gen

open Idealize.ShloMosaic Idealize.SL.Sem Idealize.ShloMosaic.TcCoe
open Idealize.ShloMosaic.Pipeline (Dat Cfg Window cellOf)
open Idealize.SL Idealize.SL.RA Idealize.SL.BI

variable (m : (ℓ : Loc nD τ sig) → Buf (Elt Ideal) ℓ)

/-- The gains the call is entered with. -/
theorem V_gain (c : Dev nD) (k : Fin 1024) : (show S1x1024.Idx → EReal from V m c main_v7) (ix2 0 k)
    = (show S2x1024.Idx → EReal from m ((c : Thread nD τ).loc main_arg1)) (ix2 0 k) := by
  show StableHlo.after hostOps0 _ (Proc.devRef .tc main_v7) (ix2 0 k : S1x1024.Idx) = _
  after_results
  pointwise

/-- The input matrix the call is entered with. -/
theorem V_w (c : Dev nD) (k : Fin 1024) (e : Fin 1536) : (show S1024x1536.Idx → EReal from V m c main_v8) (ix2 k e)
    = (show S1x1024x1536.Idx → EReal from m ((c : Thread nD τ).loc main_arg2)) (ix3 0 k e) := by
  show StableHlo.after hostOps0 _ (Proc.devRef .tc main_v8) (ix2 k e : S1024x1536.Idx) = _
  after_results
  pointwise

/-- The convolution's weights the call is entered with. -/
theorem V_taps (c : Dev nD) (j : Fin 31) (e : Fin 512) : (show S31x512.Idx → EReal from V m c main_v3) (ix2 j e)
    = (show S1x31x512.Idx → EReal from m ((c : Thread nD τ).loc main_arg3)) (ix3 0 j e) := by
  show StableHlo.after hostOps0 _ (Proc.devRef .tc main_v3) (ix2 j e : S31x512.Idx) = _
  after_results
  pointwise

/-- The convolution's biases the call is entered with. -/
theorem V_bias (c : Dev nD) (e : Fin 512) : (show S1x512.Idx → EReal from V m c main_v9) (ix2 0 e)
    = (show S1x512.Idx → EReal from m ((c : Thread nD τ).loc main_arg4)) (ix2 0 e) := by
  show StableHlo.after hostOps0 _ (Proc.devRef .tc main_v9) (ix2 0 e : S1x512.Idx) = _
  after_results
  pointwise

/-- The layer norm's gains the call is entered with. -/
theorem V_ln_gain (c : Dev nD) (e : Fin 512) : (show S1x512.Idx → EReal from V m c main_v10) (ix2 0 e)
    = (show S1x512.Idx → EReal from m ((c : Thread nD τ).loc main_arg5)) (ix2 0 e) := by
  show StableHlo.after hostOps0 _ (Proc.devRef .tc main_v10) (ix2 0 e : S1x512.Idx) = _
  after_results
  pointwise

/-- The layer norm's biases the call is entered with. -/
theorem V_ln_bias (c : Dev nD) (e : Fin 512) : (show S1x512.Idx → EReal from V m c main_v11) (ix2 0 e)
    = (show S1x512.Idx → EReal from m ((c : Thread nD τ).loc main_arg6)) (ix2 0 e) := by
  show StableHlo.after hostOps0 _ (Proc.devRef .tc main_v11) (ix2 0 e : S1x512.Idx) = _
  after_results
  pointwise

/-- Where each point's blocks lie. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![0, t.val % 4, t.val / 4] :=
  (by decide +kernel : ∀ t : Fin grid0.N, _)

/-- A point's rows. -/
theorem block0 (c : Dev nD) (t : Fin cfg0.N) (r : Fin 512) (k : Fin 1024) (h : 512 * t.val + r.val < 32768) : (show S512x1024.Idx → EReal from iblk m c 0 t) (ix2 r k)
    = (show S32768x1024.Idx → EReal from m ((c : Thread nD τ).loc main_arg0)) (ix2 (⟨512 * t.val + r.val, h⟩ : Fin 32768) k) := by
  refine Eq.trans ?_ (congrFun (V_main_arg0 m c) (ix2 (⟨512 * t.val + r.val, h⟩ : Fin 32768) k))
  blk_ext [iblk, idx t]

/-- A point's gains. -/
theorem block1 (c : Dev nD) (t : Fin cfg0.N) (k : Fin 1024) : (show S1x1024.Idx → EReal from iblk m c 1 t) (ix2 0 k)
    = (show S2x1024.Idx → EReal from m ((c : Thread nD τ).loc main_arg1)) (ix2 0 k) := by
  refine Eq.trans ?_ (V_gain m c k)
  blk_ext [iblk, idx t]

/-- A point's input matrix. -/
theorem block2 (c : Dev nD) (t : Fin cfg0.N) (k : Fin 1024) (e : Fin 1536) : (show S1024x1536.Idx → EReal from iblk m c 2 t) (ix2 k e)
    = (show S1x1024x1536.Idx → EReal from m ((c : Thread nD τ).loc main_arg2)) (ix3 0 k e) := by
  refine Eq.trans ?_ (V_w m c k e)
  blk_ext [iblk, idx t]

/-- A point's weights. -/
theorem block3 (c : Dev nD) (t : Fin cfg0.N) (j : Fin 31) (e : Fin 512) : (show S31x512.Idx → EReal from iblk m c 3 t) (ix2 j e)
    = (show S1x31x512.Idx → EReal from m ((c : Thread nD τ).loc main_arg3)) (ix3 0 j e) := by
  refine Eq.trans ?_ (V_taps m c j e)
  blk_ext [iblk, idx t]

/-- A point's biases. -/
theorem block4 (c : Dev nD) (t : Fin cfg0.N) (e : Fin 512) : (show S1x512.Idx → EReal from iblk m c 4 t) (ix2 0 e)
    = (show S1x512.Idx → EReal from m ((c : Thread nD τ).loc main_arg4)) (ix2 0 e) := by
  refine Eq.trans ?_ (V_bias m c e)
  blk_ext [iblk, idx t]

/-- A point's layer norm's gains. -/
theorem block5 (c : Dev nD) (t : Fin cfg0.N) (e : Fin 512) : (show S1x512.Idx → EReal from iblk m c 5 t) (ix2 0 e)
    = (show S1x512.Idx → EReal from m ((c : Thread nD τ).loc main_arg5)) (ix2 0 e) := by
  refine Eq.trans ?_ (V_ln_gain m c e)
  blk_ext [iblk, idx t]

/-- A point's layer norm's biases. -/
theorem block6 (c : Dev nD) (t : Fin cfg0.N) (e : Fin 512) : (show S1x512.Idx → EReal from iblk m c 6 t) (ix2 0 e)
    = (show S1x512.Idx → EReal from m ((c : Thread nD τ).loc main_arg6)) (ix2 0 e) := by
  refine Eq.trans ?_ (V_ln_bias m c e)
  blk_ext [iblk, idx t]

end Cert.Kernel6Ideal.Gen

end
-- ==== Proof.MixInSpec.lean ====
module

public import proofs.«01_k».proof.Proof.MixIn

@[expose] public section

set_option maxRecDepth 16384

noncomputable section

namespace Cert.MixIn

open Idealize.ShloMosaic Idealize.ShloMosaic.TcCoe
open Cert.Ffn

/-- A row's projection, from the arrays of the call. -/
def row (x : (Mat 32768 1024).Idx → EReal) (g : (Mat 2 1024).Idx → EReal) (w : (⟨3, ![1, 1024, 1536]⟩ : Shape).Idx → EReal) (R : ℕ) : Fin 1536 → EReal :=
  proj (fun k => x (ix2 (⟨R % 32768, by omega⟩ : Fin 32768) k)) (fun k => g (ix2 0 k)) (fun k e => w (ix3 0 k e))

/-- A row of the convolution's part, from the arrays of the call. -/
def convRow (x : (Mat 32768 1024).Idx → EReal) (g : (Mat 2 1024).Idx → EReal) (w : (⟨3, ![1, 1024, 1536]⟩ : Shape).Idx → EReal)
    (cw : (⟨3, ![1, 31, 512]⟩ : Shape).Idx → EReal) (cb lg lb : (Mat 1 512).Idx → EReal) (R : ℕ) : Fin 512 → EReal :=
  layer (conv (fun j c => cw (ix3 0 (⟨j % 31, by omega⟩ : Fin 31) c)) (fun c => cb (ix2 0 c)) (past (fun R => gatedIn (row x g w R)) R))
    (fun k => lg (ix2 0 k)) (fun k => lb (ix2 0 k))

/-- An entry of the packed state, from the arrays of the call. -/
def packedState (x : (Mat 32768 1024).Idx → EReal) (g : (Mat 2 1024).Idx → EReal) (w : (⟨3, ![1, 1024, 1536]⟩ : Shape).Idx → EReal)
    (j : Fin 4) (q : Fin 128) (e : Fin 32768) : EReal :=
  row x g w (2048 * (e.val / 2048) + 16 * q.val + e.val % 2048 / 128) ⟨1024 + 128 * j.val + e.val % 128, by omega⟩

end Cert.MixIn

end
-- ==== Proof.MixInTile.lean ====
module

public import proofs.«01_k».proof.Proof.MixInPieces
public import proofs.«01_k».proof.Proof.MixInBlocks
public import proofs.«01_k».proof.Proof.MixInSpec
public import Idealize.ShloMosaic.Lib.WritesUnit

@[expose] public section

set_option maxRecDepth 16384

noncomputable section

namespace Cert.Kernel6Ideal.Gen

open Idealize.ShloMosaic Idealize.SL.Sem Idealize.ShloMosaic.TcCoe
open Idealize.ShloMosaic.Pipeline (Dat Cfg Window cellOf)
open Idealize.SL Idealize.SL.RA Idealize.SL.BI

/-! ## The values a point computes -/

/-- The projection. -/
theorem pay3_eq (x g w) : k0_pay3 (F := Ideal) x g w = Cert.Ffn.times (truncf .bf16 (Cert.Ffn.normRows x g) Cert.Ffn.fewer_bits) w := rfl

theorem pay3_apply (x g w) (r : Fin 512) (e : Fin 1536) : k0_pay3 (F := Ideal) x g w (ix2 r e)
    = Cert.MixIn.proj (fun k => x (ix2 r k)) (fun k => g (ix2 0 k)) (fun k e => w (ix2 k e)) e := by
  rw [pay3_eq, Cert.Ffn.times_apply]
  unfold Cert.MixIn.proj
  refine Finset.sum_congr rfl fun k _ => congrArg (fun a : EReal => a * w (ix2 k e)) ?_
  exact Cert.Ffn.normRows_apply x g r k

theorem pay4_apply (x g w) (r c : Fin 512) : k0_pay4 (F := Ideal) x g w (ix2 r c) = k0_pay3 (F := Ideal) x g w (ix2 r (⟨1024 + c.val, by omega⟩ : Fin 1536)) := by
  unfold k0_pay4
  generalize k0_pay3 (F := Ideal) x g w = p
  refine extractStridedSlice_apply _ p _ _ _ fun a => ?_
  match a with
  | ⟨0, _⟩ => show r.val = 0 + r.val; omega
  | ⟨1, _⟩ => rfl

theorem pay5_apply (x g w) (r c : Fin 512) : k0_pay5 (F := Ideal) x g w (ix2 r c) = Cert.MixIn.gatedIn (fun e => k0_pay3 (F := Ideal) x g w (ix2 r e)) c := by
  unfold k0_pay5 Cert.MixIn.gatedIn
  generalize k0_pay3 (F := Ideal) x g w = p
  dsimp only
  rw [shapeCast_self, mulf_apply, logistic_apply]
  refine congrArg₂ (fun a b : EReal => a * Ideal.logistic b) ?_ ?_
  · refine extractStridedSlice_apply _ p _ _ _ fun a => ?_
    match a with
    | ⟨0, _⟩ => show r.val = 0 + r.val; omega
    | ⟨1, _⟩ => show c.val = 0 + c.val; omega
  · refine extractStridedSlice_apply _ p _ _ _ fun a => ?_
    match a with
    | ⟨0, _⟩ => show r.val = 0 + r.val; omega
    | ⟨1, _⟩ => rfl

theorem pay2_apply (r : Fin 32) (c : Fin 512) : k0_pay2 (F := Ideal) (ix2 r c) = Ideal.ofBits .f32 0x00000000#32 := by
  unfold k0_pay2
  rw [shapeCast_self]
  rfl

theorem pay90_eq (v) : k0_pay90 (F := Ideal) v = v := by
  unfold k0_pay90
  exact shapeCast_self _ _

/-! ## The padded tile -/

section Padded

variable {κ : Kind} {sp : Space} (v : View sig κ sp S544x512 .f32) (f : v.ty.Contents (Elt Ideal))

theorem read_below (V) (L) (q : Fin 544) (c : Fin 512) (h : 32 ≤ q.val) :
    v.read (Elt Ideal) (v.writes (Elt Ideal) f (below V :: L)) (ix2 q c) = V (ix2 (⟨q.val - 32, by omega⟩ : Fin 512) c) :=
  View.read_writes_cons_rows_of_mem (o := 32) v f inb_S544x512_S512x512_32_0 V L (ix2 q c) (ix2 (⟨q.val - 32, by omega⟩ : Fin 512) c) rfl
    (by show q.val = 32 + (q.val - 32); omega) rfl

theorem read_over (V) (L) (q : Fin 544) (c : Fin 512) (h : q.val < 32) :
    v.read (Elt Ideal) (v.writes (Elt Ideal) f (below V :: L)) (ix2 q c) = v.read (Elt Ideal) (v.writes (Elt Ideal) f L) (ix2 q c) :=
  View.read_writes_cons_rows_of_not_mem (o := 32) (W := 512) v f inb_S544x512_S512x512_32_0 V L (ix2 q c) rfl rfl (.inl h)

theorem read_above (Z) (L) (q : Fin 544) (c : Fin 512) (h : q.val < 32) :
    v.read (Elt Ideal) (v.writes (Elt Ideal) f (above Z :: L)) (ix2 q c) = Z (ix2 (⟨q.val, h⟩ : Fin 32) c) :=
  View.read_writes_cons_rows_of_mem (o := 0) v f inb_S544x512_S32x512_0_0 Z L (ix2 q c) (ix2 (⟨q.val, h⟩ : Fin 32) c) rfl
    (by show q.val = 0 + q.val; omega) rfl

end Padded

/-- The last rows of a point's padded tile. -/
theorem last_rows (v : View sig .tc .vmem S544x512 .f32) (V) (L) (q : Fin 32) (c : Fin 512) :
    v.readCov (below V :: L) (Rect.unit (s := S544x512) ![512, 0] ![32, 512] inb_S544x512_S32x512_512_0).toLoadRect (ix2 q c)
      = V (ix2 (⟨480 + q.val, by omega⟩ : Fin 512) c) := by
  rw [View.readCov_eq_canon']
  dsimp only
  rw [← View.read_writes_junk_eq_canon v]
  have e : (Rect.unit (s := S544x512) ![512, 0] ![32, 512] inb_S544x512_S32x512_512_0).toLoadRect.idx (ix2 q c : S32x512.Idx)
      = (ix2 (⟨512 + q.val, by omega⟩ : Fin 544) c : S544x512.Idx) := by
    funext a
    refine Fin.ext ?_
    match a with
    | ⟨0, _⟩ => show 512 + 1 * q.val = 512 + q.val; omega
    | ⟨1, _⟩ => show 0 + 1 * c.val = c.val; omega
  refine (congrArg _ e).trans ((read_below v v.junk V L (⟨512 + q.val, by omega⟩ : Fin 544) c (by show 32 ≤ 512 + q.val; omega)).trans ?_)
  refine congrArg (fun r => V (ix2 r c)) (Fin.ext ?_)
  show 512 + q.val - 32 = 480 + q.val
  omega

/-- What is read from a list of writes. -/
theorem cov_eq (v : View sig .tc .vmem S544x512 .f32) (L : List (View.Piece (Elt Ideal) S544x512 .f32)) :
    Cert.MixIn.copiesOf (fun r => v.readCov L r.toLoadRect) = Cert.MixIn.copies (v.read (Elt Ideal) (v.writes (Elt Ideal) v.junk L)) := by
  rw [View.read_writes_junk_eq_canon, ← Cert.MixIn.copiesOf_ld]
  refine congrArg Cert.MixIn.copiesOf ?_
  funext r
  rw [View.readCov_eq_canon']

end Cert.Kernel6Ideal.Gen

end
-- ==== Proof.MixInKernel.lean ====
module

public import proofs.«01_k».proof.Proof.MixInTile

@[expose] public section

set_option maxRecDepth 16384

noncomputable section

namespace Cert.Kernel6Ideal.Gen

open Idealize.ShloMosaic Idealize.SL.Sem Idealize.ShloMosaic.TcCoe
open Idealize.ShloMosaic.Pipeline (Dat Cfg Window cellOf)
open Idealize.SL Idealize.SL.RA Idealize.SL.BI

variable (m : (ℓ : Loc nD τ sig) → Buf (Elt Ideal) ℓ)

/-- A row's projection, from the call's arrays. -/
abbrev rowOf (c : Dev nD) (R : ℕ) : Fin 1536 → EReal :=
  Cert.MixIn.row (show S32768x1024.Idx → EReal from m ((c : Thread nD τ).loc main_arg0)) (show S2x1024.Idx → EReal from m ((c : Thread nD τ).loc main_arg1))
    (show S1x1024x1536.Idx → EReal from m ((c : Thread nD τ).loc main_arg2)) R

/-- A point's rows, as it loads them. -/
abbrev ownX (c : Dev nD) (t : Fin cfg0.N) := View.ld (iblk m c 0 t) (Rect.unit (s := S512x1024) ![0, 0] ![512, 1024] inb_S512x1024_S512x1024_0_0)
abbrev ownG (c : Dev nD) (t : Fin cfg0.N) := View.ld (iblk m c 1 t) (Rect.unit (s := S1x1024) ![0, 0] ![1, 1024] inb_S1x1024_S1x1024_0_0)
abbrev ownW (c : Dev nD) (t : Fin cfg0.N) := View.ld (iblk m c 2 t) (Rect.unit (s := S1024x1536) ![0, 0] ![1024, 1536] inb_S1024x1536_S1024x1536_0_0)
abbrev line5 (c : Dev nD) (t : Fin cfg0.N) := View.ld (iblk m c 5 t) (Rect.unit (s := S1x512) ![0, 0] ![1, 512] inb_S1x512_S1x512_0_0)
abbrev line6 (c : Dev nD) (t : Fin cfg0.N) := View.ld (iblk m c 6 t) (Rect.unit (s := S1x512) ![0, 0] ![1, 512] inb_S1x512_S1x512_0_0)

/-- A point's projection. -/
theorem proj_at (c : Dev nD) (t : Fin cfg0.N) (r : Fin 512) (e : Fin 1536) :
    k0_pay3 (F := Ideal) (ownX m c t) (ownG m c t) (ownW m c t) (ix2 r e) = rowOf m c (512 * t.val + r.val) e := by
  have ht : t.val < 64 := t.isLt
  refine (pay3_apply _ _ _ r e).trans ?_
  unfold rowOf Cert.MixIn.row Cert.MixIn.proj
  refine Finset.sum_congr rfl fun k _ => congrArg₂ (fun a b : EReal => a * b) (Cert.Ffn.rms_congr (fun k => ?_) (fun k => ?_) rfl) ?_
  · refine ((Cert.Ffn.whole_apply _ _ r k).trans (block0 m c t r k (by omega))).trans ?_
    refine congrArg (fun R : Fin 32768 => (show S32768x1024.Idx → EReal from m ((c : Thread nD τ).loc main_arg0)) (ix2 R k)) (Fin.ext ?_)
    show 512 * t.val + r.val = (512 * t.val + r.val) % 32768
    omega
  · exact (Cert.Ffn.whole_apply _ _ 0 k).trans (block1 m c t k)
  · exact (Cert.Ffn.whole_apply _ _ k e).trans (block2 m c t k e)

/-- A point's gated rows. -/
theorem gated_at (c : Dev nD) (t : Fin cfg0.N) (r e : Fin 512) :
    k0_pay5 (F := Ideal) (ownX m c t) (ownG m c t) (ownW m c t) (ix2 r e) = Cert.MixIn.gatedIn (rowOf m c (512 * t.val + r.val)) e := by
  rw [pay5_apply]
  simp only [proj_at]

/-- The rows a point leaves for the next. -/
theorem left_at (c : Dev nD) (t : Fin cfg0.N) (q : Fin 544) (hq : q.val < 32) (e : Fin 512) :
    (outsAt0 m c t.val t.isLt).2.2.2 (ix2 q e) = Cert.MixIn.gatedIn (rowOf m c (512 * t.val + (480 + q.val))) e := by
  by_cases h0 : t.val % 4 = 0
  · rw [outsAt0_A m c t h0]
    dsimp only
    unfold sout0_A_0
    rw [held_A]
    refine (read_above _ _ _ _ q e hq).trans ?_
    rw [pay90_eq]
    exact (last_rows _ _ _ ⟨q.val, hq⟩ e).trans (gated_at m c t _ e)
  · rw [outsAt0_B m c t h0]
    dsimp only
    unfold sout0_B_0
    rw [held_B]
    refine (read_above _ _ _ _ q e hq).trans ?_
    rw [pay90_eq]
    exact (last_rows _ _ _ ⟨q.val, hq⟩ e).trans (gated_at m c t _ e)

/-- The convolution's rows of a point, from its padded tile. -/
theorem conv_at (c : Dev nD) (t : Fin cfg0.N) : ∃ P : Vec Ideal S544x512 .f32,
    (outsAt0 m c t.val t.isLt).1 = Cert.MixIn.layers (Cert.MixIn.convTile (iblk m c 3 t) (iblk m c 4 t) P) (line5 m c t) (line6 m c t)
    ∧ (∀ (q : Fin 544) (e : Fin 512), 32 ≤ q.val → P (ix2 q e) = Cert.MixIn.gatedIn (rowOf m c (512 * t.val + q.val - 32)) e)
    ∧ (∀ (q : Fin 544) (e : Fin 512), q.val < 32 → t.val % 4 = 0 → P (ix2 q e) = Ideal.ofBits .f32 0x00000000#32)
    ∧ (∀ (q : Fin 544) (e : Fin 512), q.val < 32 → ¬t.val % 4 = 0 → P (ix2 q e) = Cert.MixIn.gatedIn (rowOf m c (512 * t.val + q.val - 32)) e) := by
  by_cases h0 : t.val % 4 = 0
  · refine ⟨scM0_0.view.read (Elt Ideal) (scM0_0.view.writes (Elt Ideal) scM0_0.view.junk
      [below (k0_pay5 (F := Ideal) (ownX m c t) (ownG m c t) (ownW m c t)), above (k0_pay2 (F := Ideal))]), ?_, fun q e hq => ?_, fun q e hq _ => ?_, fun q e hq h1 => absurd h0 h1⟩
    · rw [outsAt0_A m c t h0]
      dsimp only
      unfold out0_A_7
      rw [conv_A, View.read_writes_junk_eq_canon]
      refine (View.canon_cons_unit_zero (by funext a; match a with | ⟨0, _⟩ => rfl | ⟨1, _⟩ => rfl) _ _ _).trans ?_
      rw [cov_eq, Cert.MixIn.read_parts _ _ _ _ _ (fun k n hn x => Cert.MixIn.read_copies _ _ k n hn x)]
      rfl
    · refine (read_below _ _ _ _ q e hq).trans ((gated_at m c t _ e).trans ?_)
      refine congrArg (fun R => Cert.MixIn.gatedIn (rowOf m c R) e) ?_
      show 512 * t.val + (q.val - 32) = 512 * t.val + q.val - 32
      omega
    · exact (read_over _ _ _ _ q e hq).trans ((read_above _ _ _ _ q e hq).trans (pay2_apply _ e))
  · refine ⟨scM0_0.view.read (Elt Ideal) (scM0_0.view.writes (Elt Ideal) ((Memref.isWhole_whole _ : scM0_0.IsWhole).unread (outsAt0 m c (t.val - 1) (Nat.lt_of_le_of_lt (Nat.sub_le _ _) t.isLt)).2.2.2)
      [below (k0_pay5 (F := Ideal) (ownX m c t) (ownG m c t) (ownW m c t))]), ?_, fun q e hq => ?_, fun q e hq h1 => absurd h1 h0, fun q e hq _ => ?_⟩
    · rw [outsAt0_B m c t h0]
      dsimp only
      unfold out0_B_7
      rw [conv_B, View.read_writes_junk_eq_canon]
      refine (View.canon_cons_unit_zero (by funext a; match a with | ⟨0, _⟩ => rfl | ⟨1, _⟩ => rfl) _ _ _).trans ?_
      rw [Cert.MixIn.copiesOf_ld, Cert.MixIn.read_parts _ _ _ _ _ (fun k n hn x => Cert.MixIn.read_copies _ _ k n hn x)]
      rfl
    · refine (read_below _ _ _ _ q e hq).trans ((gated_at m c t _ e).trans ?_)
      refine congrArg (fun R => Cert.MixIn.gatedIn (rowOf m c R) e) ?_
      show 512 * t.val + (q.val - 32) = 512 * t.val + q.val - 32
      omega
    · refine (read_over _ _ _ _ q e hq).trans ?_
      rw [View.writes_nil, Memref.IsWhole.read_unread]
      refine (left_at m c (⟨t.val - 1, Nat.lt_of_le_of_lt (Nat.sub_le _ _) t.isLt⟩ : Fin cfg0.N) q hq e).trans ?_
      refine congrArg (fun R => Cert.MixIn.gatedIn (rowOf m c R) e) ?_
      show 512 * (t.val - 1) + (480 + q.val) = 512 * t.val + q.val - 32
      omega

/-- The convolution's part of a point's rows. -/
theorem conv_row (c : Dev nD) (t : Fin cfg0.N) (r e : Fin 512) : (outsAt0 m c t.val t.isLt).1 (ix2 r e)
    = Cert.MixIn.convRow (show S32768x1024.Idx → EReal from m ((c : Thread nD τ).loc main_arg0)) (show S2x1024.Idx → EReal from m ((c : Thread nD τ).loc main_arg1))
      (show S1x1024x1536.Idx → EReal from m ((c : Thread nD τ).loc main_arg2)) (show S1x31x512.Idx → EReal from m ((c : Thread nD τ).loc main_arg3))
      (show S1x512.Idx → EReal from m ((c : Thread nD τ).loc main_arg4)) (show S1x512.Idx → EReal from m ((c : Thread nD τ).loc main_arg5))
      (show S1x512.Idx → EReal from m ((c : Thread nD τ).loc main_arg6)) (512 * t.val + r.val) e := by
  obtain ⟨P, hP, h1, h2, h3⟩ := conv_at m c t
  rw [hP]
  have hr : r.val < 512 := r.isLt
  refine (Cert.MixIn.layers_apply _ _ _ r e).trans ?_
  unfold Cert.MixIn.convRow
  have e1 : (fun k : Fin 512 => Cert.MixIn.convTile (iblk m c 3 t) (iblk m c 4 t) P (ix2 r k))
      = Cert.MixIn.conv (fun j k => (show S1x31x512.Idx → EReal from m ((c : Thread nD τ).loc main_arg3)) (ix3 0 (⟨j % 31, by omega⟩ : Fin 31) k))
        (fun k => (show S1x512.Idx → EReal from m ((c : Thread nD τ).loc main_arg4)) (ix2 0 k)) (Cert.MixIn.past (fun R => Cert.MixIn.gatedIn (rowOf m c R)) (512 * t.val + r.val)) := by
    funext k
    unfold Cert.MixIn.convTile Cert.MixIn.conv
    refine congrArg₂ (fun a b : EReal => a + b) (Cert.MixIn.taps_congr 31 fun j hj => congrArg₂ (fun a b : EReal => a * b) (block3 m c t _ k) ?_) (block4 m c t k)
    have hq : (2 + j + r.val) % 544 = 2 + j + r.val := by omega
    have hw : 512 * t.val + (2 + j + r.val) % 544 - 32 = 512 * t.val + r.val + j - 30 := by omega
    unfold Cert.MixIn.past
    by_cases hb : 32 ≤ (2 + j + r.val) % 544
    · rw [if_pos (by omega)]
      refine (h1 (⟨(2 + j + r.val) % 544, by omega⟩ : Fin 544) k hb).trans ?_
      exact congrArg (fun R => Cert.MixIn.gatedIn (rowOf m c R) k) hw
    · by_cases h0 : t.val % 4 = 0
      · rw [if_neg (by omega)]
        exact h2 (⟨(2 + j + r.val) % 544, by omega⟩ : Fin 544) k (by show (2 + j + r.val) % 544 < 32; omega) h0
      · rw [if_pos (by omega)]
        refine (h3 (⟨(2 + j + r.val) % 544, by omega⟩ : Fin 544) k (by show (2 + j + r.val) % 544 < 32; omega) h0).trans ?_
        exact congrArg (fun R => Cert.MixIn.gatedIn (rowOf m c R) k) hw
  have e2 : (fun k : Fin 512 => line5 m c t (ix2 0 k)) = fun k => (show S1x512.Idx → EReal from m ((c : Thread nD τ).loc main_arg5)) (ix2 0 k) :=
    funext fun k => (Cert.Ffn.whole_apply _ _ 0 k).trans (block5 m c t k)
  have e3 : (fun k : Fin 512 => line6 m c t (ix2 0 k)) = fun k => (show S1x512.Idx → EReal from m ((c : Thread nD τ).loc main_arg6)) (ix2 0 k) :=
    funext fun k => (Cert.Ffn.whole_apply _ _ 0 k).trans (block6 m c t k)
  exact congrFun (congr (congr (congrArg Cert.MixIn.layer e1) e2) e3) e

/-- The state's rows of a point. -/
theorem state_row (c : Dev nD) (t : Fin cfg0.N) (r e : Fin 512) : (outsAt0 m c t.val t.isLt).2.1 (ix2 r e)
    = rowOf m c (512 * t.val + r.val) ⟨1024 + e.val, by omega⟩ := by
  refine Eq.trans ?_ ((pay4_apply (ownX m c t) (ownG m c t) (ownW m c t) r e).trans (proj_at m c t r _))
  refine congrFun ?_ (ix2 r e)
  by_cases h0 : t.val % 4 = 0
  · rw [outsAt0_A m c t h0]
    dsimp only
    unfold out0_A_8
    rw [state_A, View.read_writes_junk_eq_canon]
    exact View.canon_cons_unit_zero (by funext a; match a with | ⟨0, _⟩ => rfl | ⟨1, _⟩ => rfl) _ _ _
  · rw [outsAt0_B m c t h0]
    dsimp only
    unfold out0_B_8
    rw [state_B, View.read_writes_junk_eq_canon]
    exact View.canon_cons_unit_zero (by funext a; match a with | ⟨0, _⟩ => rfl | ⟨1, _⟩ => rfl) _ _ _

/-- The packed rows of a point. -/
theorem packed_eq (c : Dev nD) (t : Fin cfg0.N) : (outsAt0 m c t.val t.isLt).2.2.1 = Cert.MixIn.packed (k0_pay3 (F := Ideal) (ownX m c t) (ownG m c t) (ownW m c t)) := by
  by_cases h0 : t.val % 4 = 0
  · rw [outsAt0_A m c t h0]
    dsimp only
    unfold out0_A_9
    rw [packs_A, View.read_writes_junk_eq_canon]
    exact Cert.MixIn.canon_packs _ _
  · rw [outsAt0_B m c t h0]
    dsimp only
    unfold out0_B_9
    rw [packs_B, View.read_writes_junk_eq_canon]
    exact Cert.MixIn.canon_packs _ _

theorem packed_row (c : Dev nD) (t : Fin cfg0.N) (j : Fin 4) (q : Fin 32) (e : Fin 2048) : (outsAt0 m c t.val t.isLt).2.2.1 (ix3 j q e)
    = rowOf m c (512 * t.val + (16 * q.val + e.val / 128)) ⟨1024 + 128 * j.val + e.val % 128, by omega⟩ := by
  rw [packed_eq]
  exact proj_at m c t (⟨16 * q.val + e.val / 128, by omega⟩ : Fin 512) (⟨1024 + 128 * j.val + e.val % 128, by omega⟩ : Fin 1536)

/-! ## The arrays the kernel writes -/

/-- An entry of the convolution's part. -/
def convAt (c : Dev nD) (R : Fin 32768) (e : Fin 512) : EReal :=
  Cert.MixIn.convRow (show S32768x1024.Idx → EReal from m ((c : Thread nD τ).loc main_arg0)) (show S2x1024.Idx → EReal from m ((c : Thread nD τ).loc main_arg1))
    (show S1x1024x1536.Idx → EReal from m ((c : Thread nD τ).loc main_arg2)) (show S1x31x512.Idx → EReal from m ((c : Thread nD τ).loc main_arg3))
    (show S1x512.Idx → EReal from m ((c : Thread nD τ).loc main_arg4)) (show S1x512.Idx → EReal from m ((c : Thread nD τ).loc main_arg5))
    (show S1x512.Idx → EReal from m ((c : Thread nD τ).loc main_arg6)) R.val e

/-- An entry of the state. -/
def stateAt (c : Dev nD) (R : Fin 32768) (e : Fin 512) : EReal := rowOf m c R.val ⟨1024 + e.val, by omega⟩

/-- The convolution's part. -/
theorem conv_final (c : Dev nD) : (dats m 0 c).arrAt 7 (cfgs 0).N = fun j : S32768x512.Idx => convAt m c (j 0) (j 1) := by
  refine (dats m 0 c).arrAt_eq_of_covers 7 _ (by decide +kernel) fun t hf z => ?_
  have ht : t.val < 64 := t.isLt
  blk_simp
  rw [after0_7]
  obtain ⟨r, e, rfl⟩ : ∃ (r e : Fin 512), z = (ix2 r e : S512x512.Idx) := ⟨z 0, z 1, by funext a; match a with | ⟨0, _⟩ => rfl | ⟨1, _⟩ => rfl⟩
  have hR : (win0_7.blk t).view.emb (ix2 r e : S512x512.Idx) 0 = (⟨512 * t.val + r.val, by omega⟩ : Fin 32768) := by
    refine Fin.ext ?_
    show win0_7.index t 0 * 512 + 1 * r.val = _
    rw [(idx t).2.2.2.2.2.2.2.1]
    show t.val * 512 + 1 * r.val = 512 * t.val + r.val
    omega
  have hE : (win0_7.blk t).view.emb (ix2 r e : S512x512.Idx) 1 = e := by
    refine Fin.ext ?_
    show win0_7.index t 1 * 512 + 1 * e.val = _
    rw [(idx t).2.2.2.2.2.2.2.1]
    show 0 * 512 + 1 * e.val = e.val
    omega
  have h : (outsAt0 m c t.val t.isLt).1 (ix2 r e) = convAt m c (⟨512 * t.val + r.val, by omega⟩ : Fin 32768) e := conv_row m c t r e
  exact h.trans (congrArg₂ (convAt m c) hR.symm hE.symm)

/-- The state. -/
theorem state_final (c : Dev nD) : (dats m 0 c).arrAt 8 (cfgs 0).N = fun j : S32768x512.Idx => stateAt m c (j 0) (j 1) := by
  refine (dats m 0 c).arrAt_eq_of_covers 8 _ (by decide +kernel) fun t hf z => ?_
  have ht : t.val < 64 := t.isLt
  blk_simp
  rw [after0_8]
  obtain ⟨r, e, rfl⟩ : ∃ (r e : Fin 512), z = (ix2 r e : S512x512.Idx) := ⟨z 0, z 1, by funext a; match a with | ⟨0, _⟩ => rfl | ⟨1, _⟩ => rfl⟩
  have hR : (win0_8.blk t).view.emb (ix2 r e : S512x512.Idx) 0 = (⟨512 * t.val + r.val, by omega⟩ : Fin 32768) := by
    refine Fin.ext ?_
    show win0_8.index t 0 * 512 + 1 * r.val = _
    rw [(idx t).2.2.2.2.2.2.2.2.1]
    show t.val * 512 + 1 * r.val = 512 * t.val + r.val
    omega
  have hE : (win0_8.blk t).view.emb (ix2 r e : S512x512.Idx) 1 = e := by
    refine Fin.ext ?_
    show win0_8.index t 1 * 512 + 1 * e.val = _
    rw [(idx t).2.2.2.2.2.2.2.2.1]
    show 0 * 512 + 1 * e.val = e.val
    omega
  have h : (outsAt0 m c t.val t.isLt).2.1 (ix2 r e) = stateAt m c (⟨512 * t.val + r.val, by omega⟩ : Fin 32768) e := state_row m c t r e
  exact h.trans (congrArg₂ (stateAt m c) hR.symm hE.symm)

/-- The packed state. -/
theorem packed_final (c : Dev nD) : (dats m 0 c).arrAt 9 (cfgs 0).N = fun j : S4x128x32768.Idx =>
    Cert.MixIn.packedState (show S32768x1024.Idx → EReal from m ((c : Thread nD τ).loc main_arg0)) (show S2x1024.Idx → EReal from m ((c : Thread nD τ).loc main_arg1))
      (show S1x1024x1536.Idx → EReal from m ((c : Thread nD τ).loc main_arg2)) (j 0) (j 1) (j 2) := by
  refine (dats m 0 c).arrAt_eq_of_covers 9 _ (by decide +kernel) fun t hf z => ?_
  have ht : t.val < 64 := t.isLt
  blk_simp
  rw [after0_9]
  obtain ⟨j, q, e, rfl⟩ : ∃ (j : Fin 4) (q : Fin 32) (e : Fin 2048), z = (ix3 j q e : S4x32x2048.Idx) := ⟨z 0, z 1, z 2, by
    funext a
    match a with
    | ⟨0, _⟩ => rfl
    | ⟨1, _⟩ => rfl
    | ⟨2, _⟩ => rfl⟩
  have hJ : ((win0_9.blk t).view.emb (ix3 j q e : S4x32x2048.Idx) 0).val = j.val := by
    show win0_9.index t 0 * 4 + 1 * j.val = _
    rw [(idx t).2.2.2.2.2.2.2.2.2]
    show 0 * 4 + 1 * j.val = j.val
    omega
  have hQ : ((win0_9.blk t).view.emb (ix3 j q e : S4x32x2048.Idx) 1).val = 32 * (t.val % 4) + q.val := by
    show win0_9.index t 1 * 32 + 1 * q.val = _
    rw [(idx t).2.2.2.2.2.2.2.2.2]
    show t.val % 4 * 32 + 1 * q.val = 32 * (t.val % 4) + q.val
    omega
  have hE : ((win0_9.blk t).view.emb (ix3 j q e : S4x32x2048.Idx) 2).val = 2048 * (t.val / 4) + e.val := by
    show win0_9.index t 2 * 2048 + 1 * e.val = _
    rw [(idx t).2.2.2.2.2.2.2.2.2]
    show t.val / 4 * 2048 + 1 * e.val = 2048 * (t.val / 4) + e.val
    omega
  refine (packed_row m c t j q e).trans ?_
  unfold Cert.MixIn.packedState
  have he : e.val < 2048 := e.isLt
  refine congrArg₂ (fun R (k : Fin 1536) => rowOf m c R k) ?_ (Fin.ext ?_)
  · rw [hQ, hE]
    omega
  · show 1024 + 128 * j.val + e.val % 128 = 1024 + 128 * ((win0_9.blk t).view.emb (ix3 j q e : S4x32x2048.Idx) 0).val + ((win0_9.blk t).view.emb (ix3 j q e : S4x32x2048.Idx) 2).val % 128
    rw [hJ, hE]
    omega

end Cert.Kernel6Ideal.Gen

end
-- ==== Proof.MixInHost.lean ====
module

public import Idealize.ShloMosaic.Lib.KernelVsHost
public import proofs.«01_k».proof.Proof.HostFfn
public import proofs.«01_k».proof.Proof.MixIn

@[expose] public section

set_option maxRecDepth 16384

noncomputable section

namespace Cert.MixIn

open Idealize.ShloMosaic Idealize.ShloMosaic.TcCoe Finset
open Cert.Ffn

/-! ## The same over all the sequences, as the reference writes it -/

abbrev Cube : Shape := ⟨3, ![16, 2048, 512]⟩
abbrev Wide : Shape := ⟨3, ![16, 2048, 1536]⟩
abbrev Padded : Shape := ⟨3, ![16, 2078, 512]⟩
abbrev Col : Shape := ⟨3, ![16, 2048, 1]⟩
abbrev Flat : Shape := ⟨2, ![16, 2048]⟩
abbrev Weights : Shape := ⟨3, ![1, 31, 512]⟩
abbrev One : Shape := ⟨3, ![1, 1, 512]⟩

theorem slice_tap (j : ℕ) : Weights.Slices ![0, j % 31, 0] One :=
  ⟨rfl, fun a => match a with
    | ⟨0, _⟩ => by show 0 + 1 ≤ 1; omega
    | ⟨1, _⟩ => by show j % 31 + 1 ≤ 31; omega
    | ⟨2, _⟩ => by show 0 + 512 ≤ 512; omega⟩
theorem slice_rows (j : ℕ) : Padded.Slices ![0, j % 31, 0] Cube :=
  ⟨rfl, fun a => match a with
    | ⟨0, _⟩ => by show 0 + 16 ≤ 16; omega
    | ⟨1, _⟩ => by show j % 31 + 2048 ≤ 2078; omega
    | ⟨2, _⟩ => by show 0 + 512 ≤ 512; omega⟩
theorem cast_tap : One.ShapeCasts (Line 512) := by decide
theorem cast_vec : (Mat 1 512).ShapeCasts (Line 512) := by decide
theorem bc_tap : (Line 512).BroadcastsInDim One (![2] : Fin 1 → Fin One.rank) := by decide
theorem bc_taps : One.BroadcastsInDim Cube (![0, 1, 2] : Fin 3 → Fin Cube.rank) := by decide
theorem bc_flat : Flat.BroadcastsInDim Col (![0, 1] : Fin 2 → Fin Col.rank) := by decide
theorem bc_cube : Col.BroadcastsInDim Cube (![0, 1, 2] : Fin 3 → Fin Cube.rank) := by decide
theorem cube_sums : Cube.ReducesTo [2] Flat := by decide
theorem pads_cube : Cube.Pads ![0, 30, 0] ![0, 0, 0] ![0, 0, 0] Padded := by decide

/-- A vector in every row. -/
def lines (g : FVec Ideal (Line 512) .f32) : FVec Ideal Cube .f32 :=
  broadcastInDim Cube ![0, 1, 2] bc_taps (broadcastInDim One ![2] bc_tap g)

theorem lines_apply (g) (s : Fin 16) (p : Fin 2048) (c : Fin 512) : lines g (ix3 s p c) = g (ix1 c) := by
  unfold lines
  refine (broadcastInDim_apply _ bc_taps _ (ix3 s p c) (ix3 0 0 c) fun a => ?_).trans (broadcastInDim_apply _ bc_tap g (ix3 0 0 c) (ix1 c) fun a => ?_)
  · match a with
    | ⟨0, _⟩ => rfl
    | ⟨1, _⟩ => rfl
    | ⟨2, _⟩ => rfl
  · match a with
    | ⟨0, _⟩ => rfl

theorem vec_apply (g : FVec Ideal (Mat 1 512) .f32) (c : Fin 512) : shapeCast (Line 512) g cast_vec (ix1 c) = g (ix2 0 c) := by
  pointwise

theorem tap_vec_apply (g : FVec Ideal One .f32) (c : Fin 512) : shapeCast (Line 512) g cast_tap (ix1 c) = g (ix3 0 0 c) := by
  pointwise

/-- One tap over all the rows. -/
def hostTap (w : FVec Ideal Weights .f32) (V : FVec Ideal Padded .f32) (j : ℕ) : FVec Ideal Cube .f32 :=
  mulf (lines (shapeCast (Line 512) (extractStridedSlice One ![0, j % 31, 0] w (slice_tap j)) cast_tap))
    (extractStridedSlice Cube ![0, j % 31, 0] V (slice_rows j))

theorem hostTap_apply (w V) (j : ℕ) (s : Fin 16) (p : Fin 2048) (c : Fin 512) : hostTap w V j (ix3 s p c)
    = w (ix3 0 (⟨j % 31, by omega⟩ : Fin 31) c) * V (ix3 s (⟨p.val + j % 31, by omega⟩ : Fin 2078) c) := by
  unfold hostTap
  rw [mulf_apply, lines_apply, tap_vec_apply]
  refine congrArg₂ (fun a b : EReal => a * b) (extractStridedSlice_apply _ w (slice_tap j) _ _ fun a => ?_) (extractStridedSlice_apply _ V (slice_rows j) _ _ fun a => ?_)
  · match a with
    | ⟨0, _⟩ => rfl
    | ⟨1, _⟩ => rfl
    | ⟨2, _⟩ => show c.val = 0 + c.val; omega
  · match a with
    | ⟨0, _⟩ => show s.val = 0 + s.val; omega
    | ⟨1, _⟩ => show p.val + j % 31 = j % 31 + p.val; omega
    | ⟨2, _⟩ => show c.val = 0 + c.val; omega

/-- The first taps, added in order. -/
def hostTaps (w : FVec Ideal Weights .f32) (V : FVec Ideal Padded .f32) : ℕ → FVec Ideal Cube .f32
  | 0 => fill Cube 0x00000000#32
  | n + 1 => addf (hostTaps w V n) (hostTap w V n)

theorem hostTaps_apply (w V) (s : Fin 16) (p : Fin 2048) (c : Fin 512) : ∀ n, hostTaps w V n (ix3 s p c)
    = taps (fun j => w (ix3 0 (⟨j % 31, by omega⟩ : Fin 31) c) * V (ix3 s (⟨p.val + j % 31, by omega⟩ : Fin 2078) c)) n
  | 0 => fill_apply _ _ _
  | n + 1 => by
    show FloatOps.addf _ _ = _
    rw [hostTaps_apply w V s p c n, hostTap_apply]
    rfl

/-- The gated rows before a row, zero before the first of its sequence. -/
def hostPad (v : FVec Ideal Cube .f32) (z : FVec Ideal Unit0 .f32) : FVec Ideal Padded .f32 :=
  pad Padded ![0, 30, 0] ![0, 0, 0] ![0, 0, 0] v z pads_cube unit_first

theorem hostPad_inside (v z) (s : Fin 16) (q : Fin 2078) (c : Fin 512) (h : 30 ≤ q.val) :
    hostPad v z (ix3 s q c) = v (ix3 s (⟨q.val - 30, by omega⟩ : Fin 2048) c) := by
  unfold hostPad
  refine pad_apply_of_inside _ _ _ v z pads_cube unit_first _ _ fun a => ?_
  match a with
  | ⟨0, _⟩ => show s.val = 0 + s.val * (0 + 1); omega
  | ⟨1, _⟩ => show q.val = 30 + (q.val - 30) * (0 + 1); omega
  | ⟨2, _⟩ => show c.val = 0 + c.val * (0 + 1); omega

theorem hostPad_outside (v) (z : FVec Ideal Unit0 .f32) (s : Fin 16) (q : Fin 2078) (c : Fin 512) (h : ¬30 ≤ q.val) :
    hostPad v z (ix3 s q c) = z (Shape.Idx.first unit_first) := by
  unfold hostPad
  exact pad_apply_of_not_inside _ _ _ v z pads_cube unit_first _ 1 fun hh => h hh.1

/-- The means of the rows. -/
def hostMeans (y : FVec Ideal Cube .f32) : FVec Ideal Col .f32 :=
  Host.divf (broadcastInDim Col ![0, 1] bc_flat (Host.reduceAdd y (constant Unit0 .f32 0x00000000#32) cube_sums unit_first)) (fill Col 0x44000000#32)

theorem cube_sums_apply (y : FVec Ideal Cube .f32) (s : Fin 16) (p : Fin 2048) :
    Host.reduceAdd y (constant Unit0 .f32 0x00000000#32) cube_sums unit_first (ix2 s p) = ∑ k : Fin 512, y (ix3 s p k) := by
  simp only [Host.reduceAdd, Ideal.hostReduceAdd_def]
  rw [Ideal.hostReduceAdd_single cube_sums (by decide)]
  refine (congrArg₂ (· + ·) (Ideal.ofBits_zero_f32) (Finset.sum_congr rfl fun k _ => ?_)).trans (zero_add _)
  exact congrArg y (funext fun a => Fin.ext (by match a with | ⟨0, _⟩ => rfl | ⟨1, _⟩ => rfl | ⟨2, _⟩ => rfl))

theorem hostMeans_apply (y) (s : Fin 16) (p : Fin 2048) : hostMeans y (ix3 s p 0) = Ideal.div (∑ k : Fin 512, y (ix3 s p k)) (Ideal.ofBits .f32 0x44000000#32) := by
  unfold hostMeans
  have e := broadcastInDim_apply _ bc_flat (Host.reduceAdd y (constant Unit0 .f32 0x00000000#32) cube_sums unit_first) (ix3 s p 0) (ix2 s p)
    (fun a => by match a with | ⟨0, _⟩ => rfl | ⟨1, _⟩ => rfl)
  rw [Host.divf_apply, e, cube_sums_apply, fill_apply]
  rfl

theorem hostColumn_apply (m : FVec Ideal Col .f32) (s : Fin 16) (p : Fin 2048) (c : Fin 512) : broadcastInDim Cube ![0, 1, 2] bc_cube m (ix3 s p c) = m (ix3 s p 0) :=
  broadcastInDim_apply _ bc_cube m (ix3 s p c) (ix3 s p 0) (fun a => by match a with | ⟨0, _⟩ => rfl | ⟨1, _⟩ => rfl | ⟨2, _⟩ => rfl)

/-- The rows about their means. -/
def hostAbout (y : FVec Ideal Cube .f32) : FVec Ideal Cube .f32 := subf y (broadcastInDim Cube ![0, 1, 2] bc_cube (hostMeans y))

theorem hostAbout_apply (y) (s : Fin 16) (p : Fin 2048) (c : Fin 512) :
    hostAbout y (ix3 s p c) = y (ix3 s p c) - Ideal.div (∑ k : Fin 512, y (ix3 s p k)) (Ideal.ofBits .f32 0x44000000#32) := by
  unfold hostAbout
  rw [subf_apply, hostColumn_apply, hostMeans_apply]
  rfl

/-- The rows about their means, scaled, with gains and biases. -/
def hostScaled (y : FVec Ideal Cube .f32) (g b : FVec Ideal (Line 512) .f32) : FVec Ideal Cube .f32 :=
  addf (mulf (mulf (hostAbout y) (broadcastInDim Cube ![0, 1, 2] bc_cube (Host.rsqrt (addf (hostMeans (mulf (hostAbout y) (hostAbout y))) (fill Col 0x3727C5AC#32)))))
    (lines g)) (lines b)

/-- Those times their logistic. -/
def hostLayer (y : FVec Ideal Cube .f32) (g b : FVec Ideal (Line 512) .f32) : FVec Ideal Cube .f32 := mulf (hostScaled y g b) (hostLogistic (hostScaled y g b))

theorem hostScaled_apply (y g b) (s : Fin 16) (p : Fin 2048) (c : Fin 512) : hostScaled y g b (ix3 s p c)
    = hostAbout y (ix3 s p c) * Ideal.rsqrt (hostMeans (mulf (hostAbout y) (hostAbout y)) (ix3 s p 0) + Ideal.ofBits .f32 0x3727C5AC#32) * g (ix1 c) + b (ix1 c) := by
  unfold hostScaled
  rw [addf_apply, mulf_apply, mulf_apply, lines_apply, lines_apply, hostColumn_apply, Host.rsqrt_apply, addf_apply, fill_apply]
  rfl

theorem hostSquares_apply (y) (s : Fin 16) (p : Fin 2048) : hostMeans (mulf (hostAbout y) (hostAbout y)) (ix3 s p 0)
    = Ideal.div (∑ k : Fin 512, hostAbout y (ix3 s p k) * hostAbout y (ix3 s p k)) (Ideal.ofBits .f32 0x44000000#32) := hostMeans_apply _ s p

theorem hostLayer_apply (y g b) (s : Fin 16) (p : Fin 2048) (c : Fin 512) :
    hostLayer y g b (ix3 s p c) = layer (fun k => y (ix3 s p k)) (fun k => g (ix1 k)) (fun k => b (ix1 k)) c := by
  have e := hostScaled_apply y g b s p c
  rw [hostSquares_apply] at e
  simp only [hostAbout_apply] at e
  unfold hostLayer
  rw [mulf_apply, hostLogistic_apply, e]
  rfl

/-! ## The gated rows -/

theorem cast_wide : (Mat 32768 1536).ShapeCasts Wide := by decide
theorem slice_a : Wide.Slices ![0, 0, 0] Cube := by decide
theorem slice_g : Wide.Slices ![0, 0, 512] Cube := by decide
theorem slice_u : Wide.Slices ![0, 0, 1024] Cube := by decide

/-- The rows of each sequence. -/
def wide (P : FVec Ideal (Mat 32768 1536) .f32) : FVec Ideal Wide .f32 := shapeCast Wide P cast_wide

theorem wide_apply (P) (s : Fin 16) (p : Fin 2048) (e : Fin 1536) : wide P (ix3 s p e) = P (ix2 (⟨2048 * s.val + p.val, by omega⟩ : Fin 32768) e) := by
  unfold wide
  refine shapeCast_apply P cast_wide _ _ ?_
  rewrite [Shape.rowMajor_val_two, Shape.rowMajor_val_three]
  show (2048 * s.val + p.val) * 1536 + e.val = (s.val * 2048 + p.val) * 1536 + e.val
  omega

/-- The gated part of them. -/
def hostGated (P : FVec Ideal (Mat 32768 1536) .f32) : FVec Ideal Cube .f32 :=
  mulf (extractStridedSlice Cube ![0, 0, 0] (wide P) slice_a) (hostLogistic (extractStridedSlice Cube ![0, 0, 512] (wide P) slice_g))

theorem hostGated_apply (P) (s : Fin 16) (p : Fin 2048) (c : Fin 512) : hostGated P (ix3 s p c)
    = gatedIn (fun e => P (ix2 (⟨2048 * s.val + p.val, by omega⟩ : Fin 32768) e)) c := by
  unfold hostGated gatedIn
  rw [mulf_apply, hostLogistic_apply]
  refine congrArg₂ (fun a b : EReal => a * Ideal.logistic b)
    ((extractStridedSlice_apply _ (wide P) slice_a _ (ix3 s p (⟨c.val, by omega⟩ : Fin 1536)) fun a => ?_).trans (wide_apply P s p _))
    ((extractStridedSlice_apply _ (wide P) slice_g _ (ix3 s p (⟨512 + c.val, by omega⟩ : Fin 1536)) fun a => ?_).trans (wide_apply P s p _))
  · match a with
    | ⟨0, _⟩ => show s.val = 0 + s.val; omega
    | ⟨1, _⟩ => show p.val = 0 + p.val; omega
    | ⟨2, _⟩ => show c.val = 0 + c.val; omega
  · match a with
    | ⟨0, _⟩ => show s.val = 0 + s.val; omega
    | ⟨1, _⟩ => show p.val = 0 + p.val; omega
    | ⟨2, _⟩ => show 512 + c.val = 512 + c.val; rfl

/-- The part of them the S5 layer takes. -/
def hostState (P : FVec Ideal (Mat 32768 1536) .f32) : FVec Ideal Cube .f32 := extractStridedSlice Cube ![0, 0, 1024] (wide P) slice_u

theorem hostState_apply (P) (s : Fin 16) (p : Fin 2048) (c : Fin 512) : hostState P (ix3 s p c)
    = P (ix2 (⟨2048 * s.val + p.val, by omega⟩ : Fin 32768) (⟨1024 + c.val, by omega⟩ : Fin 1536)) := by
  unfold hostState
  refine (extractStridedSlice_apply _ (wide P) slice_u _ (ix3 s p (⟨1024 + c.val, by omega⟩ : Fin 1536)) fun a => ?_).trans (wide_apply P s p _)
  match a with
  | ⟨0, _⟩ => show s.val = 0 + s.val; omega
  | ⟨1, _⟩ => show p.val = 0 + p.val; omega
  | ⟨2, _⟩ => show 1024 + c.val = 1024 + c.val; rfl

/-- The convolution of the gated rows, with its bias. -/
def hostConv (w : FVec Ideal Weights .f32) (b : FVec Ideal (Line 512) .f32) (v : FVec Ideal Cube .f32) (z : FVec Ideal Unit0 .f32) : FVec Ideal Cube .f32 :=
  addf (hostTaps w (hostPad v z) 31) (lines b)

/-- A row of it, over the rows numbered through. -/
theorem hostConv_apply (w b z) (P : FVec Ideal (Mat 32768 1536) .f32) (hz : z (Shape.Idx.first unit_first) = Ideal.ofBits .f32 0x00000000#32) (s : Fin 16) (p : Fin 2048) (c : Fin 512) :
    hostConv w b (hostGated P) z (ix3 s p c)
      = conv (fun j c => w (ix3 0 (⟨j % 31, by omega⟩ : Fin 31) c)) (fun c => b (ix1 c))
        (past (fun R => gatedIn fun e => P (ix2 (⟨R % 32768, by omega⟩ : Fin 32768) e)) (2048 * s.val + p.val)) c := by
  unfold hostConv conv
  rw [addf_apply, hostTaps_apply, lines_apply]
  refine congrArg (fun a : EReal => a + b (ix1 c)) (taps_congr 31 fun j hj => ?_)
  refine congrArg (fun a : EReal => w (ix3 0 (⟨j % 31, by omega⟩ : Fin 31) c) * a) ?_
  have hm : j % 31 = j := Nat.mod_eq_of_lt hj
  have hp : p.val < 2048 := p.isLt
  have hs : s.val < 16 := s.isLt
  unfold past
  by_cases h : 30 ≤ p.val + j
  · rw [if_pos (by omega)]
    refine (hostPad_inside _ z s _ c (by show 30 ≤ p.val + j % 31; omega)).trans ((hostGated_apply P s _ c).trans ?_)
    refine congrArg (fun q : Fin 32768 => gatedIn (fun e => P (ix2 q e)) c) (Fin.ext ?_)
    show 2048 * s.val + (p.val + j % 31 - 30) = (2048 * s.val + p.val + j - 30) % 32768
    omega
  · rw [if_neg (by omega)]
    exact (hostPad_outside _ z s _ c (by show ¬30 ≤ p.val + j % 31; omega)).trans hz

end Cert.MixIn

end
-- ==== Proof.MixInRef.lean ====
module

public import proofs.«01_k».proof.Proof.Gen.Reference6Ideal.Read
public import proofs.«01_k».proof.Proof.HostFfn
public import proofs.«01_k».proof.Proof.MixInHost
public import proofs.«01_k».proof.Proof.MixInSpec

@[expose] public section

set_option maxRecDepth 16384

noncomputable section

namespace Cert.Reference6Ideal.Read

open Idealize.ShloMosaic Idealize.ShloMosaic.TcCoe Cert.Reference6Ideal

/-- The gains. -/
theorem v1_at (x1) (k : Fin 1024) : val_main_v1 (F := Ideal) x1 (ix1 k) = x1 (ix2 0 k) := by
  unfold val_main_v1 val_main_v0
  pointwise

/-- The input matrix. -/
theorem v15_at (x2) (k : Fin 1024) (e : Fin 1536) : val_main_v15 (F := Ideal) x2 (ix2 k e) = x2 (ix3 0 k e) := by
  unfold val_main_v15
  pointwise

theorem v14_eq (x0 x1) : val_main_v14 (F := Ideal) x0 x1 = Cert.Ffn.hostRows x0 (val_main_v1 (F := Ideal) x1) := rfl

/-- A row's projection. -/
theorem v16_at (x0 x1 x2) (R : ℕ) (e : Fin 1536) : val_main_v16 (F := Ideal) x0 x1 x2 (ix2 (⟨R % 32768, by omega⟩ : Fin 32768) e) = Cert.MixIn.row x0 x1 x2 R e := by
  refine (Cert.Ffn.hostProduct_apply (φ₁ := .f32) (φ₂ := .f32) (val_main_v14 (F := Ideal) x0 x1) (val_main_v15 (F := Ideal) x2) _ e).trans ?_
  rw [v14_eq]
  unfold Cert.MixIn.row Cert.MixIn.proj
  refine Finset.sum_congr rfl fun k _ => congrArg₂ (fun a b : EReal => a * b) ?_ (v15_at x2 k e)
  exact (Cert.Ffn.hostRows_apply _ _ _ k).trans (Cert.Ffn.rms_congr (fun _ => rfl) (v1_at x1) rfl)

theorem v27_eq (x0 x1 x2) : val_main_v27 (F := Ideal) x0 x1 x2 = Cert.MixIn.hostGated (val_main_v16 (F := Ideal) x0 x1 x2) := rfl

theorem v28_eq (x0 x1 x2) : val_main_v28 (F := Ideal) x0 x1 x2 = Cert.MixIn.hostPad (val_main_v27 (F := Ideal) x0 x1 x2) (val_main_call0_v0 (F := Ideal)) := rfl

theorem v246_eq (x0 x1 x2 x3) : val_main_v246 (F := Ideal) x0 x1 x2 x3 = Cert.MixIn.hostTaps x3 (val_main_v28 (F := Ideal) x0 x1 x2) 31 := rfl

theorem v250_eq (x0 x1 x2 x3 x4) : val_main_v250 (F := Ideal) x0 x1 x2 x3 x4
    = addf (val_main_v246 (F := Ideal) x0 x1 x2 x3) (Cert.MixIn.lines (shapeCast (Cert.Ffn.Line 512) x4 Cert.MixIn.cast_vec)) := rfl

theorem zero_at : val_main_call0_v0 (F := Ideal) (Shape.Idx.first Cert.Ffn.unit_first) = Ideal.ofBits .f32 0x00000000#32 := by
  rw [val_main_call0_v0_apply]
  refine Eq.trans ?_ (Ideal.ofBits_zero .f32).symm
  show (((0#32 : BitVec 32).toInt : ℝ) : EReal) = 0
  norm_num

/-- The convolution's rows. -/
theorem v250_at (x0 x1 x2 x3 x4) (s : Fin 16) (p : Fin 2048) (c : Fin 512) : val_main_v250 (F := Ideal) x0 x1 x2 x3 x4 (ix3 s p c)
    = Cert.MixIn.conv (fun j c => x3 (ix3 0 (⟨j % 31, by omega⟩ : Fin 31) c)) (fun c => x4 (ix2 0 c))
      (Cert.MixIn.past (fun R => Cert.MixIn.gatedIn (Cert.MixIn.row x0 x1 x2 R)) (2048 * s.val + p.val)) c := by
  rw [v250_eq, v246_eq, v28_eq, v27_eq]
  have e := Cert.MixIn.hostConv_apply x3 (shapeCast (Cert.Ffn.Line 512) x4 Cert.MixIn.cast_vec) (val_main_call0_v0 (F := Ideal)) (val_main_v16 (F := Ideal) x0 x1 x2) zero_at s p c
  simp only [v16_at, Cert.MixIn.vec_apply] at e
  exact e

theorem v277_eq (x0 x1 x2 x3 x4 x5 x6) : val_main_v277 (F := Ideal) x0 x1 x2 x3 x4 x5 x6
    = Cert.MixIn.hostLayer (val_main_v250 (F := Ideal) x0 x1 x2 x3 x4) (val_main_v269 (F := Ideal) x5) (val_main_v273 (F := Ideal) x6) := rfl

theorem v269_at (x5) (k : Fin 512) : val_main_v269 (F := Ideal) x5 (ix1 k) = x5 (ix2 0 k) := by
  unfold val_main_v269
  pointwise

theorem v273_at (x6) (k : Fin 512) : val_main_v273 (F := Ideal) x6 (ix1 k) = x6 (ix2 0 k) := by
  unfold val_main_v273
  pointwise

/-- The convolution's part. -/
theorem v279_at (x0 x1 x2 x3 x4 x5 x6) (R : Fin 32768) (c : Fin 512) : val_main_v279 (F := Ideal) x0 x1 x2 x3 x4 x5 x6 (ix2 R c)
    = Cert.MixIn.convRow x0 x1 x2 x3 x4 x5 x6 R.val c := by
  rw [val_main_v279_apply]
  have hR : R.val < 32768 := R.isLt
  have hc : c.val < 512 := c.isLt
  have ei : idx_main_v278 (ix2 R c) = ix3 (⟨R.val / 2048, by omega⟩ : Fin 16) (⟨R.val % 2048, by omega⟩ : Fin 2048) c := by
    funext a
    refine Fin.ext ?_
    match a with
    | ⟨0, _⟩ => show (R.val * 512 + c.val) / 1048576 = R.val / 2048; omega
    | ⟨1, _⟩ => show (R.val * 512 + c.val) / 512 % 2048 = R.val % 2048; omega
    | ⟨2, _⟩ => show (R.val * 512 + c.val) % 512 = c.val; omega
  have e := Cert.MixIn.hostLayer_apply (val_main_v250 (F := Ideal) x0 x1 x2 x3 x4) (val_main_v269 (F := Ideal) x5) (val_main_v273 (F := Ideal) x6)
    (⟨R.val / 2048, by omega⟩ : Fin 16) (⟨R.val % 2048, by omega⟩ : Fin 2048) c
  simp only [v250_at, v269_at, v273_at] at e
  have hs : 2048 * (R.val / 2048) + R.val % 2048 = R.val := by omega
  rw [hs] at e
  refine Eq.trans ?_ e
  rw [← v277_eq, ← ei]
  exact val_main_v278_apply x0 x1 x2 x3 x4 x5 x6 _

theorem v20_eq (x0 x1 x2) : val_main_v20 (F := Ideal) x0 x1 x2 = Cert.MixIn.hostState (val_main_v16 (F := Ideal) x0 x1 x2) := rfl

theorem v20_at (x0 x1 x2) (s : Fin 16) (p : Fin 2048) (c : Fin 512) : val_main_v20 (F := Ideal) x0 x1 x2 (ix3 s p c)
    = Cert.MixIn.row x0 x1 x2 (2048 * s.val + p.val) ⟨1024 + c.val, by omega⟩ := by
  rw [v20_eq, Cert.MixIn.hostState_apply, ← v16_at]
  refine congrArg (fun r => val_main_v16 (F := Ideal) x0 x1 x2 (ix2 r _)) (Fin.ext ?_)
  show 2048 * s.val + p.val = (2048 * s.val + p.val) % 32768
  omega

/-- The state's rows. -/
theorem v284_at (x0 x1 x2) (R : Fin 32768) (c : Fin 512) : val_main_v284 (F := Ideal) x0 x1 x2 (ix2 R c)
    = Cert.MixIn.row x0 x1 x2 R.val ⟨1024 + c.val, by omega⟩ := by
  have hR : R.val < 32768 := R.isLt
  have hc : c.val < 512 := c.isLt
  have ei : idx_main_v284 (ix2 R c) = ix3 (⟨R.val / 2048, by omega⟩ : Fin 16) (⟨R.val % 2048, by omega⟩ : Fin 2048) c := by
    funext a
    refine Fin.ext ?_
    match a with
    | ⟨0, _⟩ => show (R.val * 512 + c.val) / 1048576 = R.val / 2048; omega
    | ⟨1, _⟩ => show (R.val * 512 + c.val) / 512 % 2048 = R.val % 2048; omega
    | ⟨2, _⟩ => show (R.val * 512 + c.val) % 512 = c.val; omega
  rw [val_main_v284_apply, ei, v20_at]
  have hs : 2048 * (R.val / 2048) + R.val % 2048 = R.val := by omega
  exact congrArg (fun n => Cert.MixIn.row x0 x1 x2 n _) hs

/-- The digits of an unpacked place. -/
theorem digits {b q s J l : ℕ} (hb : b < 16) (hq : q < 128) (hs : s < 16) (hJ : J < 4) (hl : l < 128) :
    ((((b * 128 + q) * 16 + s) * 4 + J) * 128 + l) / 1048576 = b ∧ ((((b * 128 + q) * 16 + s) * 4 + J) * 128 + l) / 512 % 2048 = 16 * q + s
      ∧ ((((b * 128 + q) * 16 + s) * 4 + J) * 128 + l) % 512 = 128 * J + l := by
  refine ⟨?_, ?_, ?_⟩ <;> omega

/-- The packed state. -/
theorem v283_at (x0 x1 x2) (j : Fin 4) (q : Fin 128) (e : Fin 32768) : val_main_v283 (F := Ideal) x0 x1 x2 (ix3 j q e)
    = Cert.MixIn.packedState x0 x1 x2 j q e := by
  rw [val_main_v283_apply]
  refine (val_main_v282_apply x0 x1 x2 _).trans ((val_main_v281_apply x0 x1 x2 _).trans ((val_main_v280_apply x0 x1 x2 _).trans ?_))
  have hj : j.val < 4 := j.isLt
  have hq : q.val < 128 := q.isLt
  have he : e.val < 32768 := e.isLt
  have e0 : ((j.val * 128 + q.val) * 32768 + e.val) / 4194304 = j.val := by omega
  have e1 : ((j.val * 128 + q.val) * 32768 + e.val) / 32768 % 128 = q.val := by omega
  have e2 : ((j.val * 128 + q.val) * 32768 + e.val) / 2048 % 16 = e.val / 2048 := by omega
  have e3 : ((j.val * 128 + q.val) * 32768 + e.val) / 128 % 16 = e.val % 2048 / 128 := by omega
  have e4 : ((j.val * 128 + q.val) * 32768 + e.val) % 128 = e.val % 128 := by omega
  obtain ⟨d0, d1, d2⟩ := digits (b := e.val / 2048) (q := q.val) (s := e.val % 2048 / 128) (J := j.val) (l := e.val % 128) (by omega) hq (by omega) hj (by omega)
  have ei : idx_main_v280 (idx_main_v281 (idx_main_v282 (ix3 j q e)))
      = ix3 (⟨e.val / 2048, by omega⟩ : Fin 16) (⟨16 * q.val + e.val % 2048 / 128, by omega⟩ : Fin 2048) (⟨128 * j.val + e.val % 128, by omega⟩ : Fin 512) := by
    funext a
    refine Fin.ext ?_
    match a with
    | ⟨0, _⟩ =>
      show (((((((j.val * 128 + q.val) * 32768 + e.val) / 2048 % 16) * 128 + ((j.val * 128 + q.val) * 32768 + e.val) / 32768 % 128) * 16
        + ((j.val * 128 + q.val) * 32768 + e.val) / 128 % 16) * 4 + ((j.val * 128 + q.val) * 32768 + e.val) / 4194304) * 128 + ((j.val * 128 + q.val) * 32768 + e.val) % 128) / 1048576 = e.val / 2048
      rw [e0, e1, e2, e3, e4, d0]
    | ⟨1, _⟩ =>
      show (((((((j.val * 128 + q.val) * 32768 + e.val) / 2048 % 16) * 128 + ((j.val * 128 + q.val) * 32768 + e.val) / 32768 % 128) * 16
        + ((j.val * 128 + q.val) * 32768 + e.val) / 128 % 16) * 4 + ((j.val * 128 + q.val) * 32768 + e.val) / 4194304) * 128 + ((j.val * 128 + q.val) * 32768 + e.val) % 128) / 512 % 2048 = 16 * q.val + e.val % 2048 / 128
      rw [e0, e1, e2, e3, e4, d1]
    | ⟨2, _⟩ =>
      show (((((((j.val * 128 + q.val) * 32768 + e.val) / 2048 % 16) * 128 + ((j.val * 128 + q.val) * 32768 + e.val) / 32768 % 128) * 16
        + ((j.val * 128 + q.val) * 32768 + e.val) / 128 % 16) * 4 + ((j.val * 128 + q.val) * 32768 + e.val) / 4194304) * 128 + ((j.val * 128 + q.val) * 32768 + e.val) % 128) % 512 = 128 * j.val + e.val % 128
      rw [e0, e1, e2, e3, e4, d2]
  rw [ei, v20_at]
  unfold Cert.MixIn.packedState
  refine congrArg₂ (fun n (k : Fin 1536) => Cert.MixIn.row x0 x1 x2 n k) ?_ (Fin.ext ?_)
  · show 2048 * (e.val / 2048) + (16 * q.val + e.val % 2048 / 128) = 2048 * (e.val / 2048) + 16 * q.val + e.val % 2048 / 128
    omega
  · show 1024 + (128 * j.val + e.val % 128) = 1024 + 128 * j.val + e.val % 128
    omega

end Cert.Reference6Ideal.Read

end
-- ==== Proof.MixKernel.lean ====
module

public import proofs.«01_k».proof.Proof.Gen.Kernel5Ideal.Frame
public import Idealize.ShloMosaic.Lib.Pipeline.ValueKit
public import Idealize.ShloMosaic.Lib.Pipeline.ReadBack
public import proofs.«01_k».proof.Proof.Mix

@[expose] public section

set_option maxRecDepth 16384

noncomputable section

namespace Cert.Kernel5Ideal.Gen

open Idealize.ShloMosaic Idealize.SL.Sem Idealize.ShloMosaic.TcCoe
open Idealize.ShloMosaic.Pipeline (Dat Cfg Window cellOf)
open Idealize.SL Idealize.SL.RA Idealize.SL.BI

variable (m : (ℓ : Loc nD τ sig) → Buf (Elt Ideal) ℓ)

/-- The gated S5 output. -/
theorem pay79_eq (a0 a1 a2 a3 d u gw gb) : k0_pay79 (F := Ideal) (k0_pay77 a0) (k0_pay78 a1) a2 a3 d u gw gb
    = truncf .bf16 (Cert.Mix.gates (Cert.Mix.gelus (Cert.Mix.skipped (Cert.Mix.sides a0 a1 a2 a3) d u)) gw gb) Cert.Ffn.fewer_bits := by
  unfold k0_pay79
  have e : concatenate S512x512 1 [⟨S512x128, k0_pay77 a0⟩, ⟨S512x128, k0_pay78 a1⟩, ⟨S512x128, shapeCast S512x128 a2 shapeCasts_S1x512x128_S512x128⟩,
    ⟨S512x128, shapeCast S512x128 a3 shapeCasts_S1x512x128_S512x128⟩] concatenates_S512x128_S512x128_S512x128_S512x128_S512x512_d1
      = Cert.Mix.sides a0 a1 a2 a3 := rfl
  dsimp only
  rw [e]
  generalize Cert.Mix.sides a0 a1 a2 a3 = s
  rfl

/-- A point's rows with the convolution's and the S5 part. -/
theorem pay80_eq (x yc y wc ws) : k0_pay80 (F := Ideal) (truncf .bf16 y Cert.Ffn.fewer_bits) x yc wc ws = Cert.Mix.products x yc y wc ws := rfl

/-- Those, normalised. -/
theorem pay81_eq (x yc y wc ws g) : k0_pay81 (F := Ideal) (truncf .bf16 y Cert.Ffn.fewer_bits) x yc wc ws g
    = truncf .bf16 (Cert.Ffn.normRows (Cert.Mix.products x yc y wc ws) g) Cert.Ffn.fewer_bits := by
  rw [← pay80_eq]
  unfold k0_pay81
  generalize k0_pay80 (F := Ideal) _ x yc wc ws = x
  rfl

set_option maxHeartbeats 4000000 in
/-- The block a point writes: its rows with the convolution's and the S5 part, plus half of the feed-forward part. -/
theorem out_eq (c : Dev nD) (t : Fin cfg0.N) : outsAt0 m c t
    = Cert.Ffn.tile (Cert.Mix.mixes (Cert.Mix.strip (iblk m c 2 t) 0) (Cert.Mix.strip (iblk m c 2 t) 1) (Cert.Mix.strip (iblk m c 2 t) 2) (Cert.Mix.strip (iblk m c 2 t) 3)
      (View.ld (iblk m c 4 t) (Rect.unit (s := S1x512) ![0, 0] ![1, 512] inb_S1x512_S1x512_0_0))
      (View.ld (iblk m c 3 t) (Rect.unit (s := S512x512) ![0, 0] ![512, 512] inb_S512x512_S512x512_0_0))
      (View.ld (iblk m c 5 t) (Rect.unit (s := S512x512) ![0, 0] ![512, 512] inb_S512x512_S512x512_0_0))
      (View.ld (iblk m c 6 t) (Rect.unit (s := S1x512) ![0, 0] ![1, 512] inb_S1x512_S1x512_0_0))
      (View.ld (iblk m c 0 t) (Rect.unit (s := S512x1024) ![0, 0] ![512, 1024] inb_S512x1024_S512x1024_0_0))
      (View.ld (iblk m c 1 t) (Rect.unit (s := S512x512) ![0, 0] ![512, 512] inb_S512x512_S512x512_0_0))
      (View.ld (iblk m c 7 t) (Rect.unit (s := S512x1024) ![0, 0] ![512, 1024] inb_S512x1024_S512x1024_0_0))
      (View.ld (iblk m c 8 t) (Rect.unit (s := S512x1024) ![0, 0] ![512, 1024] inb_S512x1024_S512x1024_0_0)))
      (View.ld (iblk m c 9 t) (Rect.unit (s := S1x1024) ![0, 0] ![1, 1024] inb_S1x1024_S1x1024_0_0)) (iblk m c 10 t) (iblk m c 11 t) (iblk m c 12 t) := by
  unfold outsAt0
  frame_open
  simp only [View.read_writes_junk_eq_canon, View.readAt_eq_ld, Memref.IsWhole.read_unread]
  refine (View.canon_cons_unit_zero (by funext a; match a with | ⟨0, _⟩ => rfl | ⟨1, _⟩ => rfl) _ _ _).trans ?_
  generalize h0 : View.readCov (View.whole cc0_scratch0) (_ : List (View.Piece (Elt Ideal) S4x512x128 .f32)) (Rect.unit (s := S4x512x128) ![0, 0, 0] ![1, 512, 128] inb_S4x512x128_S1x512x128_0_0_0).toLoadRect = a0
  generalize h1 : View.readCov (View.whole cc0_scratch0) (_ : List (View.Piece (Elt Ideal) S4x512x128 .f32)) (Rect.unit (s := S4x512x128) ![1, 0, 0] ![1, 512, 128] inb_S4x512x128_S1x512x128_1_0_0).toLoadRect = a1
  generalize h2 : View.readCov (View.whole cc0_scratch0) (_ : List (View.Piece (Elt Ideal) S4x512x128 .f32)) (Rect.unit (s := S4x512x128) ![2, 0, 0] ![1, 512, 128] inb_S4x512x128_S1x512x128_2_0_0).toLoadRect = a2
  generalize h3 : View.readCov (View.whole cc0_scratch0) (_ : List (View.Piece (Elt Ideal) S4x512x128 .f32)) (Rect.unit (s := S4x512x128) ![3, 0, 0] ![1, 512, 128] inb_S4x512x128_S1x512x128_3_0_0).toLoadRect = a3
  obtain rfl : a0 = Cert.Mix.strip (iblk m c 2 t) 0 := h0.symm.trans (Cert.Mix.read_strip _ (iblk m c 2 t) 0 _)
  obtain rfl : a1 = Cert.Mix.strip (iblk m c 2 t) 1 := h1.symm.trans (Cert.Mix.read_strip _ (iblk m c 2 t) 1 _)
  obtain rfl : a2 = Cert.Mix.strip (iblk m c 2 t) 2 := h2.symm.trans (Cert.Mix.read_strip _ (iblk m c 2 t) 2 _)
  obtain rfl : a3 = Cert.Mix.strip (iblk m c 2 t) 3 := h3.symm.trans (Cert.Mix.read_strip _ (iblk m c 2 t) 3 _)
  clear h0 h1 h2 h3
  unfold k0_pay82
  simp only [pay79_eq, pay80_eq, pay81_eq]
  unfold Cert.Mix.mixes
  generalize Cert.Mix.products _ _ _ _ _ = x
  rfl

/-- The first matrices the call is entered with. -/
theorem V_w1 (c : Dev nD) : (show S2x2x1024x2816.Idx → EReal from V m c main_v0) = m ((c : Thread nD τ).loc main_arg9) := by
  show StableHlo.after hostOps0 _ (Proc.devRef .tc main_v0) = _
  after_results
  rfl

/-- The second matrices the call is entered with. -/
theorem V_w3 (c : Dev nD) : (show S2x2x1024x2816.Idx → EReal from V m c main_v1) = m ((c : Thread nD τ).loc main_arg10) := by
  show StableHlo.after hostOps0 _ (Proc.devRef .tc main_v1) = _
  after_results
  rfl

/-- The third matrices the call is entered with. -/
theorem V_w2 (c : Dev nD) : (show S2x2x2816x1024.Idx → EReal from V m c main_v2) = m ((c : Thread nD τ).loc main_arg11) := by
  show StableHlo.after hostOps0 _ (Proc.devRef .tc main_v2) = _
  after_results
  rfl

/-- The skip gains the call is entered with. -/
theorem V_skip (c : Dev nD) (j : Fin 512) : (show S1x512.Idx → EReal from V m c main_v9) (ix2 0 j)
    = (show S1x512.Idx → EReal from m ((c : Thread nD τ).loc main_arg4)) (ix2 0 j) := by
  show StableHlo.after hostOps0 _ (Proc.devRef .tc main_v9) (ix2 0 j : S1x512.Idx) = _
  after_results
  pointwise

/-- The gate's matrix the call is entered with. -/
theorem V_gw (c : Dev nD) (k j : Fin 512) : (show S512x512.Idx → EReal from V m c main_v10) (ix2 k j)
    = (show S1x512x512.Idx → EReal from m ((c : Thread nD τ).loc main_arg5)) (ix3 0 k j) := by
  show StableHlo.after hostOps0 _ (Proc.devRef .tc main_v10) (ix2 k j : S512x512.Idx) = _
  after_results
  pointwise

/-- The gate's bias the call is entered with. -/
theorem V_gb (c : Dev nD) (j : Fin 512) : (show S1x512.Idx → EReal from V m c main_v11) (ix2 0 j)
    = (show S1x512.Idx → EReal from m ((c : Thread nD τ).loc main_arg6)) (ix2 0 j) := by
  show StableHlo.after hostOps0 _ (Proc.devRef .tc main_v11) (ix2 0 j : S1x512.Idx) = _
  after_results
  pointwise

/-- The convolution's half of the output matrix the call is entered with. -/
theorem V_wc (c : Dev nD) (i : Fin 512) (k : Fin 1024) : (show S512x1024.Idx → EReal from V m c main_v13) (ix2 i k)
    = (show S1x1024x1024.Idx → EReal from m ((c : Thread nD τ).loc main_arg7)) (ix3 0 ⟨i.val, by omega⟩ k) := by
  show StableHlo.after hostOps0 _ (Proc.devRef .tc main_v13) (ix2 i k : S512x1024.Idx) = _
  after_results
  pointwise

/-- The S5 half of the output matrix the call is entered with. -/
theorem V_ws (c : Dev nD) (i : Fin 512) (k : Fin 1024) : (show S512x1024.Idx → EReal from V m c main_v15) (ix2 i k)
    = (show S1x1024x1024.Idx → EReal from m ((c : Thread nD τ).loc main_arg7)) (ix3 0 ⟨512 + i.val, by omega⟩ k) := by
  show StableHlo.after hostOps0 _ (Proc.devRef .tc main_v15) (ix2 i k : S512x1024.Idx) = _
  after_results
  pointwise

/-- The feed-forward gains the call is entered with. -/
theorem V_gain (c : Dev nD) (k : Fin 1024) : (show S1x1024.Idx → EReal from V m c main_v16) (ix2 0 k)
    = (show S2x2x1024.Idx → EReal from m ((c : Thread nD τ).loc main_arg8)) (ix3 0 1 k) := by
  show StableHlo.after hostOps0 _ (Proc.devRef .tc main_v16) (ix2 0 k : S1x1024.Idx) = _
  after_results
  pointwise

/-- Where each point's blocks lie. -/
theorem idx : ∀ t : Fin cfg0.N, win0_0.index t = ![t.val, 0]
    ∧ win0_1.index t = ![t.val, 0]
    ∧ win0_2.index t = ![0, t.val % 4, t.val / 4]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 1, 0, 0]
    ∧ win0_11.index t = ![0, 1, 0, 0]
    ∧ win0_12.index t = ![0, 1, 0, 0]
    ∧ win0_13.index t = ![t.val, 0] :=
  (by decide +kernel : ∀ t : Fin grid0.N, _)

/-- A point's rows. -/
theorem block0 (c : Dev nD) (t : Fin cfg0.N) (r : Fin 512) (k : Fin 1024) (h : 512 * t.val + r.val < 32768) : (show S512x1024.Idx → EReal from iblk m c 0 t) (ix2 r k)
    = (show S32768x1024.Idx → EReal from m ((c : Thread nD τ).loc main_arg0)) (ix2 (⟨512 * t.val + r.val, h⟩ : Fin 32768) k) := by
  refine Eq.trans ?_ (congrFun (V_main_arg0 m c) (ix2 (⟨512 * t.val + r.val, h⟩ : Fin 32768) k))
  blk_ext [iblk, idx t]

/-- A point's rows of the convolution's output. -/
theorem block1 (c : Dev nD) (t : Fin cfg0.N) (r i : Fin 512) (h : 512 * t.val + r.val < 32768) : (show S512x512.Idx → EReal from iblk m c 1 t) (ix2 r i)
    = (show S32768x512.Idx → EReal from m ((c : Thread nD τ).loc main_arg1)) (ix2 (⟨512 * t.val + r.val, h⟩ : Fin 32768) i) := by
  refine Eq.trans ?_ (congrFun (V_main_arg1 m c) (ix2 (⟨512 * t.val + r.val, h⟩ : Fin 32768) i))
  blk_ext [iblk, idx t]

/-- A point's packed S5 output. -/
theorem block2 (c : Dev nD) (t : Fin cfg0.N) (g : Fin 4) (q : Fin 32) (e : Fin 2048) (h : 2048 * (t.val / 4) + e.val < 32768) : (show S4x32x2048.Idx → EReal from iblk m c 2 t) (ix3 g q e)
    = (show S4x128x32768.Idx → EReal from m ((c : Thread nD τ).loc main_arg2)) (ix3 g (⟨32 * (t.val % 4) + q.val, by omega⟩ : Fin 128) (⟨2048 * (t.val / 4) + e.val, h⟩ : Fin 32768)) := by
  refine Eq.trans ?_ (congrFun (V_main_arg2 m c) (ix3 g (⟨32 * (t.val % 4) + q.val, by omega⟩ : Fin 128) (⟨2048 * (t.val / 4) + e.val, h⟩ : Fin 32768)))
  blk_ext [iblk, idx t]

/-- A point's rows of the S5 input. -/
theorem block3 (c : Dev nD) (t : Fin cfg0.N) (r i : Fin 512) (h : 512 * t.val + r.val < 32768) : (show S512x512.Idx → EReal from iblk m c 3 t) (ix2 r i)
    = (show S32768x512.Idx → EReal from m ((c : Thread nD τ).loc main_arg3)) (ix2 (⟨512 * t.val + r.val, h⟩ : Fin 32768) i) := by
  refine Eq.trans ?_ (congrFun (V_main_arg3 m c) (ix2 (⟨512 * t.val + r.val, h⟩ : Fin 32768) i))
  blk_ext [iblk, idx t]

/-- A point's skip gains. -/
theorem block4 (c : Dev nD) (t : Fin cfg0.N) (j : Fin 512) : (show S1x512.Idx → EReal from iblk m c 4 t) (ix2 0 j)
    = (show S1x512.Idx → EReal from m ((c : Thread nD τ).loc main_arg4)) (ix2 0 j) := by
  refine Eq.trans ?_ (V_skip m c j)
  blk_ext [iblk, idx t]

/-- A point's gate matrix. -/
theorem block5 (c : Dev nD) (t : Fin cfg0.N) (k j : Fin 512) : (show S512x512.Idx → EReal from iblk m c 5 t) (ix2 k j)
    = (show S1x512x512.Idx → EReal from m ((c : Thread nD τ).loc main_arg5)) (ix3 0 k j) := by
  refine Eq.trans ?_ (V_gw m c k j)
  blk_ext [iblk, idx t]

/-- A point's gate bias. -/
theorem block6 (c : Dev nD) (t : Fin cfg0.N) (j : Fin 512) : (show S1x512.Idx → EReal from iblk m c 6 t) (ix2 0 j)
    = (show S1x512.Idx → EReal from m ((c : Thread nD τ).loc main_arg6)) (ix2 0 j) := by
  refine Eq.trans ?_ (V_gb m c j)
  blk_ext [iblk, idx t]

/-- A point's output matrix for the convolution. -/
theorem block7 (c : Dev nD) (t : Fin cfg0.N) (i : Fin 512) (k : Fin 1024) : (show S512x1024.Idx → EReal from iblk m c 7 t) (ix2 i k)
    = (show S1x1024x1024.Idx → EReal from m ((c : Thread nD τ).loc main_arg7)) (ix3 0 ⟨i.val, by omega⟩ k) := by
  refine Eq.trans ?_ (V_wc m c i k)
  blk_ext [iblk, idx t]

/-- A point's output matrix for the S5 part. -/
theorem block8 (c : Dev nD) (t : Fin cfg0.N) (i : Fin 512) (k : Fin 1024) : (show S512x1024.Idx → EReal from iblk m c 8 t) (ix2 i k)
    = (show S1x1024x1024.Idx → EReal from m ((c : Thread nD τ).loc main_arg7)) (ix3 0 ⟨512 + i.val, by omega⟩ k) := by
  refine Eq.trans ?_ (V_ws m c i k)
  blk_ext [iblk, idx t]

/-- A point's gains. -/
theorem block9 (c : Dev nD) (t : Fin cfg0.N) (k : Fin 1024) : (show S1x1024.Idx → EReal from iblk m c 9 t) (ix2 0 k)
    = (show S2x2x1024.Idx → EReal from m ((c : Thread nD τ).loc main_arg8)) (ix3 0 1 k) := by
  refine Eq.trans ?_ (V_gain m c k)
  blk_ext [iblk, idx t]

/-- A point's first matrix. -/
theorem block10 (c : Dev nD) (t : Fin cfg0.N) (k : Fin 1024) (f : Fin 2816) : (show S1x1x1024x2816.Idx → EReal from iblk m c 10 t) (ix4 0 0 k f)
    = (show S2x2x1024x2816.Idx → EReal from m ((c : Thread nD τ).loc main_arg9)) (ix4 0 1 k f) := by
  refine Eq.trans ?_ (congrFun (V_w1 m c) (ix4 0 1 k f))
  blk_ext [iblk, idx t]

/-- A point's second matrix. -/
theorem block11 (c : Dev nD) (t : Fin cfg0.N) (k : Fin 1024) (f : Fin 2816) : (show S1x1x1024x2816.Idx → EReal from iblk m c 11 t) (ix4 0 0 k f)
    = (show S2x2x1024x2816.Idx → EReal from m ((c : Thread nD τ).loc main_arg10)) (ix4 0 1 k f) := by
  refine Eq.trans ?_ (congrFun (V_w3 m c) (ix4 0 1 k f))
  blk_ext [iblk, idx t]

/-- A point's third matrix. -/
theorem block12 (c : Dev nD) (t : Fin cfg0.N) (f : Fin 2816) (k : Fin 1024) : (show S1x1x2816x1024.Idx → EReal from iblk m c 12 t) (ix4 0 0 f k)
    = (show S2x2x2816x1024.Idx → EReal from m ((c : Thread nD τ).loc main_arg11)) (ix4 0 1 f k) := by
  refine Eq.trans ?_ (congrFun (V_w2 m c) (ix4 0 1 f k))
  blk_ext [iblk, idx t]

/-- The array the kernel writes: each row with the convolution's and the S5 part, plus half of its feed-forward part. -/
theorem final (c : Dev nD) : (dats m 0 c).arrAt 13 (cfgs 0).N = fun j : S32768x1024.Idx =>
    Cert.Ffn.half (Cert.Mix.mixed (fun k => (show S32768x1024.Idx → EReal from m ((c : Thread nD τ).loc main_arg0)) (ix2 (j 0) k))
        (fun i => (show S32768x512.Idx → EReal from m ((c : Thread nD τ).loc main_arg1)) (ix2 (j 0) i))
        (Cert.Mix.packedAt (show S4x128x32768.Idx → EReal from m ((c : Thread nD τ).loc main_arg2)) (j 0))
        (fun i => (show S1x512.Idx → EReal from m ((c : Thread nD τ).loc main_arg4)) (ix2 0 i))
        (fun i => (show S32768x512.Idx → EReal from m ((c : Thread nD τ).loc main_arg3)) (ix2 (j 0) i))
        (fun k i => (show S1x512x512.Idx → EReal from m ((c : Thread nD τ).loc main_arg5)) (ix3 0 k i))
        (fun i => (show S1x512.Idx → EReal from m ((c : Thread nD τ).loc main_arg6)) (ix2 0 i))
        (fun i k => (show S1x1024x1024.Idx → EReal from m ((c : Thread nD τ).loc main_arg7)) (ix3 0 ⟨i.val, by omega⟩ k))
        (fun i k => (show S1x1024x1024.Idx → EReal from m ((c : Thread nD τ).loc main_arg7)) (ix3 0 ⟨512 + i.val, by omega⟩ k)))
      (fun k => (show S2x2x1024.Idx → EReal from m ((c : Thread nD τ).loc main_arg8)) (ix3 0 1 k))
      (fun k f => (show S2x2x1024x2816.Idx → EReal from m ((c : Thread nD τ).loc main_arg9)) (ix4 0 1 k f))
      (fun k f => (show S2x2x1024x2816.Idx → EReal from m ((c : Thread nD τ).loc main_arg10)) (ix4 0 1 k f))
      (fun f k => (show S2x2x2816x1024.Idx → EReal from m ((c : Thread nD τ).loc main_arg11)) (ix4 0 1 f k)) (j 1) := by
  refine (dats m 0 c).arrAt_eq_of_covers 13 _ (by decide +kernel) fun t hf z => ?_
  have ht : t.val < 64 := t.isLt
  blk_simp
  rw [after0_13, out_eq]
  obtain ⟨r, e, rfl⟩ : ∃ (r : Fin 512) (e : Fin 1024), z = (ix2 r e : S512x1024.Idx) := ⟨z 0, z 1, by funext a; match a with | ⟨0, _⟩ => rfl | ⟨1, _⟩ => rfl⟩
  have hR : (win0_13.blk t).view.emb (ix2 r e : S512x1024.Idx) 0 = (⟨512 * t.val + r.val, by omega⟩ : Fin 32768) := by
    refine Fin.ext ?_
    show win0_13.index t 0 * 512 + 1 * r.val = _
    rw [(idx t).2.2.2.2.2.2.2.2.2.2.2.2.2]
    show t.val * 512 + 1 * r.val = 512 * t.val + r.val
    omega
  have hE : (win0_13.blk t).view.emb (ix2 r e : S512x1024.Idx) 1 = e := by
    refine Fin.ext ?_
    show win0_13.index t 1 * 1024 + 1 * e.val = _
    rw [(idx t).2.2.2.2.2.2.2.2.2.2.2.2.2]
    show 0 * 1024 + 1 * e.val = e.val
    omega
  refine (Cert.Ffn.tile_apply _ _ _ _ _ r e).trans ?_
  refine Cert.Ffn.half_congr (fun k => ?_) (fun k => (Cert.Ffn.whole_apply _ _ 0 k).trans (block9 m c t k)) (block10 m c t) (block11 m c t) (block12 m c t) hE.symm
  refine (Cert.Mix.mixes_apply (Cert.Mix.strip (iblk m c 2 t)) _ _ _ _ _ _ _ _ r k).trans ?_
  rw [hR]
  refine Cert.Mix.mixed_congr (fun k => (Cert.Ffn.whole_apply _ _ r k).trans (block0 m c t r k _)) (fun i => (Cert.Ffn.whole_apply _ _ r i).trans (block1 m c t r i _))
    (fun j => ?_) (fun j => (Cert.Ffn.whole_apply _ _ 0 j).trans (block4 m c t j)) (fun j => (Cert.Ffn.whole_apply _ _ r j).trans (block3 m c t r j _))
    (fun k j => (Cert.Ffn.whole_apply _ _ k j).trans (block5 m c t k j)) (fun j => (Cert.Ffn.whole_apply _ _ 0 j).trans (block6 m c t j))
    (fun i k => (Cert.Ffn.whole_apply _ _ i k).trans (block7 m c t i k)) (fun i k => (Cert.Ffn.whole_apply _ _ i k).trans (block8 m c t i k)) k
  refine (block2 m c t ⟨j.val / 128, by omega⟩ ⟨r.val / 16, by omega⟩ ⟨128 * (r.val % 16) + j.val % 128, by omega⟩ (by dsimp only; omega)).trans ?_
  unfold Cert.Mix.packedAt
  refine congrArg _ ?_
  funext a
  refine Fin.ext ?_
  match a with
  | ⟨0, _⟩ => rfl
  | ⟨1, _⟩ =>
    show 32 * (t.val % 4) + r.val / 16 = (512 * t.val + r.val) % 2048 / 16
    omega
  | ⟨2, _⟩ =>
    show 2048 * (t.val / 4) + (128 * (r.val % 16) + j.val % 128) = 2048 * ((512 * t.val + r.val) / 2048) + 128 * ((512 * t.val + r.val) % 16) + j.val % 128
    omega

end Cert.Kernel5Ideal.Gen

end
-- ==== Proof.MixRef.lean ====
module

public import proofs.«01_k».proof.Proof.Gen.Reference5Ideal.Read
public import proofs.«01_k».proof.Proof.HostFfn
public import proofs.«01_k».proof.Proof.Mix

@[expose] public section

set_option maxRecDepth 16384

noncomputable section

namespace Cert.Reference5Ideal.Read

open Idealize.ShloMosaic Idealize.ShloMosaic.TcCoe Cert.Reference5Ideal

/-- The activation in the order the reference multiplies. -/
theorem gelu_comm (y : EReal) : y * (Ideal.ofBits .f32 0x3F000000#32 * (Ideal.ofBits .f32 0x3F800000#32
    + Ideal.tanh (Ideal.ofBits .f32 0x3F4C422A#32 * (y + Ideal.ofBits .f32 0x3D372713#32 * (y * y * y))))) = Cert.Mix.gelu y := by
  unfold Cert.Mix.gelu
  rw [← mul_assoc, mul_comm y]

/-- The digits of a packed place. -/
theorem digits {J q b s l : ℕ} (hq : q < 128) (hb : b < 16) (hs : s < 16) (hl : l < 128) :
    ((((J * 128 + q) * 16 + b) * 16 + s) * 128 + l) / 4194304 = J ∧ ((((J * 128 + q) * 16 + b) * 16 + s) * 128 + l) / 32768 % 128 = q
      ∧ ((((J * 128 + q) * 16 + b) * 16 + s) * 128 + l) % 32768 = 2048 * b + 128 * s + l := by
  refine ⟨?_, ?_, ?_⟩ <;> omega

/-- The S5 output, unpacked. -/
theorem v2_at (x2) (R : Fin 32768) (j : Fin 512) : val_main_v2 (F := Ideal) x2 (ix2 R j) = Cert.Mix.packedAt x2 R j := by
  refine (val_main_v2_apply x2 _).trans ((val_main_v1_apply x2 _).trans ((val_main_v0_apply x2 _).trans (congrArg x2 ?_)))
  have hR : R.val < 32768 := R.isLt
  have hj : j.val < 512 := j.isLt
  have e0 : (R.val * 512 + j.val) / 128 % 4 = j.val / 128 := by omega
  have e1 : (R.val * 512 + j.val) / 8192 % 128 = R.val % 2048 / 16 := by omega
  have e2 : (R.val * 512 + j.val) / 1048576 = R.val / 2048 := by omega
  have e3 : (R.val * 512 + j.val) / 512 % 16 = R.val % 16 := by omega
  have e4 : (R.val * 512 + j.val) % 128 = j.val % 128 := by omega
  obtain ⟨d0, d1, d2⟩ := digits (J := j.val / 128) (q := R.val % 2048 / 16) (b := R.val / 2048) (s := R.val % 16) (l := j.val % 128)
    (by omega) (by omega) (by omega) (by omega)
  funext a
  refine Fin.ext ?_
  match a with
  | ⟨0, _⟩ =>
    show ((((((R.val * 512 + j.val) / 128 % 4) * 128 + (R.val * 512 + j.val) / 8192 % 128) * 16 + (R.val * 512 + j.val) / 1048576) * 16
      + (R.val * 512 + j.val) / 512 % 16) * 128 + (R.val * 512 + j.val) % 128) / 4194304 = j.val / 128
    rw [e0, e1, e2, e3, e4, d0]
  | ⟨1, _⟩ =>
    show ((((((R.val * 512 + j.val) / 128 % 4) * 128 + (R.val * 512 + j.val) / 8192 % 128) * 16 + (R.val * 512 + j.val) / 1048576) * 16
      + (R.val * 512 + j.val) / 512 % 16) * 128 + (R.val * 512 + j.val) % 128) / 32768 % 128 = R.val % 2048 / 16
    rw [e0, e1, e2, e3, e4, d1]
  | ⟨2, _⟩ =>
    show ((((((R.val * 512 + j.val) / 128 % 4) * 128 + (R.val * 512 + j.val) / 8192 % 128) * 16 + (R.val * 512 + j.val) / 1048576) * 16
      + (R.val * 512 + j.val) / 512 % 16) * 128 + (R.val * 512 + j.val) % 128) % 32768 = 2048 * (R.val / 2048) + 128 * (R.val % 16) + j.val % 128
    rw [e0, e1, e2, e3, e4, d2]

/-- The skip gains in every row. -/
theorem v5_at (x4) (R : Fin 32768) (j : Fin 512) : val_main_v5 (F := Ideal) x4 (ix2 R j) = x4 (ix2 0 j) := by
  refine (val_main_v5_apply x4 _).trans ((val_main_v4_apply x4 _).trans ((val_main_v3_apply x4 _).trans (congrArg x4 ?_)))
  funext a
  match a with
  | ⟨0, _⟩ => rfl
  | ⟨1, _⟩ => exact Fin.ext (by show j.val % 512 = j.val; omega)

/-- The gate's bias in every row. -/
theorem v25_at (x6) (R : Fin 32768) (j : Fin 512) : val_main_v25 (F := Ideal) x6 (ix2 R j) = x6 (ix2 0 j) := by
  refine (val_main_v25_apply x6 _).trans ((val_main_v24_apply x6 _).trans ((val_main_v23_apply x6 _).trans (congrArg x6 ?_)))
  funext a
  match a with
  | ⟨0, _⟩ => rfl
  | ⟨1, _⟩ => exact Fin.ext (by show j.val % 512 = j.val; omega)

/-- The S5 output plus the skip term, activated. -/
theorem v20_at (x2 x3 x4) (R : Fin 32768) (j : Fin 512) : val_main_v20 (F := Ideal) x2 x3 x4 (ix2 R j)
    = Cert.Mix.state (Cert.Mix.packedAt x2 R) (fun i => x4 (ix2 0 i)) (fun i => x3 (ix2 R i)) j := by
  have e7 : val_main_v7 (F := Ideal) x2 x3 x4 (ix2 R j) = Cert.Mix.packedAt x2 R j + x4 (ix2 0 j) * x3 (ix2 R j) :=
    congrArg₂ (fun a b : EReal => a + b * x3 (ix2 R j)) (v2_at x2 R j) (v5_at x4 R j)
  unfold Cert.Mix.state
  rw [← gelu_comm, ← e7]
  rw [val_main_v20_apply, val_main_v19_apply, val_main_v18_apply, val_main_v17_apply, val_main_v16_apply, val_main_v15_apply, val_main_v14_apply,
    val_main_v13_apply, val_main_v12_apply, val_main_v11_apply, val_main_v10_apply, val_main_v9_apply, val_main_v8_apply]
  rfl

/-- The gate's matrix. -/
theorem v21_at (x5) (k j : Fin 512) : val_main_v21 (F := Ideal) x5 (ix2 k j) = x5 (ix3 0 k j) := by
  unfold val_main_v21
  pointwise

theorem v32_eq (x2 x3 x4 x5 x6) : val_main_v32 (F := Ideal) x2 x3 x4 x5 x6 = Cert.Ffn.hostLogistic (val_main_v26 (F := Ideal) x2 x3 x4 x5 x6) := rfl

/-- The gated S5 output. -/
theorem v33_at (x2 x3 x4 x5 x6) (R : Fin 32768) (j : Fin 512) : val_main_v33 (F := Ideal) x2 x3 x4 x5 x6 (ix2 R j)
    = Cert.Mix.gate (Cert.Mix.state (Cert.Mix.packedAt x2 R) (fun i => x4 (ix2 0 i)) (fun i => x3 (ix2 R i))) (fun k i => x5 (ix3 0 k i)) (fun i => x6 (ix2 0 i)) j := by
  rw [val_main_v33_apply, v32_eq, Cert.Ffn.hostLogistic_apply, val_main_v26_apply, v25_at, v20_at]
  have e := Cert.Ffn.hostProduct_apply (φ₁ := .f32) (φ₂ := .f32) (val_main_v20 (F := Ideal) x2 x3 x4) (val_main_v21 (F := Ideal) x5) R j
  simp only [v20_at, v21_at] at e
  exact congrArg (fun z : EReal => _ * Ideal.logistic (z + x6 (ix2 0 j))) e

/-- The output matrix. -/
theorem v36_at (x7) (k j : Fin 1024) : val_main_v36 (F := Ideal) x7 (ix2 k j) = x7 (ix3 0 k j) := by
  unfold val_main_v36
  pointwise

/-- The first half of a joined row is the convolution's output. -/
theorem v35_left (x1 x2 x3 x4 x5 x6) (R : Fin 32768) (i : Fin 512) : val_main_v35 (F := Ideal) x1 x2 x3 x4 x5 x6 (ix2 R (Fin.castAdd 512 i : Fin 1024)) = x1 (ix2 R i) := by
  unfold val_main_v35
  generalize val_main_v33 (F := Ideal) x2 x3 x4 x5 x6 = y
  exact concatenate_pair_apply_left (s₁ := S32768x512) (s₂ := S32768x512) 1 (val_main_v34 (F := Ideal) x1) y _ (ix2 R (Fin.castAdd 512 i : Fin 1024)) rfl (ix2 R i)
    (fun b => match b with | ⟨0, _⟩ => rfl | ⟨1, _⟩ => rfl)

/-- The second half of a joined row is the gated S5 output. -/
theorem v35_right (x1 x2 x3 x4 x5 x6) (R : Fin 32768) (i : Fin 512) : val_main_v35 (F := Ideal) x1 x2 x3 x4 x5 x6 (ix2 R (Fin.natAdd 512 i : Fin 1024))
    = val_main_v33 (F := Ideal) x2 x3 x4 x5 x6 (ix2 R i) := by
  unfold val_main_v35
  generalize val_main_v33 (F := Ideal) x2 x3 x4 x5 x6 = y
  refine concatenate_pair_apply_right (s₁ := S32768x512) (s₂ := S32768x512) 1 (val_main_v34 (F := Ideal) x1) y _ (ix2 R (Fin.natAdd 512 i : Fin 1024)) rfl rfl (ix2 R i)
    (fun b hb => ?_) ?_
  · match b with
    | ⟨0, _⟩ => rfl
    | ⟨1, _⟩ => exact absurd rfl hb
  · show i.val + 512 = 512 + i.val
    omega

/-- The rows with the convolution's and the S5 part. -/
theorem v38_at (x0 x1 x2 x3 x4 x5 x6 x7) (R : Fin 32768) (k : Fin 1024) : val_main_v38 (F := Ideal) x0 x1 x2 x3 x4 x5 x6 x7 (ix2 R k)
    = Cert.Mix.mixed (fun k => x0 (ix2 R k)) (fun i => x1 (ix2 R i)) (Cert.Mix.packedAt x2 R) (fun i => x4 (ix2 0 i)) (fun i => x3 (ix2 R i))
      (fun k i => x5 (ix3 0 k i)) (fun i => x6 (ix2 0 i)) (fun i k => x7 (ix3 0 ⟨i.val, by omega⟩ k)) (fun i k => x7 (ix3 0 ⟨512 + i.val, by omega⟩ k)) k := by
  have e : val_main_v37 (F := Ideal) x1 x2 x3 x4 x5 x6 x7 (ix2 R k)
      = ∑ i : Fin (512 + 512), val_main_v35 (F := Ideal) x1 x2 x3 x4 x5 x6 (ix2 R i) * val_main_v36 (F := Ideal) x7 (ix2 i k) :=
    Cert.Ffn.hostProduct_apply (φ₁ := .f32) (φ₂ := .f32) (val_main_v35 (F := Ideal) x1 x2 x3 x4 x5 x6) (val_main_v36 (F := Ideal) x7) R k
  rw [Fin.sum_univ_add] at e
  simp only [v35_left, v35_right, v36_at, v33_at] at e
  unfold Cert.Mix.mixed
  rw [val_main_v38_apply, e]
  exact (add_assoc _ _ _).symm

theorem v40_at (x8) (k : Fin 1024) : val_main_v40 (F := Ideal) x8 (ix1 k) = x8 (ix3 0 1 k) := by
  unfold val_main_v40 val_main_v39
  pointwise

theorem v55_at (x9) (k : Fin 1024) (f : Fin 2816) : val_main_v55 (F := Ideal) x9 (ix2 k f) = x9 (ix4 0 1 k f) := by
  unfold val_main_v55 val_main_v54
  pointwise

theorem v57_at (x10) (k : Fin 1024) (f : Fin 2816) : val_main_v57 (F := Ideal) x10 (ix2 k f) = x10 (ix4 0 1 k f) := by
  unfold val_main_v57 val_main_v56
  pointwise

theorem v59_at (x11) (f : Fin 2816) (k : Fin 1024) : val_main_v59 (F := Ideal) x11 (ix2 f k) = x11 (ix4 0 1 f k) := by
  unfold val_main_v59 val_main_v58
  pointwise

/-- The result is the rows so far, plus half of their feed-forward part. -/
theorem v67_eq (x0 x1 x2 x3 x4 x5 x6 x7 x8 x9 x10 x11) : val_main_v67 (F := Ideal) x0 x1 x2 x3 x4 x5 x6 x7 x8 x9 x10 x11
    = Cert.Ffn.hostHalf (val_main_v38 (F := Ideal) x0 x1 x2 x3 x4 x5 x6 x7) (val_main_v40 (F := Ideal) x8) (val_main_v55 (F := Ideal) x9) (val_main_v57 (F := Ideal) x10) (val_main_v59 (F := Ideal) x11) := rfl

/-- An entry of the result. -/
theorem v67_at (x0 x1 x2 x3 x4 x5 x6 x7 x8 x9 x10 x11) (R : Fin 32768) (k : Fin 1024) : val_main_v67 (F := Ideal) x0 x1 x2 x3 x4 x5 x6 x7 x8 x9 x10 x11 (ix2 R k)
    = Cert.Ffn.half (Cert.Mix.mixed (fun k => x0 (ix2 R k)) (fun i => x1 (ix2 R i)) (Cert.Mix.packedAt x2 R) (fun i => x4 (ix2 0 i)) (fun i => x3 (ix2 R i))
        (fun k i => x5 (ix3 0 k i)) (fun i => x6 (ix2 0 i)) (fun i k => x7 (ix3 0 ⟨i.val, by omega⟩ k)) (fun i k => x7 (ix3 0 ⟨512 + i.val, by omega⟩ k)))
      (fun k => x8 (ix3 0 1 k)) (fun k f => x9 (ix4 0 1 k f)) (fun k f => x10 (ix4 0 1 k f)) (fun f k => x11 (ix4 0 1 f k)) k := by
  rw [v67_eq]
  exact (Cert.Ffn.hostHalf_apply _ _ _ _ _ R k).trans (Cert.Ffn.half_congr (v38_at x0 x1 x2 x3 x4 x5 x6 x7 R) (v40_at x8) (v55_at x9) (v57_at x10) (v59_at x11) rfl)

end Cert.Reference5Ideal.Read

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Finite
public import proofs.«01_k».proof.Proof.Last
public import proofs.«01_k».proof.Proof.LastRef
public import proofs.«01_k».proof.Proof.Qkv
public import proofs.«01_k».proof.Proof.QkvRef
public import proofs.«01_k».proof.Proof.Plain
public import proofs.«01_k».proof.Proof.PlainRef
public import proofs.«01_k».proof.Proof.Mix
public import proofs.«01_k».proof.Proof.MixInKernel
public import proofs.«01_k».proof.Proof.MixInRef
public import proofs.«01_k».proof.Proof.MixKernel
public import proofs.«01_k».proof.Proof.MixRef
public import Idealize.ShloMosaic.Lib.Claim

@[expose] public section

set_option maxRecDepth 16384

noncomputable section

namespace Cert.Proof

open Idealize.ShloMosaic Idealize.ShloMosaic.TcCoe Idealize.SL.Sem

/-- The attention's reference terminates, leaves its arguments unchanged and every semaphore counter at zero. -/
theorem frame_reference : Cert.quiescent_ReferenceIdeal (hReferenceIdeal := Cert.ReferenceIdeal.Gen.facts) := fun m ρ _ =>
  (θ_run _ _ _).mono (fun _ h => ⟨fun c => ⟨(h c).2.1, (h c).2.2⟩, funext fun g => nomatch g.2⟩) (Cert.ReferenceIdeal.Value.run m ρ)

/-- The attention's kernel and its reference return equal arrays. -/
theorem algebraic_attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 4 (Cert.KernelIdeal.cfgs 0).N, Cert.KernelIdeal.Value.run_blocks m g, ?_⟩
  refine (θ_run _ _ _).mono (fun r h c => ⟨(h c).1.trans ((Cert.ReferenceIdeal.Read.val_main_v117_eq _).trans ?_), (h c).2⟩) (Cert.ReferenceIdeal.Value.run m' g')
  obtain ⟨x, y, hx, hy⟩ := real_args _ _ (hpre c)
  have e0 : StableHlo.launchContents m' c (Proc.devRef .tc Cert.ReferenceIdeal.main_arg0) = _ := (hagree c).1
  have e1 : StableHlo.launchContents m' c (Proc.devRef .tc Cert.ReferenceIdeal.main_arg1) = _ := (hagree c).2
  rw [e0, e1]
  refine Eq.trans ?_ (Cert.KernelIdeal.Gen.final m x y c hx hy).symm
  funext j
  refine Eq.trans (congrArg _ (?_ : j = ix2 (j 0) (j 1))) ((Cert.ReferenceIdeal.Read.v117_at hx hy (j 0) (j 1)).trans ?_)
  · funext a; match a with | ⟨0, _⟩ => rfl | ⟨1, _⟩ => rfl
  · exact congrArg (fun z : ℝ => (z : EReal)) (attn_eq x y (j 0) (j 1))

/-- An index of a matrix is its row and its column. -/
theorem by_rows {a b : ℕ} (j : (Cert.Ffn.Mat a b).Idx) : j = ix2 (j 0) (j 1) := by
  funext d; match d with | ⟨0, _⟩ => rfl | ⟨1, _⟩ => rfl

/-- The reference of the last feed-forward call terminates and leaves its arguments unchanged. -/
theorem frame_reference2 : Cert.quiescent_Reference2Ideal (hReference2Ideal := Cert.Reference2Ideal.Gen.facts) := fun m ρ _ =>
  (θ_run _ _ _).mono (fun _ h => ⟨fun c => (h c).2, funext fun g => nomatch g.2⟩) (Cert.Reference2Ideal.Value.run m ρ)

/-- The last feed-forward call and its reference return equal arrays. -/
theorem algebraic_last : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 8 (Cert.Kernel2Ideal.cfgs 0).N, Cert.Kernel2Ideal.Value.run_blocks m g, ?_⟩
  refine (θ_run _ _ _).mono (fun r h c => ⟨(h c).1.trans ((Cert.Reference2Ideal.Read.val_main_v45_eq m' c).trans ?_), (h c).2⟩) (Cert.Reference2Ideal.Value.run m' g')
  obtain ⟨e0, e1, e2, e3, e4, e5, e6, e7⟩ := hagree c
  rw [e0, e1, e2, e3, e4, e5, e6, e7]
  refine Eq.trans ?_ (Cert.Kernel2Ideal.Gen.final m c).symm
  funext j
  exact (congrArg _ (by_rows j)).trans (Cert.Reference2Ideal.Read.v45_at _ _ _ _ _ _ _ _ (j 0) (j 1))

/-- The reference of the call before the attention terminates and leaves its arguments unchanged. -/
theorem frame_reference3 : Cert.quiescent_Reference3Ideal (hReference3Ideal := Cert.Reference3Ideal.Gen.facts) := fun m ρ _ =>
  (θ_run _ _ _).mono (fun _ h => ⟨fun c => (h c).2.2.2, funext fun g => nomatch g.2⟩) (Cert.Reference3Ideal.Value.run m ρ)

/-- The call before the attention and its reference return equal rows, projections and mean keys. -/
theorem algebraic_qkv : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 7 (Cert.Kernel3Ideal.cfgs 0).N, fun c => (Cert.Kernel3Ideal.Gen.dats m 0 c).arrAt 8 (Cert.Kernel3Ideal.cfgs 0).N,
    fun c => (Cert.Kernel3Ideal.Gen.dats m 0 c).arrAt 9 (Cert.Kernel3Ideal.cfgs 0).N, Cert.Kernel3Ideal.Value.run_blocks m g, ?_⟩
  refine (θ_run _ _ _).mono (fun r h c => ⟨(h c).1.trans ((Cert.Reference3Ideal.Read.val_main_v28_eq _ _ _ _ _).trans ?_),
    (h c).2.1.trans ((Cert.Reference3Ideal.Read.val_main_v48_eq m' c).trans ?_), (h c).2.2.1.trans ((Cert.Reference3Ideal.Read.val_main_v52_eq m' c).trans ?_),
    (h c).2.2.2⟩) (Cert.Reference3Ideal.Value.run m' g')
  all_goals
    obtain ⟨e0, e1, e2, e3, e4, e5, e6⟩ := hagree c
    rw [e0, e1, e2, e3, e4]
  · refine Eq.trans ?_ (Cert.Kernel3Ideal.Gen.final7 m c).symm
    funext j
    exact (congrArg _ (by_rows j)).trans (Cert.Reference3Ideal.Read.v28_at _ _ _ _ _ (j 0) (j 1))
  · rw [e5, e6]
    refine Eq.trans ?_ (Cert.Kernel3Ideal.Gen.final8 m c).symm
    funext j
    exact (congrArg _ (by_rows j)).trans (Cert.Reference3Ideal.Read.v48_at _ _ _ _ _ _ _ (j 0) (j 1))
  · rw [e5, e6]
    refine Eq.trans ?_ (Cert.Kernel3Ideal.Gen.final9 m c).symm
    funext j
    refine Eq.trans (congrArg _ (?_ : j = ix3 (j 0) 0 (j 2))) (Cert.Reference3Ideal.Read.v52_at _ _ _ _ _ _ _ (j 0) (j 2))
    funext d
    match d with
    | ⟨0, _⟩ => rfl
    | ⟨1, h⟩ => exact Fin.ext (by have : (j ⟨1, h⟩).val < 1 := (j ⟨1, h⟩).isLt; show (j ⟨1, h⟩).val = 0; omega)
    | ⟨2, _⟩ => rfl

/-- The reference of the first feed-forward call terminates and leaves its arguments unchanged. -/
theorem frame_reference4 : Cert.quiescent_Reference4Ideal (hReference4Ideal := Cert.Reference4Ideal.Gen.facts) := fun m ρ _ =>
  (θ_run _ _ _).mono (fun _ h => ⟨fun c => (h c).2, funext fun g => nomatch g.2⟩) (Cert.Reference4Ideal.Value.run m ρ)

/-- The first feed-forward call and its reference return equal arrays. -/
theorem algebraic_first : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 5 (Cert.Kernel4Ideal.cfgs 0).N, Cert.Kernel4Ideal.Value.run_blocks m g, ?_⟩
  refine (θ_run _ _ _).mono (fun r h c => ⟨(h c).1.trans ((Cert.Reference4Ideal.Read.val_main_v28_eq _ _ _ _ _).trans ?_), (h c).2⟩) (Cert.Reference4Ideal.Value.run m' g')
  obtain ⟨e0, e1, e2, e3, e4⟩ := hagree c
  rw [e0, e1, e2, e3, e4]
  refine Eq.trans ?_ (Cert.Kernel4Ideal.Gen.final m c).symm
  funext j
  exact (congrArg _ (by_rows j)).trans (Cert.Reference4Ideal.Read.v28_at _ _ _ _ _ (j 0) (j 1))

/-- The reference of the call after the S5 scan terminates and leaves its arguments unchanged. -/
theorem frame_reference5 : Cert.quiescent_Reference5Ideal (hReference5Ideal := Cert.Reference5Ideal.Gen.facts) := fun m ρ _ =>
  (θ_run _ _ _).mono (fun _ h => ⟨fun c => (h c).2, funext fun g => nomatch g.2⟩) (Cert.Reference5Ideal.Value.run m ρ)

/-- The call after the S5 scan and its reference return equal arrays. -/
theorem algebraic_mix : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 13 (Cert.Kernel5Ideal.cfgs 0).N, Cert.Kernel5Ideal.Value.run_blocks m g, ?_⟩
  refine (θ_run _ _ _).mono (fun r h c => ⟨(h c).1.trans ((Cert.Reference5Ideal.Read.val_main_v67_eq m' c).trans ?_), (h c).2⟩) (Cert.Reference5Ideal.Value.run m' g')
  obtain ⟨e0, e1, e2, e3, e4, e5, e6, e7, e8, e9, e10, e11⟩ := hagree c
  rw [e0, e1, e2, e3, e4, e5, e6, e7, e8, e9, e10, e11]
  refine Eq.trans ?_ (Cert.Kernel5Ideal.Gen.final m c).symm
  funext j
  exact (congrArg _ (by_rows j)).trans (Cert.Reference5Ideal.Read.v67_at _ _ _ _ _ _ _ _ _ _ _ _ (j 0) (j 1))

/-- The frame of the reference of the call before the S5 scan. -/
theorem frame_reference6 : Cert.quiescent_Reference6Ideal (hReference6Ideal := Cert.Reference6Ideal.Gen.facts) := fun m ρ _ =>
  (θ_run _ _ _).mono (fun _ h => ⟨fun c => (h c).2.2.2, funext fun g => nomatch g.2⟩) (Cert.Reference6Ideal.Value.run m ρ)

/-- The call before the S5 scan and its reference return equal arrays. -/
theorem algebraic_mix_in : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 7 (Cert.Kernel6Ideal.cfgs 0).N, fun c => (Cert.Kernel6Ideal.Gen.dats m 0 c).arrAt 8 (Cert.Kernel6Ideal.cfgs 0).N,
    fun c => (Cert.Kernel6Ideal.Gen.dats m 0 c).arrAt 9 (Cert.Kernel6Ideal.cfgs 0).N, Cert.Kernel6Ideal.Value.run_blocks m g, ?_⟩
  refine (θ_run _ _ _).mono (fun r h c => ⟨(h c).1.trans ((Cert.Reference6Ideal.Read.val_main_v279_eq (StableHlo.launchContents m' c)).trans ?_),
    (h c).2.1.trans ((Cert.Reference6Ideal.Read.val_main_v284_eq (StableHlo.launchContents m' c)).trans ?_), (h c).2.2.1.trans ((Cert.Reference6Ideal.Read.val_main_v283_eq (StableHlo.launchContents m' c)).trans ?_),
    (h c).2.2.2⟩) (Cert.Reference6Ideal.Value.run m' g')
  all_goals obtain ⟨e0, e1, e2, e3, e4, e5, e6⟩ := hagree c
  · show Cert.Reference6Ideal.Read.val_main_v279 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) = _
    rw [e0, e1, e2, e3, e4, e5, e6]
    refine Eq.trans ?_ (Cert.Kernel6Ideal.Gen.conv_final m c).symm
    funext j
    exact (congrArg _ (by_rows j)).trans (Cert.Reference6Ideal.Read.v279_at _ _ _ _ _ _ _ (j 0) (j 1))
  · show Cert.Reference6Ideal.Read.val_main_v284 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
    rw [e0, e1, e2]
    refine Eq.trans ?_ (Cert.Kernel6Ideal.Gen.state_final m c).symm
    funext j
    exact (congrArg _ (by_rows j)).trans (Cert.Reference6Ideal.Read.v284_at _ _ _ (j 0) (j 1))
  · show Cert.Reference6Ideal.Read.val_main_v283 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
    rw [e0, e1, e2]
    refine Eq.trans ?_ (Cert.Kernel6Ideal.Gen.packed_final m c).symm
    funext j
    refine Eq.trans (congrArg _ (?_ : j = ix3 (j 0) (j 1) (j 2))) (Cert.Reference6Ideal.Read.v283_at _ _ _ (j 0) (j 1) (j 2))
    funext d
    match d with
    | ⟨0, _⟩ => rfl
    | ⟨1, _⟩ => rfl
    | ⟨2, _⟩ => rfl

/-- All the claims: frames of the programs, what preserves asks, and the value claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    ⟨IdealRules.named_const.statement _ _ _ _ _ rfl, IdealRules.named_const.statement _ _ _ _ _ rfl⟩,
    algebraic_attention,
    trivial, algebraic_last,
    trivial, algebraic_qkv,
    trivial, algebraic_first,
    trivial, algebraic_mix,
    trivial, algebraic_mix_in⟩

end Cert.Proof

end
